-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "qscale" .f32 0x3DE995B3#32 (((Real.sqrt 160)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x18x160 : Shape := ⟨4, ![2, 1024, 18, 160]⟩
abbrev S2x1024x18 : Shape := ⟨3, ![2, 1024, 18]⟩
abbrev S2x18x160x1024 : Shape := ⟨4, ![2, 18, 160, 1024]⟩
abbrev S18x2x1024 : Shape := ⟨3, ![18, 2, 1024]⟩
abbrev S2x2880x1024 : Shape := ⟨3, ![2, 2880, 1024]⟩
abbrev S1x4x160x1024 : Shape := ⟨4, ![1, 4, 160, 1024]⟩
abbrev S4x2x1024 : Shape := ⟨3, ![4, 2, 1024]⟩
abbrev S1x640x1024 : Shape := ⟨3, ![1, 640, 1024]⟩
abbrev S256x1024 : Shape := ⟨2, ![256, 1024]⟩
abbrev S1x1024 : Shape := ⟨2, ![1, 1024]⟩
abbrev S1x1x1024 : Shape := ⟨3, ![1, 1, 1024]⟩
abbrev S160x1024 : Shape := ⟨2, ![160, 1024]⟩
abbrev S1x1x160x1024 : Shape := ⟨4, ![1, 1, 160, 1024]⟩
abbrev S160x128 : Shape := ⟨2, ![160, 128]⟩
abbrev S160x128x1 : Shape := ⟨3, ![160, 128, 1]⟩
abbrev S160x256 : Shape := ⟨2, ![160, 256]⟩
abbrev S8x128 : Shape := ⟨2, ![8, 128]⟩
abbrev S1x128 : Shape := ⟨2, ![1, 128]⟩
abbrev S8x128x1 : Shape := ⟨3, ![8, 128, 1]⟩
abbrev S128 : Shape := ⟨1, ![128]⟩
abbrev S1x256 : Shape := ⟨2, ![1, 256]⟩
abbrev S8x1024 : Shape := ⟨2, ![8, 1024]⟩
abbrev S1024x8 : Shape := ⟨2, ![1024, 8]⟩
abbrev S1024x1 : Shape := ⟨2, ![1024, 1]⟩
abbrev S128x128 : Shape := ⟨2, ![128, 128]⟩
abbrev S1x1x160x256 : Shape := ⟨4, ![1, 1, 160, 256]⟩
abbrev S256x256 : Shape := ⟨2, ![256, 256]⟩
abbrev S256x1 : Shape := ⟨2, ![256, 1]⟩
abbrev S128x1 : Shape := ⟨2, ![128, 1]⟩
abbrev S256x128 : Shape := ⟨2, ![256, 128]⟩
abbrev S32x128 : Shape := ⟨2, ![32, 128]⟩
abbrev S64x128 : Shape := ⟨2, ![64, 128]⟩
abbrev S128x256 : Shape := ⟨2, ![128, 256]⟩
abbrev S1x160x256 : Shape := ⟨3, ![1, 160, 256]⟩
abbrev S1x1x256 : Shape := ⟨3, ![1, 1, 256]⟩
abbrev S96x128 : Shape := ⟨2, ![96, 128]⟩
abbrev S192x128 : Shape := ⟨2, ![192, 128]⟩
abbrev S224x128 : Shape := ⟨2, ![224, 128]⟩

abbrev nBuf : Space → Nat
  | .hbm => 14
  | .vmem => 18
  | .smem => 0
  | _ => 0

abbrev bufTy : (tb : Table) → Fin (tcTables nBuf tb) → BufTy
  | .hbm, ⟨0, _⟩ => ⟨S2x1024x18x160, .fp8e4m3⟩
  | .hbm, ⟨1, _⟩ => ⟨S2x1024x18x160, .fp8e4m3⟩
  | .hbm, ⟨2, _⟩ => ⟨S2x1024x18x160, .fp8e4m3⟩
  | .hbm, ⟨3, _⟩ => ⟨S2x1024x18, .f32⟩
  | .hbm, ⟨4, _⟩ => ⟨S2x1024x18, .f32⟩
  | .hbm, ⟨5, _⟩ => ⟨S2x1024x18, .f32⟩
  | .hbm, ⟨6, _⟩ => ⟨S2x18x160x1024, .fp8e4m3⟩
  | .hbm, ⟨7, _⟩ => ⟨S2x18x160x1024, .fp8e4m3⟩
  | .hbm, ⟨8, _⟩ => ⟨S2x18x160x1024, .fp8e4m3⟩
  | .hbm, ⟨9, _⟩ => ⟨S18x2x1024, .f32⟩
  | .hbm, ⟨10, _⟩ => ⟨S18x2x1024, .f32⟩
  | .hbm, ⟨11, _⟩ => ⟨S18x2x1024, .f32⟩
  | .hbm, ⟨12, _⟩ => ⟨S2x2880x1024, .bf16⟩
  | .hbm, ⟨13, _⟩ => ⟨S18x2x1024, .f32⟩
  | .local _ .vmem, ⟨0, _⟩ => ⟨S1x4x160x1024, .fp8e4m3⟩
  | .local _ .vmem, ⟨1, _⟩ => ⟨S1x4x160x1024, .fp8e4m3⟩
  | .local _ .vmem, ⟨2, _⟩ => ⟨S1x4x160x1024, .fp8e4m3⟩
  | .local _ .vmem, ⟨3, _⟩ => ⟨S1x4x160x1024, .fp8e4m3⟩
  | .local _ .vmem, ⟨4, _⟩ => ⟨S1x4x160x1024, .fp8e4m3⟩
  | .local _ .vmem, ⟨5, _⟩ => ⟨S1x4x160x1024, .fp8e4m3⟩
  | .local _ .vmem, ⟨6, _⟩ => ⟨S4x2x1024, .f32⟩
  | .local _ .vmem, ⟨7, _⟩ => ⟨S4x2x1024, .f32⟩
  | .local _ .vmem, ⟨8, _⟩ => ⟨S4x2x1024, .f32⟩
  | .local _ .vmem, ⟨9, _⟩ => ⟨S4x2x1024, .f32⟩
  | .local _ .vmem, ⟨10, _⟩ => ⟨S4x2x1024, .f32⟩
  | .local _ .vmem, ⟨11, _⟩ => ⟨S4x2x1024, .f32⟩
  | .local _ .vmem, ⟨12, _⟩ => ⟨S1x640x1024, .bf16⟩
  | .local _ .vmem, ⟨13, _⟩ => ⟨S1x640x1024, .bf16⟩
  | .local _ .vmem, ⟨14, _⟩ => ⟨S4x2x1024, .f32⟩
  | .local _ .vmem, ⟨15, _⟩ => ⟨S4x2x1024, .f32⟩
  | .local _ .vmem, ⟨16, _⟩ => ⟨S256x1024, .f32⟩
  | .local _ .vmem, ⟨17, _⟩ => ⟨S256x1024, .bf16⟩
  | _, _ => ⟨S2x1024x18x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 2], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let c0 : Index := 0#32
  let arg1 : BitVec 32 := BitVec.ofNat 32 (i 1).val
  let v33 : Index := Scalar.indexCast arg1
  let c0_13 : Index := 0#32
  ![0, v33.toNat, 0]
def k0_off2 (i : grid0.Coords) : Fin 3 → Nat :=
  let c1 : Index := 1#32
  let arg1 : BitVec 32 := BitVec.ofNat 32 (i 1).val
  let v38 : Index := Scalar.indexCast arg1
  let c0_14 : Index := 0#32
  ![1, v38.toNat, 0]
def k0_off3 (i : grid0.Coords) : Fin 3 → Nat :=
  let c2 : Index := 2#32
  let arg1 : BitVec 32 := BitVec.ofNat 32 (i 1).val
  let v43 : Index := Scalar.indexCast arg1
  let c0_16 : Index := 0#32
  ![2, v43.toNat, 0]
def k0_off4 (i : grid0.Coords) : Fin 3 → Nat :=
  let c3 : Index := 3#32
  let arg1 : BitVec 32 := BitVec.ofNat 32 (i 1).val
  let v48 : Index := Scalar.indexCast arg1
  let c0_18 : Index := 0#32
  ![3, v48.toNat, 0]
def k0_off5 (i : grid0.Coords) : Fin 3 → Nat :=
  let c0_3349 : Index := 0#32
  let arg1 : BitVec 32 := BitVec.ofNat 32 (i 1).val
  let v10883 : Index := Scalar.indexCast arg1
  let c0_3350 : Index := 0#32
  ![0, v10883.toNat, 0]
def k0_off6 (i : grid0.Coords) : Fin 3 → Nat :=
  let c1_3368 : Index := 1#32
  let arg1 : BitVec 32 := BitVec.ofNat 32 (i 1).val
  let v10935 : Index := Scalar.indexCast arg1
  let c0_3369 : Index := 0#32
  ![1, v10935.toNat, 0]
def k0_off7 (i : grid0.Coords) : Fin 3 → Nat :=
  let c2_3386 : Index := 2#32
  let arg1 : BitVec 32 := BitVec.ofNat 32 (i 1).val
  let v10987 : Index := Scalar.indexCast arg1
  let c0_3387 : Index := 0#32
  ![2, v10987.toNat, 0]
def k0_off8 (i : grid0.Coords) : Fin 3 → Nat :=
  let c3_3404 : Index := 3#32
  let arg1 : BitVec 32 := BitVec.ofNat 32 (i 1).val
  let v11039 : Index := Scalar.indexCast arg1
  let c0_3405 : Index := 0#32
  ![3, v11039.toNat, 0]
def k0_off9 (i : grid0.Coords) : Fin 3 → Nat :=
  let c0_3519 : Index := 0#32
  let arg1 : BitVec 32 := BitVec.ofNat 32 (i 1).val
  let v11373 : Index := Scalar.indexCast arg1
  let c256_3520 : Index := 256#32
  ![0, v11373.toNat, 256]
def k0_off10 (i : grid0.Coords) : Fin 3 → Nat :=
  let c1_3538 : Index := 1#32
  let arg1 : BitVec 32 := BitVec.ofNat 32 (i 1).val
  let v11425 : Index := Scalar.indexCast arg1
  let c256_3539 : Index := 256#32
  ![1, v11425.toNat, 256]
def k0_off11 (i : grid0.Coords) : Fin 3 → Nat :=
  let c2_3557 : Index := 2#32
  let arg1 : BitVec 32 := BitVec.ofNat 32 (i 1).val
  let v11477 : Index := Scalar.indexCast arg1
  let c256_3558 : Index := 256#32
  ![2, v11477.toNat, 256]
def k0_off12 (i : grid0.Coords) : Fin 3 → Nat :=
  let c3_3576 : Index := 3#32
  let arg1 : BitVec 32 := BitVec.ofNat 32 (i 1).val
  let v11529 : Index := Scalar.indexCast arg1
  let c256_3577 : Index := 256#32
  ![3, v11529.toNat, 256]
def k0_off13 (i : grid0.Coords) : Fin 3 → Nat :=
  let c0_3691 : Index := 0#32
  let arg1 : BitVec 32 := BitVec.ofNat 32 (i 1).val
  let v11862 : Index := Scalar.indexCast arg1
  let c512_3692 : Index := 512#32
  ![0, v11862.toNat, 512]
def k0_off14 (i : grid0.Coords) : Fin 3 → Nat :=
  let c1_3710 : Index := 1#32
  let arg1 : BitVec 32 := BitVec.ofNat 32 (i 1).val
  let v11913 : Index := Scalar.indexCast arg1
  let c512_3711 : Index := 512#32
  ![1, v11913.toNat, 512]
def k0_off15 (i : grid0.Coords) : Fin 3 → Nat :=
  let c2_3729 : Index := 2#32
  let arg1 : BitVec 32 := BitVec.ofNat 32 (i 1).val
  let v11964 : Index := Scalar.indexCast arg1
  let c512_3730 : Index := 512#32
  ![2, v11964.toNat, 512]
def k0_off16 (i : grid0.Coords) : Fin 3 → Nat :=
  let c3_3748 : Index := 3#32
  let arg1 : BitVec 32 := BitVec.ofNat 32 (i 1).val
  let v12015 : Index := Scalar.indexCast arg1
  let c512_3749 : Index := 512#32
  ![3, v12015.toNat, 512]
def k0_off17 (i : grid0.Coords) : Fin 3 → Nat :=
  let c0_3863 : Index := 0#32
  let arg1 : BitVec 32 := BitVec.ofNat 32 (i 1).val
  let v12348 : Index := Scalar.indexCast arg1
  let c768_3864 : Index := 768#32
  ![0, v12348.toNat, 768]
def k0_off18 (i : grid0.Coords) : Fin 3 → Nat :=
  let c1_3882 : Index := 1#32
  let arg1 : BitVec 32 := BitVec.ofNat 32 (i 1).val
  let v12399 : Index := Scalar.indexCast arg1
  let c768_3883 : Index := 768#32
  ![1, v12399.toNat, 768]
def k0_off19 (i : grid0.Coords) : Fin 3 → Nat :=
  let c2_3901 : Index := 2#32
  let arg1 : BitVec 32 := BitVec.ofNat 32 (i 1).val
  let v12450 : Index := Scalar.indexCast arg1
  let c768_3902 : Index := 768#32
  ![2, v12450.toNat, 768]
def k0_off20 (i : grid0.Coords) : Fin 3 → Nat :=
  let c3_3920 : Index := 3#32
  let arg1 : BitVec 32 := BitVec.ofNat 32 (i 1).val
  let v12501 : Index := Scalar.indexCast arg1
  let c768_3921 : Index := 768#32
  ![3, v12501.toNat, 768]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

def k0_off21 (i : grid0.Coords) : Fin 3 → Nat :=
  let c0 : Index := 0#32
  let arg1 : BitVec 32 := BitVec.ofNat 32 (i 1).val
  let v23 : Index := Scalar.indexCast arg1
  let c0_7 : Index := 0#32
  ![0, v23.toNat, 0]
def k0_off22 (i : grid0.Coords) : Fin 3 → Nat :=
  let c1 : Index := 1#32
  let arg1 : BitVec 32 := BitVec.ofNat 32 (i 1).val
  let v28 : Index := Scalar.indexCast arg1
  let c0_8 : Index := 0#32
  ![1, v28.toNat, 0]
def k0_off23 (i : grid0.Coords) : Fin 3 → Nat :=
  let c0_2847 : Index := 0#32
  let arg1 : BitVec 32 := BitVec.ofNat 32 (i 1).val
  let v9275 : Index := Scalar.indexCast arg1
  let c0_2848 : Index := 0#32
  ![0, v9275.toNat, 0]
def k0_off24 (i : grid0.Coords) : Fin 3 → Nat :=
  let c1_2866 : Index := 1#32
  let arg1 : BitVec 32 := BitVec.ofNat 32 (i 1).val
  let v9327 : Index := Scalar.indexCast arg1
  let c0_2867 : Index := 0#32
  ![1, v9327.toNat, 0]
def k0_off25 (i : grid0.Coords) : Fin 3 → Nat :=
  let c0_2941 : Index := 0#32
  let arg1 : BitVec 32 := BitVec.ofNat 32 (i 1).val
  let v9535 : Index := Scalar.indexCast arg1
  let c256_2942 : Index := 256#32
  ![0, v9535.toNat, 256]
def k0_off26 (i : grid0.Coords) : Fin 3 → Nat :=
  let c1_2960 : Index := 1#32
  let arg1 : BitVec 32 := BitVec.ofNat 32 (i 1).val
  let v9587 : Index := Scalar.indexCast arg1
  let c256_2961 : Index := 256#32
  ![1, v9587.toNat, 256]
def k0_off27 (i : grid0.Coords) : Fin 3 → Nat :=
  let c0_3035 : Index := 0#32
  let arg1 : BitVec 32 := BitVec.ofNat 32 (i 1).val
  let v9794 : Index := Scalar.indexCast arg1
  let c512_3036 : Index := 512#32
  ![0, v9794.toNat, 512]
def k0_off28 (i : grid0.Coords) : Fin 3 → Nat :=
  let c1_3054 : Index := 1#32
  let arg1 : BitVec 32 := BitVec.ofNat 32 (i 1).val
  let v9845 : Index := Scalar.indexCast arg1
  let c512_3055 : Index := 512#32
  ![1, v9845.toNat, 512]
def k0_off29 (i : grid0.Coords) : Fin 3 → Nat :=
  let c0_3129 : Index := 0#32
  let arg1 : BitVec 32 := BitVec.ofNat 32 (i 1).val
  let v10052 : Index := Scalar.indexCast arg1
  let c768_3130 : Index := 768#32
  ![0, v10052.toNat, 768]
def k0_off30 (i : grid0.Coords) : Fin 3 → Nat :=
  let c1_3148 : Index := 1#32
  let arg1 : BitVec 32 := BitVec.ofNat 32 (i 1).val
  let v10103 : Index := Scalar.indexCast arg1
  let c768_3149 : Index := 768#32
  ![1, v10103.toNat, 768]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x160x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x160x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x160x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "qscale" => some (((Real.sqrt 160)⁻¹ * (Real.log 2)⁻¹ : ℝ) : EReal)
  | _ => none
-- ==== ReferenceIdeal.lean ====
abbrev S2x1024x18x160 : Shape := ⟨4, ![2, 1024, 18, 160]⟩
abbrev S2x1024x18 : Shape := ⟨3, ![2, 1024, 18]⟩
abbrev S2x18x1024x160 : Shape := ⟨4, ![2, 18, 1024, 160]⟩
abbrev S2x18x1024 : Shape := ⟨3, ![2, 18, 1024]⟩
abbrev S2x2880x1024 : Shape := ⟨3, ![2, 2880, 1024]⟩
abbrev S18x2x1024 : Shape := ⟨3, ![18, 2, 1024]⟩
abbrev S36x1024x160 : Shape := ⟨3, ![36, 1024, 160]⟩
abbrev S36x1024x1 : Shape := ⟨3, ![36, 1024, 1]⟩
abbrev S36x1x1024 : Shape := ⟨3, ![36, 1, 1024]⟩
abbrev S36x1024x1024 : Shape := ⟨3, ![36, 1024, 1024]⟩
abbrev S36x1024 : Shape := ⟨2, ![36, 1024]⟩
abbrev S36x160x1024 : Shape := ⟨3, ![36, 160, 1024]⟩

abbrev nBuf : Space → Nat
  | .hbm => 14
  | .vmem => 8
  | .smem => 0
  | _ => 0

abbrev bufTy : (tb : Table) → Fin (tcTables nBuf tb) → BufTy
  | .hbm, ⟨0, _⟩ => ⟨S2x1024x18x160, .fp8e4m3⟩
  | .hbm, ⟨1, _⟩ => ⟨S2x1024x18x160, .fp8e4m3⟩
  | .hbm, ⟨2, _⟩ => ⟨S2x1024x18x160, .fp8e4m3⟩
  | .hbm, ⟨3, _⟩ => ⟨S2x1024x18, .f32⟩
  | .hbm, ⟨4, _⟩ => ⟨S2x1024x18, .f32⟩
  | .hbm, ⟨5, _⟩ => ⟨S2x1024x18, .f32⟩
  | .hbm, ⟨6, _⟩ => ⟨S2x18x1024x160, .fp8e4m3⟩
  | .hbm, ⟨7, _⟩ => ⟨S2x18x1024x160, .fp8e4m3⟩
  | .hbm, ⟨8, _⟩ => ⟨S2x18x1024x160, .fp8e4m3⟩
  | .hbm, ⟨9, _⟩ => ⟨S2x18x1024, .f32⟩
  | .hbm, ⟨10, _⟩ => ⟨S2x18x1024, .f32⟩
  | .hbm, ⟨11, _⟩ => ⟨S2x18x1024, .f32⟩
  | .hbm, ⟨12, _⟩ => ⟨S2x2880x1024, .bf16⟩
  | .hbm, ⟨13, _⟩ => ⟨S18x2x1024, .f32⟩
  | .local _ .vmem, ⟨0, _⟩ => ⟨S2x18x1024x160, .fp8e4m3⟩
  | .local _ .vmem, ⟨1, _⟩ => ⟨S2x18x1024x160, .fp8e4m3⟩
  | .local _ .vmem, ⟨2, _⟩ => ⟨S2x18x1024x160, .fp8e4m3⟩
  | .local _ .vmem, ⟨3, _⟩ => ⟨S2x18x1024, .f32⟩
  | .local _ .vmem, ⟨4, _⟩ => ⟨S2x18x1024, .f32⟩
  | .local _ .vmem, ⟨5, _⟩ => ⟨S2x18x1024, .f32⟩
  | .local _ .vmem, ⟨6, _⟩ => ⟨S2x2880x1024, .bf16⟩
  | .local _ .vmem, ⟨7, _⟩ => ⟨S18x2x1024, .f32⟩
  | _, _ => ⟨S2x1024x18x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "sm_scale" => some (((Real.sqrt 160)⁻¹ : ℝ) : EReal)
  | _ => none

abbrev grid0 : Pipeline.Grid := .none

abbrev stage0_0 : Fin 1 → Memref sig .tc .vmem S2x18x1024x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x18x1024x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x18x1024x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x18x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x18x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x18x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2880x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BitsBuf.lean ====
/- The buffers the attention kernel's body runs on. -/
module

public import proofs.«01_k».proof.Proof.Gen.Kernel
public import proofs.«01_k».proof.Proof.Gen.Kernel.Skeleton
public import proofs.«01_k».proof.Proof.Gen.Kernel.Launch
public import Idealize.ShloMosaic.Lib.Tactic

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Kernel.Hand

end
-- ==== Proof.BitsFull.lean ====
/- The body of the attention kernel run once at a symbolic grid point, on the steps that hold four heads. -/
module

public import proofs.«01_k».proof.Proof.Gen.Kernel
public import proofs.«01_k».proof.Proof.Gen.Kernel.Skeleton
public import proofs.«01_k».proof.Proof.Gen.Kernel.Launch
public import Idealize.ShloMosaic.Lib.Tactic
public import proofs.«01_k».proof.Proof.BitsBuf

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- On a step of four heads: what the body leaves in the two results' buffers, with the proof that it runs. -/
noncomputable def runFull (c : Dev nD) (i : grid0.Coords) (hc : k0_cond1 i = 1#1) (hc2 : ¬ (k0_cond2 i = 1#1))
    (M2 : Memref sig .tc .vmem S1x4x160x1024 .fp8e4m3) (h2 : M2.IsWhole) (M3 : Memref sig .tc .vmem S1x4x160x1024 .fp8e4m3) (h3 : M3.IsWhole)
    (M4 : Memref sig .tc .vmem S1x4x160x1024 .fp8e4m3) (h4 : M4.IsWhole) (M5 : Memref sig .tc .vmem S4x2x1024 .f32) (h5 : M5.IsWhole)
    (M6 : Memref sig .tc .vmem S4x2x1024 .f32) (h6 : M6.IsWhole) (M7 : Memref sig .tc .vmem S4x2x1024 .f32) (h7 : M7.IsWhole)
    (M8 : Memref sig .tc .vmem S1x640x1024 .bf16) (h8 : M8.IsWhole) (M9 : Memref sig .tc .vmem S4x2x1024 .f32) (h9 : M9.IsWhole)
    (M10 : Memref sig .tc .vmem S256x1024 .f32) (h10 : M10.IsWhole) (M11 : Memref sig .tc .vmem S256x1024 .bf16) (h11 : M11.IsWhole)
    (f2 : Bf (F := F) c M2) (f3 : Bf (F := F) c M3) (f4 : Bf (F := F) c M4) (f5 : Bf (F := F) c M5) (f6 : Bf (F := F) c M6) (f7 : Bf (F := F) c M7)
    (f9 : Bf (F := F) c M9) :
    { W : Bf (F := F) c M8 × Bf (F := F) c M9 //
      ∀ (f8 : Bf (F := F) c M8) (f10 : Bf (F := F) c M10) (f11 : Bf (F := F) c M11) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M2 f2 ∗ pt c M3 f3 ∗ pt c M4 f4 ∗ pt c M5 f5 ∗ pt c M6 f6 ∗ pt c M7 f7 ∗ pt c M8 W.1 ∗ pt c M9 W.2
                ∗ (∃ f, pt c M10 f) ∗ (∃ f, pt c M11 f)) -∗ Q ⟨⟩))
        ⊢ wp frame (wpE (defs₀ (F := F)) Variants.none c none) E
            (cc0_longnet_attention i M2 h2 M3 h3 M4 h4 M5 h5 M6 h6 M7 h7 M8 h8 M9 h9 M10 h10 M11 h11) Q } := by
  refine ⟨⟨?_, ?_⟩, fun f8 f10 f11 E Q => ?run⟩
  case run =>
    iintro ⟨H2, H3, H4, H5, H6, H7, H8, H9, H10, H11, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Kernel.Hand

end
-- ==== Proof.BitsTail.lean ====
/- The body of the attention kernel run once at a symbolic grid point, on the last steps, which hold two heads. -/
module

public import proofs.«01_k».proof.Proof.Gen.Kernel
public import proofs.«01_k».proof.Proof.Gen.Kernel.Skeleton
public import proofs.«01_k».proof.Proof.Gen.Kernel.Launch
public import Idealize.ShloMosaic.Lib.Tactic
public import proofs.«01_k».proof.Proof.BitsBuf

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- On a step of two heads: what the body leaves in the two results' buffers, with the proof that it runs. -/
noncomputable def runTail (c : Dev nD) (i : grid0.Coords) (hc : ¬ (k0_cond1 i = 1#1)) (hc2 : k0_cond2 i = 1#1)
    (M2 : Memref sig .tc .vmem S1x4x160x1024 .fp8e4m3) (h2 : M2.IsWhole) (M3 : Memref sig .tc .vmem S1x4x160x1024 .fp8e4m3) (h3 : M3.IsWhole)
    (M4 : Memref sig .tc .vmem S1x4x160x1024 .fp8e4m3) (h4 : M4.IsWhole) (M5 : Memref sig .tc .vmem S4x2x1024 .f32) (h5 : M5.IsWhole)
    (M6 : Memref sig .tc .vmem S4x2x1024 .f32) (h6 : M6.IsWhole) (M7 : Memref sig .tc .vmem S4x2x1024 .f32) (h7 : M7.IsWhole)
    (M8 : Memref sig .tc .vmem S1x640x1024 .bf16) (h8 : M8.IsWhole) (M9 : Memref sig .tc .vmem S4x2x1024 .f32) (h9 : M9.IsWhole)
    (M10 : Memref sig .tc .vmem S256x1024 .f32) (h10 : M10.IsWhole) (M11 : Memref sig .tc .vmem S256x1024 .bf16) (h11 : M11.IsWhole)
    (f2 : Bf (F := F) c M2) (f3 : Bf (F := F) c M3) (f4 : Bf (F := F) c M4) (f5 : Bf (F := F) c M5) (f6 : Bf (F := F) c M6) (f7 : Bf (F := F) c M7)
    (f8 : Bf (F := F) c M8) (f9 : Bf (F := F) c M9) :
    { W : Bf (F := F) c M8 × Bf (F := F) c M9 //
      ∀ (f10 : Bf (F := F) c M10) (f11 : Bf (F := F) c M11) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M2 f2 ∗ pt c M3 f3 ∗ pt c M4 f4 ∗ pt c M5 f5 ∗ pt c M6 f6 ∗ pt c M7 f7 ∗ pt c M8 W.1 ∗ pt c M9 W.2
                ∗ (∃ f, pt c M10 f) ∗ (∃ f, pt c M11 f)) -∗ Q ⟨⟩))
        ⊢ wp frame (wpE (defs₀ (F := F)) Variants.none c none) E
            (cc0_longnet_attention i M2 h2 M3 h3 M4 h4 M5 h5 M6 h6 M7 h7 M8 h8 M9 h9 M10 h10 M11 h11) Q } := by
  refine ⟨⟨?_, ?_⟩, fun f10 f11 E Q => ?run⟩
  case run =>
    iintro ⟨H2, H3, H4, H5, H6, H7, H8, H9, H10, H11, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Kernel.Hand

end
-- ==== Proof.BitsFrame.lean ====
/- The run of the whole attention kernel: what its body leaves at every grid point, and that every run ends with the arguments unchanged. -/
module

public import proofs.«01_k».proof.Proof.Gen.Kernel.Frame
public import proofs.«01_k».proof.Proof.Gen.Kernel.Points
public import proofs.«01_k».proof.Proof.BitsFull
public import proofs.«01_k».proof.Proof.BitsTail
public import Idealize.ShloMosaic.Lib.Claim

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a grid point takes -/

theorem full_iff : ∀ t : Fin cfg0.N, k0_cond1 (grid0.coords t) = 1#1 ↔ t.val < 8 := by decide +kernel
theorem tail_iff : ∀ t : Fin cfg0.N, k0_cond2 (grid0.coords t) = 1#1 ↔ 8 ≤ t.val := by decide +kernel

theorem not_tail (t : Fin cfg0.N) (h : k0_cond1 (grid0.coords t) = 1#1) : ¬ (k0_cond2 (grid0.coords t) = 1#1) := by
  rw [tail_iff]; rw [full_iff] at h; omega
theorem tail_of (t : Fin cfg0.N) (h : ¬ (k0_cond1 (grid0.coords t) = 1#1)) : k0_cond2 (grid0.coords t) = 1#1 := by
  rw [tail_iff]; rw [full_iff] at h; omega

/-! ## What the body leaves at a grid point -/

/-- The results' buffers after the body at point `t`, from what all the buffers held before. -/
def outs (c : Dev nD) (t : Fin cfg0.N) (f2 : Bf (F := F) c (st0_0 t)) (f3 : Bf (F := F) c (st0_1 t)) (f4 : Bf (F := F) c (st0_2 t))
    (f5 : Bf (F := F) c (st0_3 t)) (f6 : Bf (F := F) c (st0_4 t)) (f7 : Bf (F := F) c (st0_5 t)) (f8 : Bf (F := F) c (st0_6 t))
    (f9 : Bf (F := F) c (st0_7 t)) : Bf (F := F) c (st0_6 t) × Bf (F := F) c (st0_7 t) :=
  if h : k0_cond1 (grid0.coords t) = 1#1 then
    (runFull c (grid0.coords t) h (not_tail t h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      f2 f3 f4 f5 f6 f7 f9).1
  else
    (runTail c (grid0.coords t) h (tail_of t h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      f2 f3 f4 f5 f6 f7 f8 f9).1

/-- The body at any point leaves `outs`. -/
theorem run_at (c : Dev nD) (t : Fin cfg0.N) (f2 : Bf (F := F) c (st0_0 t)) (f3 : Bf (F := F) c (st0_1 t)) (f4 : Bf (F := F) c (st0_2 t))
    (f5 : Bf (F := F) c (st0_3 t)) (f6 : Bf (F := F) c (st0_4 t)) (f7 : Bf (F := F) c (st0_5 t)) (f8 : Bf (F := F) c (st0_6 t))
    (f9 : Bf (F := F) c (st0_7 t)) (f10 : Bf (F := F) c (Memref.whole cc0_scratch0)) (f11 : Bf (F := F) c (Memref.whole cc0_scratch1))
    (E : Set ℕ) (Q : PUnit → sProp 𝕄) :
    iprop(pt c (st0_0 t) f2 ∗ pt c (st0_1 t) f3 ∗ pt c (st0_2 t) f4 ∗ pt c (st0_3 t) f5 ∗ pt c (st0_4 t) f6 ∗ pt c (st0_5 t) f7
        ∗ pt c (st0_6 t) f8 ∗ pt c (st0_7 t) f9 ∗ pt c (Memref.whole cc0_scratch0) f10 ∗ pt c (Memref.whole cc0_scratch1) f11
        ∗ (iprop(pt c (st0_0 t) f2 ∗ pt c (st0_1 t) f3 ∗ pt c (st0_2 t) f4 ∗ pt c (st0_3 t) f5 ∗ pt c (st0_4 t) f6 ∗ pt c (st0_5 t) f7
              ∗ pt c (st0_6 t) (outs c t f2 f3 f4 f5 f6 f7 f8 f9).1 ∗ pt c (st0_7 t) (outs c t f2 f3 f4 f5 f6 f7 f8 f9).2
              ∗ (∃ f, pt c (Memref.whole cc0_scratch0) f) ∗ (∃ f, pt c (Memref.whole cc0_scratch1) f)) -∗ Q ⟨⟩))
      ⊢ wp frame (wpE (defs₀ (F := F)) Variants.none c none) E (bodyAt0 t) Q := by
  unfold outs
  by_cases h : k0_cond1 (grid0.coords t) = 1#1
  · rw [dif_pos h]; exact Subtype.property (runFull c _ h _ _ _ _ _ _ _ _ _ _ _ _ _ _ _ _ _ _ _ _ _ f2 f3 f4 f5 f6 f7 f9) f8 f10 f11 E Q
  · rw [dif_neg h]; exact Subtype.property (runTail c _ h _ _ _ _ _ _ _ _ _ _ _ _ _ _ _ _ _ _ _ _ _ f2 f3 f4 f5 f6 f7 f8 f9) f10 f11 E Q

/-! ## The pipeline's proof data -/

/-- What input window `w`'s buffer may hold when the body runs at point `t`: its block of the argument, and anything where the block
    overhangs the argument. -/
def Holds (c : Dev nD) (w : Fin cfg0.W) (t : Fin cfg0.N) (D : (cfg0.win w).block.Idx → Elt F (cfg0.win w).elt) : Prop :=
  ∃ d, D = (cfg0.win w).fill (cfg0.grid.coords t) d (iblk m c w t)

/-- `X6` and `X7` are left in the results' buffers at point `t` by a body that found its inputs' blocks, and `Y7` in the second
    result's buffer. -/
def Left (c : Dev nD) (t : Fin cfg0.N) (Y7 : S4x2x1024.Idx → Elt F .f32) (X6 : S1x640x1024.Idx → Elt F .bf16)
    (X7 : S4x2x1024.Idx → Elt F .f32) : Prop :=
  ∃ f2 f3 f4 f5 f6 f7 f8 f9, Holds m c 0 t ((st0_0 t).view.read (Elt F) f2) ∧ Holds m c 1 t ((st0_1 t).view.read (Elt F) f3)
    ∧ Holds m c 2 t ((st0_2 t).view.read (Elt F) f4) ∧ Holds m c 3 t ((st0_3 t).view.read (Elt F) f5)
    ∧ Holds m c 4 t ((st0_4 t).view.read (Elt F) f6) ∧ Holds m c 5 t ((st0_5 t).view.read (Elt F) f7)
    ∧ (st0_7 t).view.read (Elt F) f9 = Y7
    ∧ X6 = (st0_6 t).view.read (Elt F) (outs c t f2 f3 f4 f5 f6 f7 f8 f9).1
    ∧ X7 = (st0_7 t).view.read (Elt F) (outs c t f2 f3 f4 f5 f6 f7 f8 f9).2

/-- The proof data: the arrays as the pipeline finds them, each input's buffer left as found, the results' as `Left` says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => ∃ Y7 X7, Left m c t Y7 X X7
    | ⟨7, _⟩ => fun Y X => ∃ X6, Left m c t Y X6 X
  Φ _ := Pipeline.ΦA spec0 c
  q _ := fullShare
  owed _ := 0

theorem A_eq (c : Dev nD) (w : Fin cfg0.W) : (rdat m c).A w = V m c (Pipeline.arrRef spec0 w) := by dsimp only [rdat]

theorem after_0 (c : Dev nD) (t : Fin cfg0.N) (Y X) : (rdat m c).after 0 t Y X ↔ X = Y := by dsimp only [rdat]; rfl
theorem after_1 (c : Dev nD) (t : Fin cfg0.N) (Y X) : (rdat m c).after 1 t Y X ↔ X = Y := by dsimp only [rdat]; rfl
theorem after_2 (c : Dev nD) (t : Fin cfg0.N) (Y X) : (rdat m c).after 2 t Y X ↔ X = Y := by dsimp only [rdat]; rfl
theorem after_3 (c : Dev nD) (t : Fin cfg0.N) (Y X) : (rdat m c).after 3 t Y X ↔ X = Y := by dsimp only [rdat]; rfl
theorem after_4 (c : Dev nD) (t : Fin cfg0.N) (Y X) : (rdat m c).after 4 t Y X ↔ X = Y := by dsimp only [rdat]; rfl
theorem after_5 (c : Dev nD) (t : Fin cfg0.N) (Y X) : (rdat m c).after 5 t Y X ↔ X = Y := by dsimp only [rdat]; rfl
theorem after_6 (c : Dev nD) (t : Fin cfg0.N) (Y X) : (rdat m c).after 6 t Y X ↔ ∃ Y7 X7, Left m c t Y7 X X7 := by dsimp only [rdat]; rfl
theorem after_7 (c : Dev nD) (t : Fin cfg0.N) (Y X) : (rdat m c).after 7 t Y X ↔ ∃ X6, Left m c t Y X6 X := by dsimp only [rdat]; rfl

/-- An input window's buffer holds its block at every point. -/
theorem holds_of_finds (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N) (Y) (h : (rdat m c).Finds w t Y) : Holds m c w t Y := by
  obtain ⟨d, hd⟩ := RDat.finds_in_eq_fetched (rdat m c) w hw hclip hkeep t Y h
  exact ⟨d, hd⟩

theorem holds_0 (c : Dev nD) (t : Fin cfg0.N) (Y) (h : (rdat m c).Finds 0 t Y) : Holds m c 0 t Y :=
  holds_of_finds m c 0 rfl (by decide +kernel) (fun t Y X => (after_0 m c t Y X).mp) t Y h
theorem holds_1 (c : Dev nD) (t : Fin cfg0.N) (Y) (h : (rdat m c).Finds 1 t Y) : Holds m c 1 t Y :=
  holds_of_finds m c 1 rfl (by decide +kernel) (fun t Y X => (after_1 m c t Y X).mp) t Y h
theorem holds_2 (c : Dev nD) (t : Fin cfg0.N) (Y) (h : (rdat m c).Finds 2 t Y) : Holds m c 2 t Y :=
  holds_of_finds m c 2 rfl (by decide +kernel) (fun t Y X => (after_2 m c t Y X).mp) t Y h
theorem holds_3 (c : Dev nD) (t : Fin cfg0.N) (Y) (h : (rdat m c).Finds 3 t Y) : Holds m c 3 t Y :=
  holds_of_finds m c 3 rfl (by decide +kernel) (fun t Y X => (after_3 m c t Y X).mp) t Y h
theorem holds_4 (c : Dev nD) (t : Fin cfg0.N) (Y) (h : (rdat m c).Finds 4 t Y) : Holds m c 4 t Y :=
  holds_of_finds m c 4 rfl (by decide +kernel) (fun t Y X => (after_4 m c t Y X).mp) t Y h
theorem holds_5 (c : Dev nD) (t : Fin cfg0.N) (Y) (h : (rdat m c).Finds 5 t Y) : Holds m c 5 t Y :=
  holds_of_finds m c 5 rfl (by decide +kernel) (fun t Y X => (after_5 m c t Y X).mp) t Y h

/-! ## The body obligation -/

/-- A whole buffer owned at what it reads is the buffer at some contents that read so. -/
theorem owns_eq (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

theorem owns_0 (c : Dev nD) (t : Fin cfg0.N) (X) : (owns (c : Thread nD τ) (st0_0 t) fullShare X : sProp 𝕄)
    = iprop(∃ f : Bf (F := F) c (st0_0 t), ⌜(st0_0 t).view.read (Elt F) f = X⌝ ∗ pt c (st0_0 t) f) :=
  owns_eq c (st0_0 t) (hstage0_0 ((cfg0.slots t 0).cast nbuf0_0)) X
theorem owns_1 (c : Dev nD) (t : Fin cfg0.N) (X) : (owns (c : Thread nD τ) (st0_1 t) fullShare X : sProp 𝕄)
    = iprop(∃ f : Bf (F := F) c (st0_1 t), ⌜(st0_1 t).view.read (Elt F) f = X⌝ ∗ pt c (st0_1 t) f) :=
  owns_eq c (st0_1 t) (hstage0_1 ((cfg0.slots t 1).cast nbuf0_1)) X
theorem owns_2 (c : Dev nD) (t : Fin cfg0.N) (X) : (owns (c : Thread nD τ) (st0_2 t) fullShare X : sProp 𝕄)
    = iprop(∃ f : Bf (F := F) c (st0_2 t), ⌜(st0_2 t).view.read (Elt F) f = X⌝ ∗ pt c (st0_2 t) f) :=
  owns_eq c (st0_2 t) (hstage0_2 ((cfg0.slots t 2).cast nbuf0_2)) X
theorem owns_3 (c : Dev nD) (t : Fin cfg0.N) (X) : (owns (c : Thread nD τ) (st0_3 t) fullShare X : sProp 𝕄)
    = iprop(∃ f : Bf (F := F) c (st0_3 t), ⌜(st0_3 t).view.read (Elt F) f = X⌝ ∗ pt c (st0_3 t) f) :=
  owns_eq c (st0_3 t) (hstage0_3 ((cfg0.slots t 3).cast nbuf0_3)) X
theorem owns_4 (c : Dev nD) (t : Fin cfg0.N) (X) : (owns (c : Thread nD τ) (st0_4 t) fullShare X : sProp 𝕄)
    = iprop(∃ f : Bf (F := F) c (st0_4 t), ⌜(st0_4 t).view.read (Elt F) f = X⌝ ∗ pt c (st0_4 t) f) :=
  owns_eq c (st0_4 t) (hstage0_4 ((cfg0.slots t 4).cast nbuf0_4)) X
theorem owns_5 (c : Dev nD) (t : Fin cfg0.N) (X) : (owns (c : Thread nD τ) (st0_5 t) fullShare X : sProp 𝕄)
    = iprop(∃ f : Bf (F := F) c (st0_5 t), ⌜(st0_5 t).view.read (Elt F) f = X⌝ ∗ pt c (st0_5 t) f) :=
  owns_eq c (st0_5 t) (hstage0_5 ((cfg0.slots t 5).cast nbuf0_5)) X
theorem owns_6 (c : Dev nD) (t : Fin cfg0.N) (X) : (owns (c : Thread nD τ) (st0_6 t) fullShare X : sProp 𝕄)
    = iprop(∃ f : Bf (F := F) c (st0_6 t), ⌜(st0_6 t).view.read (Elt F) f = X⌝ ∗ pt c (st0_6 t) f) :=
  owns_eq c (st0_6 t) (hstage0_6 ((cfg0.slots t 6).cast nbuf0_6)) X
theorem owns_7 (c : Dev nD) (t : Fin cfg0.N) (X) : (owns (c : Thread nD τ) (st0_7 t) fullShare X : sProp 𝕄)
    = iprop(∃ f : Bf (F := F) c (st0_7 t), ⌜(st0_7 t).view.read (Elt F) f = X⌝ ∗ pt c (st0_7 t) f) :=
  owns_eq c (st0_7 t) (hstage0_7 ((cfg0.slots t 7).cast nbuf0_7)) X

/-- The body at any point, on what the pipeline hands it. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6) ∗ owns (c : Thread nD τ) (st0_7 t) fullShare (Y 7))
      ⊢ wp frame (wpE (defs₀ (F := F)) Variants.none c none) Set.univ (bodyAt0 t) fun _ =>
        iprop((rdat m c).Φ t.succ ∗ (rdat m c).owesAt () t.succ
        ∗ (∃ X, ⌜(rdat m c).after 0 t (Y 0) X⌝ ∗ owns (c : Thread nD τ) (st0_0 t) fullShare X)
        ∗ (∃ X, ⌜(rdat m c).after 1 t (Y 1) X⌝ ∗ owns (c : Thread nD τ) (st0_1 t) fullShare X)
        ∗ (∃ X, ⌜(rdat m c).after 2 t (Y 2) X⌝ ∗ owns (c : Thread nD τ) (st0_2 t) fullShare X)
        ∗ (∃ X, ⌜(rdat m c).after 3 t (Y 3) X⌝ ∗ owns (c : Thread nD τ) (st0_3 t) fullShare X)
        ∗ (∃ X, ⌜(rdat m c).after 4 t (Y 4) X⌝ ∗ owns (c : Thread nD τ) (st0_4 t) fullShare X)
        ∗ (∃ X, ⌜(rdat m c).after 5 t (Y 5) X⌝ ∗ owns (c : Thread nD τ) (st0_5 t) fullShare X)
        ∗ (∃ X, ⌜(rdat m c).after 6 t (Y 6) X⌝ ∗ owns (c : Thread nD τ) (st0_6 t) fullShare X)
        ∗ (∃ X, ⌜(rdat m c).after 7 t (Y 7) X⌝ ∗ owns (c : Thread nD τ) (st0_7 t) fullShare X)) := by
  have e0 := holds_0 m c t _ (hY 0)
  have e1 := holds_1 m c t _ (hY 1)
  have e2 := holds_2 m c t _ (hY 2)
  have e3 := holds_3 m c t _ (hY 3)
  have e4 := holds_4 m c t _ (hY 4)
  have e5 := holds_5 m c t _ (hY 5)
  rw [show (rdat m c).Φ t.succ = (rdat m c).Φ t.castSucc from rfl,
    show (rdat m c).owesAt () t.succ = (rdat m c).owesAt () t.castSucc from rfl,
    show (rdat m c).Φ t.castSucc = iprop(Pipeline.scopedRest spec0 c ∗ ∃ r, prngReg c r) from rfl, scopedRest0_eq]
  simp only [after_0, after_1, after_2, after_3, after_4, after_5, after_6, after_7, owns_0, owns_1, owns_2, owns_3, owns_4, owns_5, owns_6, owns_7]
  iintro ⟨⟨⟨⟨%g0, G0⟩, ⟨%g1, G1⟩⟩, Hp⟩, Ho, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  rw [← h2] at e0; rw [← h3] at e1; rw [← h4] at e2; rw [← h5] at e3; rw [← h6] at e4; rw [← h7] at e5
  have L : Left m c t (Y 7) ((st0_6 t).view.read (Elt F) (outs c t f2 f3 f4 f5 f6 f7 f8 f9).1)
      ((st0_7 t).view.read (Elt F) (outs c t f2 f3 f4 f5 f6 f7 f8 f9).2) :=
    ⟨f2, f3, f4, f5, f6, f7, f8, f9, e0, e1, e2, e3, e4, e5, h9, rfl, rfl⟩
  iapply (run_at c t f2 f3 f4 f5 f6 f7 f8 f9 g0 g1 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [G0]; · iexact G0
  isplitl [G1]; · iexact G1
  iintro ⟨H2, H3, H4, H5, H6, H7, H8, H9, G0, G1⟩
  isplitl [G0 G1 Hp]
  · isplitl [G0 G1]
    · isplitl [G0]
      · iexact G0
      · iexact G1
    · iexact Hp
  isplitl [Ho]; · iexact Ho
  isplitl [H2]
  · iexists _; isplitr; · ipureintro; exact rfl
    iexists f2; isplitr; · ipureintro; exact h2
    iexact H2
  isplitl [H3]
  · iexists _; isplitr; · ipureintro; exact rfl
    iexists f3; isplitr; · ipureintro; exact h3
    iexact H3
  isplitl [H4]
  · iexists _; isplitr; · ipureintro; exact rfl
    iexists f4; isplitr; · ipureintro; exact h4
    iexact H4
  isplitl [H5]
  · iexists _; isplitr; · ipureintro; exact rfl
    iexists f5; isplitr; · ipureintro; exact h5
    iexact H5
  isplitl [H6]
  · iexists _; isplitr; · ipureintro; exact rfl
    iexists f6; isplitr; · ipureintro; exact h6
    iexact H6
  isplitl [H7]
  · iexists _; isplitr; · ipureintro; exact rfl
    iexists f7; isplitr; · ipureintro; exact h7
    iexact H7
  isplitl [H8]
  · iexists _; isplitr; · ipureintro; exact ⟨_, _, L⟩
    iexists _; isplitr; · ipureintro; exact rfl
    iexact H8
  iexists _; isplitr; · ipureintro; exact ⟨_, L⟩
  iexists _; isplitr; · ipureintro; exact rfl
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
/-- Every run ends, with the arrays at what `Left` allows, every other array as it was, and the semaphores at zero. -/
theorem run_main_quiescent : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hΦ := fun _ _ => rfl)

/-- Every run ends with the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent m ρ)

end Cert.Kernel.Hand

end
-- ==== Proof.IdealBuf.lean ====
/- The buffers the attention kernel's body runs on. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.KernelIdeal.Hand

end
-- ==== Proof.IdealFull.lean ====
/- The body of the attention kernel run once at a symbolic grid point, on the steps that hold four heads. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import proofs.«01_k».proof.Proof.IdealBuf

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- On a step of four heads: what the body leaves in the two results' buffers, with the proof that it runs. -/
noncomputable def runFull (c : Dev nD) (i : grid0.Coords) (hc : k0_cond1 i = 1#1) (hc2 : ¬ (k0_cond2 i = 1#1))
    (M2 : Memref sig .tc .vmem S1x4x160x1024 .fp8e4m3) (h2 : M2.IsWhole) (M3 : Memref sig .tc .vmem S1x4x160x1024 .fp8e4m3) (h3 : M3.IsWhole)
    (M4 : Memref sig .tc .vmem S1x4x160x1024 .fp8e4m3) (h4 : M4.IsWhole) (M5 : Memref sig .tc .vmem S4x2x1024 .f32) (h5 : M5.IsWhole)
    (M6 : Memref sig .tc .vmem S4x2x1024 .f32) (h6 : M6.IsWhole) (M7 : Memref sig .tc .vmem S4x2x1024 .f32) (h7 : M7.IsWhole)
    (M8 : Memref sig .tc .vmem S1x640x1024 .bf16) (h8 : M8.IsWhole) (M9 : Memref sig .tc .vmem S4x2x1024 .f32) (h9 : M9.IsWhole)
    (M10 : Memref sig .tc .vmem S256x1024 .f32) (h10 : M10.IsWhole) (M11 : Memref sig .tc .vmem S256x1024 .bf16) (h11 : M11.IsWhole)
    (f2 : Bf (F := F) c M2) (f3 : Bf (F := F) c M3) (f4 : Bf (F := F) c M4) (f5 : Bf (F := F) c M5) (f6 : Bf (F := F) c M6) (f7 : Bf (F := F) c M7)
    (f9 : Bf (F := F) c M9) :
    { W : Bf (F := F) c M8 × Bf (F := F) c M9 //
      ∀ (f8 : Bf (F := F) c M8) (f10 : Bf (F := F) c M10) (f11 : Bf (F := F) c M11) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M2 f2 ∗ pt c M3 f3 ∗ pt c M4 f4 ∗ pt c M5 f5 ∗ pt c M6 f6 ∗ pt c M7 f7 ∗ pt c M8 W.1 ∗ pt c M9 W.2
                ∗ (∃ f, pt c M10 f) ∗ (∃ f, pt c M11 f)) -∗ Q ⟨⟩))
        ⊢ wp frame (wpE (defs₀ (F := F)) Variants.none c none) E
            (cc0_longnet_attention i M2 h2 M3 h3 M4 h4 M5 h5 M6 h6 M7 h7 M8 h8 M9 h9 M10 h10 M11 h11) Q } := by
  refine ⟨⟨?_, ?_⟩, fun f8 f10 f11 E Q => ?run⟩
  case run =>
    iintro ⟨H2, H3, H4, H5, H6, H7, H8, H9, H10, H11, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.KernelIdeal.Hand

end
-- ==== Proof.IdealTail.lean ====
/- The body of the attention kernel run once at a symbolic grid point, on the last steps, which hold two heads. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import proofs.«01_k».proof.Proof.IdealBuf

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- On a step of two heads: what the body leaves in the two results' buffers, with the proof that it runs. -/
noncomputable def runTail (c : Dev nD) (i : grid0.Coords) (hc : ¬ (k0_cond1 i = 1#1)) (hc2 : k0_cond2 i = 1#1)
    (M2 : Memref sig .tc .vmem S1x4x160x1024 .fp8e4m3) (h2 : M2.IsWhole) (M3 : Memref sig .tc .vmem S1x4x160x1024 .fp8e4m3) (h3 : M3.IsWhole)
    (M4 : Memref sig .tc .vmem S1x4x160x1024 .fp8e4m3) (h4 : M4.IsWhole) (M5 : Memref sig .tc .vmem S4x2x1024 .f32) (h5 : M5.IsWhole)
    (M6 : Memref sig .tc .vmem S4x2x1024 .f32) (h6 : M6.IsWhole) (M7 : Memref sig .tc .vmem S4x2x1024 .f32) (h7 : M7.IsWhole)
    (M8 : Memref sig .tc .vmem S1x640x1024 .bf16) (h8 : M8.IsWhole) (M9 : Memref sig .tc .vmem S4x2x1024 .f32) (h9 : M9.IsWhole)
    (M10 : Memref sig .tc .vmem S256x1024 .f32) (h10 : M10.IsWhole) (M11 : Memref sig .tc .vmem S256x1024 .bf16) (h11 : M11.IsWhole)
    (f2 : Bf (F := F) c M2) (f3 : Bf (F := F) c M3) (f4 : Bf (F := F) c M4) (f5 : Bf (F := F) c M5) (f6 : Bf (F := F) c M6) (f7 : Bf (F := F) c M7)
    (f8 : Bf (F := F) c M8) (f9 : Bf (F := F) c M9) :
    { W : Bf (F := F) c M8 × Bf (F := F) c M9 //
      ∀ (f10 : Bf (F := F) c M10) (f11 : Bf (F := F) c M11) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M2 f2 ∗ pt c M3 f3 ∗ pt c M4 f4 ∗ pt c M5 f5 ∗ pt c M6 f6 ∗ pt c M7 f7 ∗ pt c M8 W.1 ∗ pt c M9 W.2
                ∗ (∃ f, pt c M10 f) ∗ (∃ f, pt c M11 f)) -∗ Q ⟨⟩))
        ⊢ wp frame (wpE (defs₀ (F := F)) Variants.none c none) E
            (cc0_longnet_attention i M2 h2 M3 h3 M4 h4 M5 h5 M6 h6 M7 h7 M8 h8 M9 h9 M10 h10 M11 h11) Q } := by
  refine ⟨⟨?_, ?_⟩, fun f10 f11 E Q => ?run⟩
  case run =>
    iintro ⟨H2, H3, H4, H5, H6, H7, H8, H9, H10, H11, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.KernelIdeal.Hand

end
-- ==== Proof.IdealFrame.lean ====
/- The run of the whole attention kernel: what its body leaves at every grid point, and that every run ends with the arguments unchanged. -/
module

public import proofs.«01_k».proof.Proof.Gen.KernelIdeal.Frame
public import proofs.«01_k».proof.Proof.Gen.KernelIdeal.Points
public import proofs.«01_k».proof.Proof.IdealFull
public import proofs.«01_k».proof.Proof.IdealTail
public import Idealize.ShloMosaic.Lib.Claim

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which branch a grid point takes -/

theorem full_iff : ∀ t : Fin cfg0.N, k0_cond1 (grid0.coords t) = 1#1 ↔ t.val < 8 := by decide +kernel
theorem tail_iff : ∀ t : Fin cfg0.N, k0_cond2 (grid0.coords t) = 1#1 ↔ 8 ≤ t.val := by decide +kernel

theorem not_tail (t : Fin cfg0.N) (h : k0_cond1 (grid0.coords t) = 1#1) : ¬ (k0_cond2 (grid0.coords t) = 1#1) := by
  rw [tail_iff]; rw [full_iff] at h; omega
theorem tail_of (t : Fin cfg0.N) (h : ¬ (k0_cond1 (grid0.coords t) = 1#1)) : k0_cond2 (grid0.coords t) = 1#1 := by
  rw [tail_iff]; rw [full_iff] at h; omega

/-! ## What the body leaves at a grid point -/

/-- The results' buffers after the body at point `t`, from what all the buffers held before. -/
def outs (c : Dev nD) (t : Fin cfg0.N) (f2 : Bf (F := F) c (st0_0 t)) (f3 : Bf (F := F) c (st0_1 t)) (f4 : Bf (F := F) c (st0_2 t))
    (f5 : Bf (F := F) c (st0_3 t)) (f6 : Bf (F := F) c (st0_4 t)) (f7 : Bf (F := F) c (st0_5 t)) (f8 : Bf (F := F) c (st0_6 t))
    (f9 : Bf (F := F) c (st0_7 t)) : Bf (F := F) c (st0_6 t) × Bf (F := F) c (st0_7 t) :=
  if h : k0_cond1 (grid0.coords t) = 1#1 then
    (runFull c (grid0.coords t) h (not_tail t h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      f2 f3 f4 f5 f6 f7 f9).1
  else
    (runTail c (grid0.coords t) h (tail_of t h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      f2 f3 f4 f5 f6 f7 f8 f9).1

/-- The body at any point leaves `outs`. -/
theorem run_at (c : Dev nD) (t : Fin cfg0.N) (f2 : Bf (F := F) c (st0_0 t)) (f3 : Bf (F := F) c (st0_1 t)) (f4 : Bf (F := F) c (st0_2 t))
    (f5 : Bf (F := F) c (st0_3 t)) (f6 : Bf (F := F) c (st0_4 t)) (f7 : Bf (F := F) c (st0_5 t)) (f8 : Bf (F := F) c (st0_6 t))
    (f9 : Bf (F := F) c (st0_7 t)) (f10 : Bf (F := F) c (Memref.whole cc0_scratch0)) (f11 : Bf (F := F) c (Memref.whole cc0_scratch1))
    (E : Set ℕ) (Q : PUnit → sProp 𝕄) :
    iprop(pt c (st0_0 t) f2 ∗ pt c (st0_1 t) f3 ∗ pt c (st0_2 t) f4 ∗ pt c (st0_3 t) f5 ∗ pt c (st0_4 t) f6 ∗ pt c (st0_5 t) f7
        ∗ pt c (st0_6 t) f8 ∗ pt c (st0_7 t) f9 ∗ pt c (Memref.whole cc0_scratch0) f10 ∗ pt c (Memref.whole cc0_scratch1) f11
        ∗ (iprop(pt c (st0_0 t) f2 ∗ pt c (st0_1 t) f3 ∗ pt c (st0_2 t) f4 ∗ pt c (st0_3 t) f5 ∗ pt c (st0_4 t) f6 ∗ pt c (st0_5 t) f7
              ∗ pt c (st0_6 t) (outs c t f2 f3 f4 f5 f6 f7 f8 f9).1 ∗ pt c (st0_7 t) (outs c t f2 f3 f4 f5 f6 f7 f8 f9).2
              ∗ (∃ f, pt c (Memref.whole cc0_scratch0) f) ∗ (∃ f, pt c (Memref.whole cc0_scratch1) f)) -∗ Q ⟨⟩))
      ⊢ wp frame (wpE (defs₀ (F := F)) Variants.none c none) E (bodyAt0 t) Q := by
  unfold outs
  by_cases h : k0_cond1 (grid0.coords t) = 1#1
  · rw [dif_pos h]; exact Subtype.property (runFull c _ h _ _ _ _ _ _ _ _ _ _ _ _ _ _ _ _ _ _ _ _ _ f2 f3 f4 f5 f6 f7 f9) f8 f10 f11 E Q
  · rw [dif_neg h]; exact Subtype.property (runTail c _ h _ _ _ _ _ _ _ _ _ _ _ _ _ _ _ _ _ _ _ _ _ f2 f3 f4 f5 f6 f7 f8 f9) f10 f11 E Q

/-! ## The pipeline's proof data -/

/-- What input window `w`'s buffer may hold when the body runs at point `t`: its block of the argument, and anything where the block
    overhangs the argument. -/
def Holds (c : Dev nD) (w : Fin cfg0.W) (t : Fin cfg0.N) (D : (cfg0.win w).block.Idx → Elt F (cfg0.win w).elt) : Prop :=
  ∃ d, D = (cfg0.win w).fill (cfg0.grid.coords t) d (iblk m c w t)

/-- `X6` and `X7` are left in the results' buffers at point `t` by a body that found its inputs' blocks, and `Y7` in the second
    result's buffer. -/
def Left (c : Dev nD) (t : Fin cfg0.N) (Y7 : S4x2x1024.Idx → Elt F .f32) (X6 : S1x640x1024.Idx → Elt F .bf16)
    (X7 : S4x2x1024.Idx → Elt F .f32) : Prop :=
  ∃ f2 f3 f4 f5 f6 f7 f8 f9, Holds m c 0 t ((st0_0 t).view.read (Elt F) f2) ∧ Holds m c 1 t ((st0_1 t).view.read (Elt F) f3)
    ∧ Holds m c 2 t ((st0_2 t).view.read (Elt F) f4) ∧ Holds m c 3 t ((st0_3 t).view.read (Elt F) f5)
    ∧ Holds m c 4 t ((st0_4 t).view.read (Elt F) f6) ∧ Holds m c 5 t ((st0_5 t).view.read (Elt F) f7)
    ∧ (st0_7 t).view.read (Elt F) f9 = Y7
    ∧ X6 = (st0_6 t).view.read (Elt F) (outs c t f2 f3 f4 f5 f6 f7 f8 f9).1
    ∧ X7 = (st0_7 t).view.read (Elt F) (outs c t f2 f3 f4 f5 f6 f7 f8 f9).2

/-- The proof data: the arrays as the pipeline finds them, each input's buffer left as found, the results' as `Left` says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => ∃ Y7 X7, Left m c t Y7 X X7
    | ⟨7, _⟩ => fun Y X => ∃ X6, Left m c t Y X6 X
  Φ _ := Pipeline.ΦA spec0 c
  q _ := fullShare
  owed _ := 0

theorem A_eq (c : Dev nD) (w : Fin cfg0.W) : (rdat m c).A w = V m c (Pipeline.arrRef spec0 w) := by dsimp only [rdat]

theorem after_0 (c : Dev nD) (t : Fin cfg0.N) (Y X) : (rdat m c).after 0 t Y X ↔ X = Y := by dsimp only [rdat]; rfl
theorem after_1 (c : Dev nD) (t : Fin cfg0.N) (Y X) : (rdat m c).after 1 t Y X ↔ X = Y := by dsimp only [rdat]; rfl
theorem after_2 (c : Dev nD) (t : Fin cfg0.N) (Y X) : (rdat m c).after 2 t Y X ↔ X = Y := by dsimp only [rdat]; rfl
theorem after_3 (c : Dev nD) (t : Fin cfg0.N) (Y X) : (rdat m c).after 3 t Y X ↔ X = Y := by dsimp only [rdat]; rfl
theorem after_4 (c : Dev nD) (t : Fin cfg0.N) (Y X) : (rdat m c).after 4 t Y X ↔ X = Y := by dsimp only [rdat]; rfl
theorem after_5 (c : Dev nD) (t : Fin cfg0.N) (Y X) : (rdat m c).after 5 t Y X ↔ X = Y := by dsimp only [rdat]; rfl
theorem after_6 (c : Dev nD) (t : Fin cfg0.N) (Y X) : (rdat m c).after 6 t Y X ↔ ∃ Y7 X7, Left m c t Y7 X X7 := by dsimp only [rdat]; rfl
theorem after_7 (c : Dev nD) (t : Fin cfg0.N) (Y X) : (rdat m c).after 7 t Y X ↔ ∃ X6, Left m c t Y X6 X := by dsimp only [rdat]; rfl

/-- An input window's buffer holds its block at every point. -/
theorem holds_of_finds (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N) (Y) (h : (rdat m c).Finds w t Y) : Holds m c w t Y := by
  obtain ⟨d, hd⟩ := RDat.finds_in_eq_fetched (rdat m c) w hw hclip hkeep t Y h
  exact ⟨d, hd⟩

theorem holds_0 (c : Dev nD) (t : Fin cfg0.N) (Y) (h : (rdat m c).Finds 0 t Y) : Holds m c 0 t Y :=
  holds_of_finds m c 0 rfl (by decide +kernel) (fun t Y X => (after_0 m c t Y X).mp) t Y h
theorem holds_1 (c : Dev nD) (t : Fin cfg0.N) (Y) (h : (rdat m c).Finds 1 t Y) : Holds m c 1 t Y :=
  holds_of_finds m c 1 rfl (by decide +kernel) (fun t Y X => (after_1 m c t Y X).mp) t Y h
theorem holds_2 (c : Dev nD) (t : Fin cfg0.N) (Y) (h : (rdat m c).Finds 2 t Y) : Holds m c 2 t Y :=
  holds_of_finds m c 2 rfl (by decide +kernel) (fun t Y X => (after_2 m c t Y X).mp) t Y h
theorem holds_3 (c : Dev nD) (t : Fin cfg0.N) (Y) (h : (rdat m c).Finds 3 t Y) : Holds m c 3 t Y :=
  holds_of_finds m c 3 rfl (by decide +kernel) (fun t Y X => (after_3 m c t Y X).mp) t Y h
theorem holds_4 (c : Dev nD) (t : Fin cfg0.N) (Y) (h : (rdat m c).Finds 4 t Y) : Holds m c 4 t Y :=
  holds_of_finds m c 4 rfl (by decide +kernel) (fun t Y X => (after_4 m c t Y X).mp) t Y h
theorem holds_5 (c : Dev nD) (t : Fin cfg0.N) (Y) (h : (rdat m c).Finds 5 t Y) : Holds m c 5 t Y :=
  holds_of_finds m c 5 rfl (by decide +kernel) (fun t Y X => (after_5 m c t Y X).mp) t Y h

/-! ## The body obligation -/

/-- A whole buffer owned at what it reads is the buffer at some contents that read so. -/
theorem owns_eq (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

theorem owns_0 (c : Dev nD) (t : Fin cfg0.N) (X) : (owns (c : Thread nD τ) (st0_0 t) fullShare X : sProp 𝕄)
    = iprop(∃ f : Bf (F := F) c (st0_0 t), ⌜(st0_0 t).view.read (Elt F) f = X⌝ ∗ pt c (st0_0 t) f) :=
  owns_eq c (st0_0 t) (hstage0_0 ((cfg0.slots t 0).cast nbuf0_0)) X
theorem owns_1 (c : Dev nD) (t : Fin cfg0.N) (X) : (owns (c : Thread nD τ) (st0_1 t) fullShare X : sProp 𝕄)
    = iprop(∃ f : Bf (F := F) c (st0_1 t), ⌜(st0_1 t).view.read (Elt F) f = X⌝ ∗ pt c (st0_1 t) f) :=
  owns_eq c (st0_1 t) (hstage0_1 ((cfg0.slots t 1).cast nbuf0_1)) X
theorem owns_2 (c : Dev nD) (t : Fin cfg0.N) (X) : (owns (c : Thread nD τ) (st0_2 t) fullShare X : sProp 𝕄)
    = iprop(∃ f : Bf (F := F) c (st0_2 t), ⌜(st0_2 t).view.read (Elt F) f = X⌝ ∗ pt c (st0_2 t) f) :=
  owns_eq c (st0_2 t) (hstage0_2 ((cfg0.slots t 2).cast nbuf0_2)) X
theorem owns_3 (c : Dev nD) (t : Fin cfg0.N) (X) : (owns (c : Thread nD τ) (st0_3 t) fullShare X : sProp 𝕄)
    = iprop(∃ f : Bf (F := F) c (st0_3 t), ⌜(st0_3 t).view.read (Elt F) f = X⌝ ∗ pt c (st0_3 t) f) :=
  owns_eq c (st0_3 t) (hstage0_3 ((cfg0.slots t 3).cast nbuf0_3)) X
theorem owns_4 (c : Dev nD) (t : Fin cfg0.N) (X) : (owns (c : Thread nD τ) (st0_4 t) fullShare X : sProp 𝕄)
    = iprop(∃ f : Bf (F := F) c (st0_4 t), ⌜(st0_4 t).view.read (Elt F) f = X⌝ ∗ pt c (st0_4 t) f) :=
  owns_eq c (st0_4 t) (hstage0_4 ((cfg0.slots t 4).cast nbuf0_4)) X
theorem owns_5 (c : Dev nD) (t : Fin cfg0.N) (X) : (owns (c : Thread nD τ) (st0_5 t) fullShare X : sProp 𝕄)
    = iprop(∃ f : Bf (F := F) c (st0_5 t), ⌜(st0_5 t).view.read (Elt F) f = X⌝ ∗ pt c (st0_5 t) f) :=
  owns_eq c (st0_5 t) (hstage0_5 ((cfg0.slots t 5).cast nbuf0_5)) X
theorem owns_6 (c : Dev nD) (t : Fin cfg0.N) (X) : (owns (c : Thread nD τ) (st0_6 t) fullShare X : sProp 𝕄)
    = iprop(∃ f : Bf (F := F) c (st0_6 t), ⌜(st0_6 t).view.read (Elt F) f = X⌝ ∗ pt c (st0_6 t) f) :=
  owns_eq c (st0_6 t) (hstage0_6 ((cfg0.slots t 6).cast nbuf0_6)) X
theorem owns_7 (c : Dev nD) (t : Fin cfg0.N) (X) : (owns (c : Thread nD τ) (st0_7 t) fullShare X : sProp 𝕄)
    = iprop(∃ f : Bf (F := F) c (st0_7 t), ⌜(st0_7 t).view.read (Elt F) f = X⌝ ∗ pt c (st0_7 t) f) :=
  owns_eq c (st0_7 t) (hstage0_7 ((cfg0.slots t 7).cast nbuf0_7)) X

/-- The body at any point, on what the pipeline hands it. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6) ∗ owns (c : Thread nD τ) (st0_7 t) fullShare (Y 7))
      ⊢ wp frame (wpE (defs₀ (F := F)) Variants.none c none) Set.univ (bodyAt0 t) fun _ =>
        iprop((rdat m c).Φ t.succ ∗ (rdat m c).owesAt () t.succ
        ∗ (∃ X, ⌜(rdat m c).after 0 t (Y 0) X⌝ ∗ owns (c : Thread nD τ) (st0_0 t) fullShare X)
        ∗ (∃ X, ⌜(rdat m c).after 1 t (Y 1) X⌝ ∗ owns (c : Thread nD τ) (st0_1 t) fullShare X)
        ∗ (∃ X, ⌜(rdat m c).after 2 t (Y 2) X⌝ ∗ owns (c : Thread nD τ) (st0_2 t) fullShare X)
        ∗ (∃ X, ⌜(rdat m c).after 3 t (Y 3) X⌝ ∗ owns (c : Thread nD τ) (st0_3 t) fullShare X)
        ∗ (∃ X, ⌜(rdat m c).after 4 t (Y 4) X⌝ ∗ owns (c : Thread nD τ) (st0_4 t) fullShare X)
        ∗ (∃ X, ⌜(rdat m c).after 5 t (Y 5) X⌝ ∗ owns (c : Thread nD τ) (st0_5 t) fullShare X)
        ∗ (∃ X, ⌜(rdat m c).after 6 t (Y 6) X⌝ ∗ owns (c : Thread nD τ) (st0_6 t) fullShare X)
        ∗ (∃ X, ⌜(rdat m c).after 7 t (Y 7) X⌝ ∗ owns (c : Thread nD τ) (st0_7 t) fullShare X)) := by
  have e0 := holds_0 m c t _ (hY 0)
  have e1 := holds_1 m c t _ (hY 1)
  have e2 := holds_2 m c t _ (hY 2)
  have e3 := holds_3 m c t _ (hY 3)
  have e4 := holds_4 m c t _ (hY 4)
  have e5 := holds_5 m c t _ (hY 5)
  rw [show (rdat m c).Φ t.succ = (rdat m c).Φ t.castSucc from rfl,
    show (rdat m c).owesAt () t.succ = (rdat m c).owesAt () t.castSucc from rfl,
    show (rdat m c).Φ t.castSucc = iprop(Pipeline.scopedRest spec0 c ∗ ∃ r, prngReg c r) from rfl, scopedRest0_eq]
  simp only [after_0, after_1, after_2, after_3, after_4, after_5, after_6, after_7, owns_0, owns_1, owns_2, owns_3, owns_4, owns_5, owns_6, owns_7]
  iintro ⟨⟨⟨⟨%g0, G0⟩, ⟨%g1, G1⟩⟩, Hp⟩, Ho, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  rw [← h2] at e0; rw [← h3] at e1; rw [← h4] at e2; rw [← h5] at e3; rw [← h6] at e4; rw [← h7] at e5
  have L : Left m c t (Y 7) ((st0_6 t).view.read (Elt F) (outs c t f2 f3 f4 f5 f6 f7 f8 f9).1)
      ((st0_7 t).view.read (Elt F) (outs c t f2 f3 f4 f5 f6 f7 f8 f9).2) :=
    ⟨f2, f3, f4, f5, f6, f7, f8, f9, e0, e1, e2, e3, e4, e5, h9, rfl, rfl⟩
  iapply (run_at c t f2 f3 f4 f5 f6 f7 f8 f9 g0 g1 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [G0]; · iexact G0
  isplitl [G1]; · iexact G1
  iintro ⟨H2, H3, H4, H5, H6, H7, H8, H9, G0, G1⟩
  isplitl [G0 G1 Hp]
  · isplitl [G0 G1]
    · isplitl [G0]
      · iexact G0
      · iexact G1
    · iexact Hp
  isplitl [Ho]; · iexact Ho
  isplitl [H2]
  · iexists _; isplitr; · ipureintro; exact rfl
    iexists f2; isplitr; · ipureintro; exact h2
    iexact H2
  isplitl [H3]
  · iexists _; isplitr; · ipureintro; exact rfl
    iexists f3; isplitr; · ipureintro; exact h3
    iexact H3
  isplitl [H4]
  · iexists _; isplitr; · ipureintro; exact rfl
    iexists f4; isplitr; · ipureintro; exact h4
    iexact H4
  isplitl [H5]
  · iexists _; isplitr; · ipureintro; exact rfl
    iexists f5; isplitr; · ipureintro; exact h5
    iexact H5
  isplitl [H6]
  · iexists _; isplitr; · ipureintro; exact rfl
    iexists f6; isplitr; · ipureintro; exact h6
    iexact H6
  isplitl [H7]
  · iexists _; isplitr; · ipureintro; exact rfl
    iexists f7; isplitr; · ipureintro; exact h7
    iexact H7
  isplitl [H8]
  · iexists _; isplitr; · ipureintro; exact ⟨_, _, L⟩
    iexists _; isplitr; · ipureintro; exact rfl
    iexact H8
  iexists _; isplitr; · ipureintro; exact ⟨_, L⟩
  iexists _; isplitr; · ipureintro; exact rfl
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
/-- Every run ends, with the arrays at what `Left` allows, every other array as it was, and the semaphores at zero. -/
theorem run_main_quiescent : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hΦ := fun _ _ => rfl)

/-- Every run ends with the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent m ρ)

end Cert.KernelIdeal.Hand

end
-- ==== Proof.Softmax.lean ====
/- The joint softmax of three attention patterns over the extended reals: the three separate softmaxes, weighted by
   their log-sum-exps, are one softmax over the patterns' keys counted with multiplicity. -/
module

public import Idealize.ShloMosaic.PureOps.Ideal
public import Idealize.ShloMosaic.PureOps.Ideal.Laws

@[expose] public section

noncomputable section

namespace Cert.Attn

open Idealize.ShloMosaic

/-! ### The operations at reals and at the two infinities -/

theorem exp_coe (r : ℝ) : Ideal.exp (r : EReal) = (Real.exp r : EReal) := rfl
theorem exp_bot : Ideal.exp ⊥ = 0 := rfl
theorem log_pos {r : ℝ} (h : 0 < r) : Ideal.log (r : EReal) = (Real.log r : EReal) := by
  show (if r ≤ 0 then ⊥ else (Real.log r : EReal)) = _
  rw [if_neg (not_le.mpr h)]
theorem log_zero : Ideal.log 0 = ⊥ := by
  show (if (0 : ℝ) ≤ 0 then (⊥ : EReal) else (Real.log 0 : EReal)) = _
  rw [if_pos le_rfl]

/-- A difference from an infinity is never above `⊥` when the infinity is an upper bound. -/
theorem sub_eq_bot_of_le {x m : EReal} (h : x ≤ m) (hm : m = ⊤ ∨ m = ⊥) : x - m = ⊥ := by
  rcases hm with rfl | rfl
  · induction x using EReal.rec <;> simp [sub_eq_add_neg]
  · rw [le_bot_iff.mp h]; simp [sub_eq_add_neg]

/-- Below a real bound the exponential of the difference is a real that is not negative. -/
theorem exp_sub_real {x : EReal} {m : ℝ} (h : x ≤ m) : ∃ r : ℝ, 0 ≤ r ∧ Ideal.exp (x - m) = (r : EReal) := by
  induction x using EReal.rec with
  | bot => exact ⟨0, le_rfl, by simp [sub_eq_add_neg, exp_bot]⟩
  | coe a => exact ⟨Real.exp (a - m), (Real.exp_pos _).le, by rw [← EReal.coe_sub, exp_coe]⟩
  | top => exact absurd h (by simp)

theorem add_mul_real (x y : EReal) {c : ℝ} (hc : 0 ≤ c) : (x + y) * (c : EReal) = x * c + y * c := by
  rw [mul_comm, mul_comm x, mul_comm y]
  exact EReal.left_distrib_of_nonneg_of_ne_top (by exact_mod_cast hc) (by simp) x y

theorem sum_mul_real {ι : Type*} (s : Finset ι) (f : ι → EReal) {c : ℝ} (hc : 0 ≤ c) :
    (∑ i ∈ s, f i) * (c : EReal) = ∑ i ∈ s, f i * c := by
  classical
  induction s using Finset.induction_on with
  | empty => simp
  | insert a s h ih => rw [Finset.sum_insert h, Finset.sum_insert h, add_mul_real _ _ hc, ih]

theorem div_real (x : EReal) {c : ℝ} (hc : 0 < c) : Ideal.div x (c : EReal) = x * ((c⁻¹ : ℝ) : EReal) := by
  unfold Ideal.div
  rw [if_neg (by exact_mod_cast hc.ne'), EReal.coe_inv]

/-! ### Base two -/

theorem exp2_mul (x : EReal) {c : ℝ} (hc : c = (Real.log 2)⁻¹) : Ideal.exp2 (x * c) = Ideal.exp x := by
  have hl : 0 < Real.log 2 := Real.log_pos (by norm_num)
  have hp : 0 < c := by rw [hc]; exact inv_pos.mpr hl
  induction x using EReal.rec with
  | bot => rw [EReal.bot_mul_coe_of_pos hp]; rfl
  | top => rw [EReal.top_mul_coe_of_pos hp]; rfl
  | coe a =>
    rw [← EReal.coe_mul]
    show (Real.rpow 2 (a * c) : EReal) = (Real.exp a : EReal)
    congr 1
    show (2 : ℝ) ^ (a * c) = _
    rw [Real.rpow_def_of_pos (by norm_num)]
    congr 1
    rw [hc]; field_simp

theorem sub_mul_real (x y : EReal) {c : ℝ} (hc : 0 ≤ c) : (x - y) * (c : EReal) = x * c - y * c := by
  rw [sub_eq_add_neg, add_mul_real _ _ hc, EReal.neg_mul, sub_eq_add_neg]

theorem exp2_sub_mul (x y : EReal) {c : ℝ} (hc : c = (Real.log 2)⁻¹) :
    Ideal.exp2 (x * c - y * c) = Ideal.exp (x - y) := by
  have hl : 0 < Real.log 2 := Real.log_pos (by norm_num)
  rw [← sub_mul_real x y (by rw [hc]; exact (inv_pos.mpr hl).le), exp2_mul _ hc]

theorem mul_real_mono {c : ℝ} (hc : 0 ≤ c) : Monotone fun x : EReal => x * (c : EReal) := fun x y h =>
  mul_le_mul_of_nonneg_right h (by exact_mod_cast hc)

theorem sup_mul_real {ι : Type*} (s : Finset ι) (f : ι → EReal) {c : ℝ} (hc : 0 < c) :
    s.sup (fun i => f i * c) = s.sup f * c := by
  classical
  induction s using Finset.induction_on with
  | empty => simp [EReal.bot_mul_coe_of_pos hc]
  | insert a s h ih =>
    rw [Finset.sup_insert, Finset.sup_insert, ih]
    exact ((mul_real_mono hc.le).map_max (a := f a) (b := s.sup f)).symm

/-- Going to base two and back leaves a value as it is. -/
theorem mul_log2e_ln2 (x : EReal) : x * (((Real.log 2)⁻¹ : ℝ) : EReal) * ((Real.log 2 : ℝ) : EReal) = x := by
  rw [mul_assoc, ← EReal.coe_mul, inv_mul_cancel₀ (Real.log_pos (by norm_num)).ne', EReal.coe_one, mul_one]

/-! ### One query -/

variable {ι : Type*} [Fintype ι]

/-- The scores a mask lets through. -/
def msk (M : ι → Prop) [DecidablePred M] (s : ι → EReal) (t : ι) : EReal := if M t then s t else ⊥

/-- The exponentials of the masked scores, shifted by `m`. -/
def ex (M : ι → Prop) [DecidablePred M] (s : ι → EReal) (m : EReal) (t : ι) : EReal := Ideal.exp (msk M s t - m)

/-- Their sum. -/
def tot (M : ι → Prop) [DecidablePred M] (s : ι → EReal) (m : EReal) : EReal := ∑ t, ex M s m t

/-- The log-sum-exp. -/
def lse (M : ι → Prop) [DecidablePred M] (s : ι → EReal) (m : EReal) : EReal := m + Ideal.log (tot M s m)

/-- The logarithm of a sum of exponentials. -/
def lae (a b : EReal) : EReal := max a b + Ideal.log1p (Ideal.exp (0 - max (a - b) (-(a - b))))

/-- One pattern's part of the output, weighted by its share of the whole. -/
def part (M : ι → Prop) [DecidablePred M] (s vs v : ι → EReal) (m L : EReal) : EReal :=
  (∑ t, Ideal.div (ex M s m t) (tot M s m) * vs t * v t) * Ideal.exp (lse M s m - L)

theorem ex_nonneg_real (M : ι → Prop) [DecidablePred M] (s : ι → EReal) {m : ℝ} (h : ∀ t, msk M s t ≤ m) :
    ∃ e : ι → ℝ, (∀ t, 0 ≤ e t) ∧ ∀ t, ex M s m t = (e t : EReal) := by
  choose e he using fun t => exp_sub_real (h t)
  exact ⟨e, fun t => (he t).1, fun t => (he t).2⟩

theorem coe_sum (e : ι → ℝ) : (∑ t, (e t : EReal)) = ((∑ t, e t : ℝ) : EReal) := by
  classical
  have : ∀ s : Finset ι, (∑ t ∈ s, (e t : EReal)) = ((∑ t ∈ s, e t : ℝ) : EReal) := fun s => by
    induction s using Finset.induction_on with
    | empty => simp
    | insert a s h ih => rw [Finset.sum_insert h, Finset.sum_insert h, ih, EReal.coe_add]
  exact this _

/-- `m + log a`, with `a` real and not negative. -/
def lg (m a : ℝ) : EReal := (m : EReal) + Ideal.log (a : EReal)

theorem lg_zero (m : ℝ) : lg m 0 = ⊥ := by unfold lg; rw [EReal.coe_zero, log_zero]; simp
theorem lg_pos (m : ℝ) {a : ℝ} (h : 0 < a) : lg m a = ((m + Real.log a : ℝ) : EReal) := by
  unfold lg; rw [log_pos h, EReal.coe_add]

theorem lae_bot_right (a : EReal) (h : a ≠ ⊤) : lae a ⊥ = a := by
  unfold lae Ideal.log1p
  induction a using EReal.rec with
  | bot => simp [sub_eq_add_neg, exp_bot]
  | coe r =>
    have : ((r : EReal) - ⊥) = ⊤ := by simp [sub_eq_add_neg]
    rw [this]
    simp only [EReal.neg_top, max_bot_right, sub_eq_add_neg, zero_add, exp_bot, add_zero]
    rw [← EReal.coe_one, log_pos one_pos, Real.log_one]; simp
  | top => exact absurd rfl h

theorem coe_max (a b : ℝ) : max (a : EReal) (b : EReal) = ((max a b : ℝ) : EReal) :=
  ((show Monotone fun x : ℝ => (x : EReal) from fun _ _ h => EReal.coe_le_coe_iff.mpr h).map_max).symm

theorem lae_real (a b : ℝ) : lae (a : EReal) b = ((max a b + Real.log (1 + Real.exp (-|a - b|)) : ℝ) : EReal) := by
  unfold lae Ideal.log1p
  rw [← EReal.coe_sub, ← EReal.coe_neg, coe_max, coe_max, ← EReal.coe_zero, ← EReal.coe_sub, exp_coe,
    ← EReal.coe_one, ← EReal.coe_add, log_pos (by positivity), ← EReal.coe_add]
  congr 3
  rw [zero_sub]; rfl

theorem lae_bot_left (a : EReal) (h : a ≠ ⊤) : lae ⊥ a = a := by
  unfold lae Ideal.log1p
  induction a using EReal.rec with
  | bot => simp [sub_eq_add_neg, exp_bot]
  | coe r =>
    have : ((⊥ : EReal) - r) = ⊥ := by simp [sub_eq_add_neg]
    rw [this]
    simp only [EReal.neg_bot, max_top_right, sub_eq_add_neg, EReal.neg_top, zero_add, exp_bot, add_zero]
    rw [← EReal.coe_one, log_pos one_pos, Real.log_one]; simp
  | top => exact absurd rfl h

theorem real_lae (a b : ℝ) : max a b + Real.log (1 + Real.exp (-|a - b|)) = Real.log (Real.exp a + Real.exp b) := by
  rcases le_total a b with h | h
  · rw [max_eq_right h, abs_of_nonpos (sub_nonpos.mpr h), neg_neg]
    have : Real.exp a + Real.exp b = Real.exp b * (1 + Real.exp (a - b)) := by
      rw [mul_add, ← Real.exp_add]; ring_nf
    rw [this, Real.log_mul (Real.exp_pos _).ne' (by positivity), Real.log_exp]
  · rw [max_eq_left h, abs_of_nonneg (sub_nonneg.mpr h)]
    have : Real.exp a + Real.exp b = Real.exp a * (1 + Real.exp (-(a - b))) := by
      rw [mul_add, ← Real.exp_add]; ring_nf
    rw [this, Real.log_mul (Real.exp_pos _).ne' (by positivity), Real.log_exp]

/-- The log-sum-exps of two disjoint collections combine to the log-sum-exp of both. -/
theorem lae_lg (m : ℝ) {a b : ℝ} (ha : 0 ≤ a) (hb : 0 ≤ b) : lae (lg m a) (lg m b) = lg m (a + b) := by
  rcases ha.eq_or_lt with rfl | ha
  · rw [lg_zero, zero_add]
    refine lae_bot_left _ ?_
    rcases hb.eq_or_lt with rfl | hb
    · rw [lg_zero]; simp
    · rw [lg_pos m hb]; exact EReal.coe_ne_top _
  rcases hb.eq_or_lt with rfl | hb
  · rw [lg_zero, add_zero, lg_pos m ha]
    exact lae_bot_right _ (EReal.coe_ne_top _)
  rw [lg_pos m ha, lg_pos m hb, lae_real, real_lae, lg_pos m (by positivity)]
  congr 1
  rw [Real.exp_add, Real.exp_add, Real.exp_log ha, Real.exp_log hb, ← mul_add,
    Real.log_mul (Real.exp_pos _).ne' (by positivity), Real.log_exp]

theorem exp_lg_sub (m : ℝ) {a T : ℝ} (ha : 0 ≤ a) (hT : 0 < T) :
    Ideal.exp (lg m a - lg m T) = ((a / T : ℝ) : EReal) := by
  rw [lg_pos m hT]
  rcases ha.eq_or_lt with rfl | ha
  · rw [lg_zero]; simp [sub_eq_add_neg, exp_bot]
  rw [lg_pos m ha, ← EReal.coe_sub, exp_coe]
  congr 1
  rw [show m + Real.log a - (m + Real.log T) = Real.log a - Real.log T by ring, Real.exp_sub, Real.exp_log ha,
    Real.exp_log hT]

/-- A pattern's weighted part, when the shift is real: its keys' values under the common denominator. -/
theorem part_real (M : ι → Prop) [DecidablePred M] (s vs v : ι → EReal) {m : ℝ} (h : ∀ t, msk M s t ≤ m)
    {a T : ℝ} (hT : 0 < T) (ha : tot M s m = (a : EReal)) :
    part M s vs v m (lg m T) = (∑ t, v t * vs t * ex M s m t) * ((T⁻¹ : ℝ) : EReal) := by
  obtain ⟨e, he, hex⟩ := ex_nonneg_real M s h
  have hae : a = ∑ t, e t := by
    have h1 := ha
    unfold tot at h1
    rw [Finset.sum_congr rfl fun t _ => hex t, coe_sum] at h1
    exact_mod_cast h1.symm
  have ha0 : 0 ≤ a := hae ▸ Finset.sum_nonneg fun t _ => he t
  unfold part
  rw [show lse M s m = lg m a by unfold lse lg; rw [ha], exp_lg_sub m ha0 hT]
  rcases ha0.eq_or_lt with h0 | h0
  · have hz : ∀ t, e t = 0 := fun t =>
      (Finset.sum_eq_zero_iff_of_nonneg fun t _ => he t).mp (hae.symm.trans h0.symm) t (Finset.mem_univ t)
    rw [← h0]
    simp [hex, hz]
  rw [sum_mul_real _ _ (by positivity), sum_mul_real _ _ (by positivity)]
  refine Finset.sum_congr rfl fun t _ => ?_
  rw [ha, div_real _ h0, hex]
  have : ((a / T : ℝ) : EReal) = (a : EReal) * ((T⁻¹ : ℝ) : EReal) := by rw [← EReal.coe_mul]; rfl
  rw [this]
  have h1 : ((a⁻¹ : ℝ) : EReal) * (a : EReal) = 1 := by
    rw [← EReal.coe_mul, inv_mul_cancel₀ h0.ne', EReal.coe_one]
  calc (e t : EReal) * ((a⁻¹ : ℝ) : EReal) * vs t * v t * ((a : EReal) * ((T⁻¹ : ℝ) : EReal))
      = (((a⁻¹ : ℝ) : EReal) * (a : EReal)) * (v t * vs t * (e t : EReal) * ((T⁻¹ : ℝ) : EReal)) := by ac_rfl
    _ = _ := by rw [h1, one_mul]

/-- With an infinite shift that bounds the scores every exponential is zero. -/
theorem ex_inf (M : ι → Prop) [DecidablePred M] (s : ι → EReal) {m : EReal} (h : ∀ t, msk M s t ≤ m)
    (hm : m = ⊤ ∨ m = ⊥) (t : ι) : ex M s m t = 0 := by
  unfold ex; rw [sub_eq_bot_of_le (h t) hm, exp_bot]

theorem tot_inf (M : ι → Prop) [DecidablePred M] (s : ι → EReal) {m : EReal} (h : ∀ t, msk M s t ≤ m)
    (hm : m = ⊤ ∨ m = ⊥) : tot M s m = 0 := by
  unfold tot; exact Finset.sum_eq_zero fun t _ => ex_inf M s h hm t

/-! ### The three patterns together -/

section Three

variable (M₀ M₁ M₂ : ι → Prop) [DecidablePred M₀] [DecidablePred M₁] [DecidablePred M₂] (s vs v : ι → EReal)

/-- The largest score any pattern lets through. -/
def top3 : EReal := Finset.univ.sup (msk (fun t => M₀ t ∨ M₁ t ∨ M₂ t) s)

/-- The denominator: every pattern's exponentials. -/
def den3 (m : EReal) : EReal := tot M₀ s m + tot M₁ s m + tot M₂ s m

/-- The reference's log-sum-exp. -/
def refL : EReal :=
  lae (lae (lse M₀ s (top3 M₀ M₁ M₂ s)) (lse M₁ s (top3 M₀ M₁ M₂ s))) (lse M₂ s (top3 M₀ M₁ M₂ s))

/-- The reference's output. -/
def refO : EReal :=
  part M₀ s vs v (top3 M₀ M₁ M₂ s) (refL M₀ M₁ M₂ s) + part M₁ s vs v (top3 M₀ M₁ M₂ s) (refL M₀ M₁ M₂ s)
    + part M₂ s vs v (top3 M₀ M₁ M₂ s) (refL M₀ M₁ M₂ s)

/-- The values under the exponentials. -/
def num3 (m : EReal) : EReal :=
  ∑ t, v t * vs t * ex M₀ s m t + ∑ t, v t * vs t * ex M₁ s m t + ∑ t, v t * vs t * ex M₂ s m t

theorem le_top3 (t : ι) : msk (fun t => M₀ t ∨ M₁ t ∨ M₂ t) s t ≤ top3 M₀ M₁ M₂ s :=
  Finset.le_sup (f := msk (fun t => M₀ t ∨ M₁ t ∨ M₂ t) s) (Finset.mem_univ t)

theorem le_top3_of (M : ι → Prop) [DecidablePred M] (hM : ∀ t, M t → M₀ t ∨ M₁ t ∨ M₂ t) (t : ι) :
    msk M s t ≤ top3 M₀ M₁ M₂ s := by
  refine le_trans ?_ (le_top3 M₀ M₁ M₂ s t)
  unfold msk
  by_cases h : M t
  · rw [if_pos h, if_pos (hM t h)]
  · rw [if_neg h]; exact bot_le

/-- What the reference computes at one query. -/
theorem ref_eq : refL M₀ M₁ M₂ s = top3 M₀ M₁ M₂ s + Ideal.log (den3 M₀ M₁ M₂ s (top3 M₀ M₁ M₂ s)) ∧
    refO M₀ M₁ M₂ s vs v = num3 M₀ M₁ M₂ s vs v (top3 M₀ M₁ M₂ s) * Ideal.div 1 (den3 M₀ M₁ M₂ s (top3 M₀ M₁ M₂ s)) := by
  have h0 := le_top3_of M₀ M₁ M₂ s M₀ fun t h => .inl h
  have h1 := le_top3_of M₀ M₁ M₂ s M₁ fun t h => .inr (.inl h)
  have h2 := le_top3_of M₀ M₁ M₂ s M₂ fun t h => .inr (.inr h)
  have hinf : ∀ m : EReal, m = top3 M₀ M₁ M₂ s → (m = ⊤ ∨ m = ⊥) →
      refL M₀ M₁ M₂ s = m + Ideal.log (den3 M₀ M₁ M₂ s m) ∧
      refO M₀ M₁ M₂ s vs v = num3 M₀ M₁ M₂ s vs v m * Ideal.div 1 (den3 M₀ M₁ M₂ s m) := by
    intro m hm hi
    rw [← hm] at h0 h1 h2
    have t0 := tot_inf M₀ s h0 hi
    have t1 := tot_inf M₁ s h1 hi
    have t2 := tot_inf M₂ s h2 hi
    have hl0 : lse M₀ s m = ⊥ := by unfold lse; rw [t0, log_zero]; simp
    have hl1 : lse M₁ s m = ⊥ := by unfold lse; rw [t1, log_zero]; simp
    have hl2 : lse M₂ s m = ⊥ := by unfold lse; rw [t2, log_zero]; simp
    have hL : refL M₀ M₁ M₂ s = ⊥ := by
      unfold refL
      rw [← hm, hl0, hl1, hl2, lae_bot_right ⊥ (by simp), lae_bot_right ⊥ (by simp)]
    constructor
    · rw [hL]; unfold den3; rw [t0, t1, t2, add_zero, add_zero, log_zero]; simp
    · have hp : ∀ (M : ι → Prop) [DecidablePred M], lse M s m = ⊥ → part M s vs v m ⊥ = 0 := by
        intro M _ hl; unfold part; rw [hl]; simp [sub_eq_add_neg, exp_bot]
      unfold refO num3
      rw [hL, ← hm, hp M₀ hl0, hp M₁ hl1, hp M₂ hl2]
      simp [ex_inf M₀ s h0 hi, ex_inf M₁ s h1 hi, ex_inf M₂ s h2 hi]
  have hcase : ∀ x : EReal, x = ⊥ ∨ x = ⊤ ∨ ∃ m : ℝ, x = (m : EReal) := fun x => by
    induction x using EReal.rec <;> simp
  rcases hcase (top3 M₀ M₁ M₂ s) with htop | htop | ⟨m, htop⟩
  · exact hinf _ rfl (.inr htop)
  · exact hinf _ rfl (.inl htop)
  · rw [htop] at h0 h1 h2
    obtain ⟨e0, p0, x0⟩ := ex_nonneg_real M₀ s h0
    obtain ⟨e1, p1, x1⟩ := ex_nonneg_real M₁ s h1
    obtain ⟨e2, p2, x2⟩ := ex_nonneg_real M₂ s h2
    have t0 : tot M₀ s m = ((∑ t, e0 t : ℝ) : EReal) := by
      unfold tot; rw [Finset.sum_congr rfl fun t _ => x0 t, coe_sum]
    have t1 : tot M₁ s m = ((∑ t, e1 t : ℝ) : EReal) := by
      unfold tot; rw [Finset.sum_congr rfl fun t _ => x1 t, coe_sum]
    have t2 : tot M₂ s m = ((∑ t, e2 t : ℝ) : EReal) := by
      unfold tot; rw [Finset.sum_congr rfl fun t _ => x2 t, coe_sum]
    have q0 : 0 ≤ ∑ t, e0 t := Finset.sum_nonneg fun t _ => p0 t
    have q1 : 0 ≤ ∑ t, e1 t := Finset.sum_nonneg fun t _ => p1 t
    have q2 : 0 ≤ ∑ t, e2 t := Finset.sum_nonneg fun t _ => p2 t
    have hden : den3 M₀ M₁ M₂ s m = ((∑ t, e0 t + ∑ t, e1 t + ∑ t, e2 t : ℝ) : EReal) := by
      unfold den3; rw [t0, t1, t2, EReal.coe_add, EReal.coe_add]
    have hT : 0 < ∑ t, e0 t + ∑ t, e1 t + ∑ t, e2 t := by
      have hne : (Finset.univ : Finset ι).Nonempty := by
        rcases (Finset.univ : Finset ι).eq_empty_or_nonempty with h | h
        · unfold top3 at htop; rw [h, Finset.sup_empty] at htop; exact absurd htop (by simp)
        · exact h
      obtain ⟨t, -, ht⟩ := Finset.exists_mem_eq_sup _ hne (msk (fun t => M₀ t ∨ M₁ t ∨ M₂ t) s)
      have ht' : msk (fun t => M₀ t ∨ M₁ t ∨ M₂ t) s t = (m : EReal) := by rw [← ht]; exact htop
      unfold msk at ht'
      have key : ∀ (M : ι → Prop) [DecidablePred M] (e : ι → ℝ), M t → s t = (m : EReal) →
          (∀ t, ex M s m t = (e t : EReal)) → 0 < e t := by
        intro M _ e hM hs hx
        have := hx t
        unfold ex msk at this
        rw [if_pos hM, hs, ← EReal.coe_sub, exp_coe, sub_self, Real.exp_zero] at this
        have : e t = 1 := by exact_mod_cast this.symm
        rw [this]; exact one_pos
      split at ht'
      · rename_i hM
        rcases hM with hM | hM | hM
        · have := lt_of_lt_of_le (key M₀ e0 hM ht' x0) (Finset.single_le_sum (fun t _ => p0 t) (Finset.mem_univ t))
          linarith
        · have := lt_of_lt_of_le (key M₁ e1 hM ht' x1) (Finset.single_le_sum (fun t _ => p1 t) (Finset.mem_univ t))
          linarith
        · have := lt_of_lt_of_le (key M₂ e2 hM ht' x2) (Finset.single_le_sum (fun t _ => p2 t) (Finset.mem_univ t))
          linarith
      · exact absurd ht' (by simp)
    have hl : ∀ (M : ι → Prop) [DecidablePred M] (a : ℝ), tot M s m = (a : EReal) → lse M s m = lg m a := by
      intro M _ a h; unfold lse lg; rw [h]
    have hL : refL M₀ M₁ M₂ s = lg m (∑ t, e0 t + ∑ t, e1 t + ∑ t, e2 t) := by
      unfold refL
      rw [htop, hl M₀ _ t0, hl M₁ _ t1, hl M₂ _ t2, lae_lg m q0 q1, lae_lg m (by positivity) q2]
    rw [htop]
    constructor
    · rw [hL, hden]; rfl
    · unfold refO num3
      rw [hL, htop, part_real M₀ s vs v h0 hT t0, part_real M₁ s vs v h1 hT t1, part_real M₂ s vs v h2 hT t2, hden,
        div_real _ hT, one_mul, ← add_mul_real _ _ (by positivity), ← add_mul_real _ _ (by positivity)]

end Three

end Cert.Attn

end
-- ==== Proof.Lane.lean ====
/- A query that sees one pattern only: the joint softmax is the softmax of that pattern's segment, in base two. -/
module

public import proofs.«01_k».proof.Proof.Softmax

@[expose] public section

noncomputable section

namespace Cert.Attn

open Idealize.ShloMosaic

/-- Whether query `q` sees key `t` in head `h` under the pattern of segments of `w` positions, every `d`-th. -/
def Pat (w d h q t : ℕ) : Prop := (q % d = h % d ∧ t % d = h % d) ∧ q / w = t / w ∧ t ≤ q

instance (w d h q t : ℕ) : Decidable (Pat w d h q t) := by unfold Pat; infer_instance

/-- A query outside the dilated pattern's residue sees its own segment only. -/
theorem pat_dilated (w d h q t : ℕ) (hd : 4 ∣ d) (hq : q % 4 ≠ h % 4) : ¬ Pat w d h q t := by
  rintro ⟨⟨e, _⟩, _⟩
  have := congrArg (· % 4) e
  simp only [Nat.mod_mod_of_dvd _ hd] at this
  exact hq this

variable {ι κ : Type} [Fintype ι] [Fintype κ] [DecidableEq ι]

theorem bot_sub (m : EReal) : (⊥ : EReal) - m = ⊥ := by rw [sub_eq_add_neg, EReal.bot_add]

theorem ex_of_not (M : ι → Prop) [DecidablePred M] (s : ι → EReal) (m : EReal) (t : ι) (h : ¬ M t) : ex M s m t = 0 := by
  unfold ex msk; rw [if_neg h, bot_sub, exp_bot]

theorem tot_of_not (M : ι → Prop) [DecidablePred M] (s : ι → EReal) (m : EReal) (h : ∀ t, ¬ M t) : tot M s m = 0 :=
  Finset.sum_eq_zero fun t _ => ex_of_not M s m t (h t)

theorem lane (M₀ M₁ M₂ : ι → Prop) [DecidablePred M₀] [DecidablePred M₁] [DecidablePred M₂] (s vs v : ι → EReal)
    (e : κ → ι) (he : Function.Injective e) (p : κ → Prop) [DecidablePred p]
    (h0 : ∀ i, M₀ i ↔ ∃ t, p t ∧ e t = i) (h1 : ∀ i, ¬ M₁ i) (h2 : ∀ i, ¬ M₂ i)
    (T : κ → EReal) (hT : ∀ t, T t = if p t then s (e t) * (((Real.log 2)⁻¹ : ℝ) : EReal) else ⊥) :
    (Finset.univ.sup T + Ideal.log (∑ t, Ideal.exp2 (T t - Finset.univ.sup T)) * (((Real.log 2)⁻¹ : ℝ) : EReal))
        * ((Real.log 2 : ℝ) : EReal) = refL M₀ M₁ M₂ s ∧
    (∑ t, (v (e t) * vs (e t)) * Ideal.exp2 (T t - Finset.univ.sup T))
        * Ideal.div 1 (∑ t, Ideal.exp2 (T t - Finset.univ.sup T)) = refO M₀ M₁ M₂ s vs v := by
  have hl : 0 < Real.log 2 := Real.log_pos (by norm_num)
  have hc : 0 < (Real.log 2)⁻¹ := inv_pos.mpr hl
  have hT' : T = fun t => msk M₀ s (e t) * (((Real.log 2)⁻¹ : ℝ) : EReal) := funext fun t => by
    rw [hT t]; unfold msk
    by_cases hp : p t
    · rw [if_pos hp, if_pos ((h0 _).mpr ⟨t, hp, rfl⟩)]
    · rw [if_neg hp, if_neg (fun h => by obtain ⟨t', ht', e'⟩ := (h0 _).mp h; exact hp (he e' ▸ ht')),
        EReal.bot_mul_coe_of_pos hc]
  have hm : Finset.univ.sup (fun t => msk M₀ s (e t)) = top3 M₀ M₁ M₂ s := by
    have hu : (msk (fun t => M₀ t ∨ M₁ t ∨ M₂ t) s) = msk M₀ s := funext fun t => by unfold msk; simp [h1, h2]
    unfold top3
    rw [hu]
    apply le_antisymm
    · exact Finset.sup_le fun t _ => Finset.le_sup (f := msk M₀ s) (Finset.mem_univ _)
    · refine Finset.sup_le fun i _ => ?_
      by_cases hi : M₀ i
      · obtain ⟨t, _, rfl⟩ := (h0 i).mp hi
        exact Finset.le_sup (f := fun t => msk M₀ s (e t)) (Finset.mem_univ t)
      · unfold msk; rw [if_neg hi]; exact bot_le
  have hS : Finset.univ.sup T = top3 M₀ M₁ M₂ s * (((Real.log 2)⁻¹ : ℝ) : EReal) := by
    rw [hT', sup_mul_real _ _ hc, hm]
  have hP : ∀ t, Ideal.exp2 (T t - Finset.univ.sup T) = ex M₀ s (top3 M₀ M₁ M₂ s) (e t) := fun t => by
    rw [hS, hT', exp2_sub_mul _ _ rfl]; rfl
  have hsum : ∀ f : ι → EReal, (∀ i, ¬ M₀ i → f i = 0) → ∑ t, f (e t) = ∑ i, f i := fun f hf => by
    refine (Finset.sum_map Finset.univ ⟨e, he⟩ f).symm.trans ?_
    refine Finset.sum_subset (Finset.subset_univ _) fun i _ hi => hf i fun hM => hi ?_
    obtain ⟨t, _, rfl⟩ := (h0 i).mp hM
    exact Finset.mem_map_of_mem ⟨e, he⟩ (Finset.mem_univ t)
  have hd : ∑ t, Ideal.exp2 (T t - Finset.univ.sup T) = den3 M₀ M₁ M₂ s (top3 M₀ M₁ M₂ s) := by
    unfold den3
    rw [tot_of_not M₁ _ _ h1, tot_of_not M₂ _ _ h2, add_zero, add_zero]
    exact (Finset.sum_congr rfl fun t _ => hP t).trans (hsum _ fun i hi => ex_of_not _ _ _ _ hi)
  obtain ⟨hL, hO⟩ := ref_eq M₀ M₁ M₂ s vs v
  constructor
  · rw [hd, hL, hS, ← add_mul_real _ _ hc.le, mul_log2e_ln2]
  · rw [hd, hO]
    congr 1
    unfold num3
    have z1 : ∑ i, v i * vs i * ex M₁ s (top3 M₀ M₁ M₂ s) i = 0 :=
      Finset.sum_eq_zero fun i _ => by rw [ex_of_not M₁ _ _ _ (h1 i), mul_zero]
    have z2 : ∑ i, v i * vs i * ex M₂ s (top3 M₀ M₁ M₂ s) i = 0 :=
      Finset.sum_eq_zero fun i _ => by rw [ex_of_not M₂ _ _ _ (h2 i), mul_zero]
    rw [z1, z2, add_zero, add_zero]
    exact (Finset.sum_congr rfl fun t _ => by rw [hP t]).trans
      (hsum (fun i => v i * vs i * ex M₀ s (top3 M₀ M₁ M₂ s) i) fun i hi => by rw [ex_of_not M₀ _ _ _ hi, mul_zero])

end Cert.Attn

end
-- ==== Proof.Lane2.lean ====
/- A query of the dilated patterns: the joint softmax over its own keys and the dilated keys, each of those counted as
   often as a pattern lets it through, is the reference's, in base two and under any real shift. -/
module

public import proofs.«01_k».proof.Proof.Lane

@[expose] public section

noncomputable section

namespace Cert.Attn

open Idealize.ShloMosaic

theorem exp2_sub_real (x : EReal) (u m : ℝ) :
    Ideal.exp2 (x - m) = Ideal.exp2 (x - u) * (((2 : ℝ) ^ (u - m) : ℝ) : EReal) := by
  have hk : 0 < (2 : ℝ) ^ (u - m) := Real.rpow_pos_of_pos (by norm_num) _
  induction x using EReal.rec with
  | bot => rw [bot_sub, bot_sub]; show (0 : EReal) = 0 * _; rw [zero_mul]
  | top => rw [EReal.top_sub_coe, EReal.top_sub_coe]; show (⊤ : EReal) = ⊤ * _; rw [EReal.top_mul_coe_of_pos hk]
  | coe a =>
    rw [← EReal.coe_sub, ← EReal.coe_sub]
    show (((2 : ℝ) ^ (a - m) : ℝ) : EReal) = (((2 : ℝ) ^ (a - u) : ℝ) : EReal) * _
    rw [← EReal.coe_mul, ← Real.rpow_add (by norm_num)]
    congr 2; ring

theorem exp2_succ (x : EReal) : Ideal.exp2 (x + 1) = Ideal.exp2 x + Ideal.exp2 x := by
  induction x using EReal.rec with
  | bot => rw [EReal.bot_add]; show (0 : EReal) = 0 + 0; rw [zero_add]
  | top => show Ideal.exp2 (⊤ + ((1 : ℝ) : EReal)) = _; rw [EReal.top_add_coe]; rfl
  | coe a =>
    show Ideal.exp2 ((a : EReal) + ((1 : ℝ) : EReal)) = _
    rw [← EReal.coe_add]
    show (((2 : ℝ) ^ (a + 1) : ℝ) : EReal) = (((2 : ℝ) ^ a : ℝ) : EReal) + (((2 : ℝ) ^ a : ℝ) : EReal)
    rw [← EReal.coe_add, Real.rpow_add (by norm_num), Real.rpow_one]
    congr 1; ring

theorem log_mul_real (x : EReal) {k : ℝ} (hk : 0 < k) : Ideal.log (x * k) = Ideal.log x + (Real.log k : ℝ) := by
  induction x using EReal.rec with
  | bot => rw [EReal.bot_mul_coe_of_pos hk]; show (⊥ : EReal) = ⊥ + _; rw [EReal.bot_add]
  | top => rw [EReal.top_mul_coe_of_pos hk]; show (⊤ : EReal) = ⊤ + _; rw [EReal.top_add_coe]
  | coe a =>
    rw [← EReal.coe_mul]
    by_cases ha : a ≤ 0
    · show (if a * k ≤ 0 then (⊥ : EReal) else _) = (if a ≤ 0 then (⊥ : EReal) else _) + _
      rw [if_pos (mul_nonpos_of_nonpos_of_nonneg ha hk.le), if_pos ha, EReal.bot_add]
    · have ha' := not_le.mp ha
      rw [log_pos ha', log_pos (mul_pos ha' hk), Real.log_mul ha'.ne' hk.ne', EReal.coe_add]

theorem div_one_mul (x : EReal) {k : ℝ} (hk : 0 < k) : Ideal.div 1 (x * k) * k = Ideal.div 1 x := by
  induction x using EReal.rec with
  | bot => rw [EReal.bot_mul_coe_of_pos hk]; simp [Ideal.div]
  | top => rw [EReal.top_mul_coe_of_pos hk]; simp [Ideal.div]
  | coe a =>
    rw [← EReal.coe_mul]
    by_cases ha : a = 0
    · subst ha; simp [Ideal.div, EReal.top_mul_coe_of_pos hk]
    · have h1 : ((a * k : ℝ) : EReal) ≠ 0 := by exact_mod_cast mul_ne_zero ha hk.ne'
      have h2 : (a : EReal) ≠ 0 := by exact_mod_cast ha
      unfold Ideal.div
      rw [if_neg h1, if_neg h2, one_mul, one_mul, ← EReal.coe_inv, ← EReal.coe_inv, ← EReal.coe_mul]
      congr 1; field_simp

variable {ι κ μ : Type} [Fintype ι] [Fintype κ] [Fintype μ] [DecidableEq ι]

theorem sum_inj {f : ι → EReal} (e : κ → ι) (he : Function.Injective e) (hf : ∀ i, (∀ t, e t ≠ i) → f i = 0) :
    ∑ t, f (e t) = ∑ i, f i := by
  refine (Finset.sum_map Finset.univ ⟨e, he⟩ f).symm.trans ?_
  refine Finset.sum_subset (Finset.subset_univ _) fun i _ hi => hf i fun t ht => hi ?_
  exact Finset.mem_map.mpr ⟨t, Finset.mem_univ t, ht⟩

/-- The dilated keys' scores: one more for a key two patterns let through, none for a key no pattern does. -/
def dil (b₁ b₂ : Prop) [Decidable b₁] [Decidable b₂] (y : EReal) : EReal :=
  if b₁ then (if b₂ then y + 1 else y) else if b₂ then y else ⊥

theorem dil_le (b₁ b₂ : Prop) [Decidable b₁] [Decidable b₂] (y : EReal) : dil b₁ b₂ y ≤ y + 1 := by
  have h : y ≤ y + 1 := le_add_of_nonneg_right zero_le_one
  unfold dil; split_ifs <;> first | exact le_rfl | exact h | exact bot_le

theorem le_dil (b₁ b₂ : Prop) [Decidable b₁] [Decidable b₂] (y : EReal) (hb : b₁ ∨ b₂) : y ≤ dil b₁ b₂ y := by
  have h : y ≤ y + 1 := le_add_of_nonneg_right zero_le_one
  unfold dil; split_ifs <;> first | exact le_rfl | exact h | (exfalso; tauto)

theorem exp2_dil (b₁ b₂ : Prop) [Decidable b₁] [Decidable b₂] (y m : EReal) :
    Ideal.exp2 (dil b₁ b₂ y - m) = (if b₁ then Ideal.exp2 (y - m) else 0) + (if b₂ then Ideal.exp2 (y - m) else 0) := by
  have h0 : Ideal.exp2 ((⊥ : EReal) - m) = 0 := by rw [bot_sub]; rfl
  have h2 : Ideal.exp2 (y + 1 - m) = Ideal.exp2 (y - m) + Ideal.exp2 (y - m) := by
    rw [← exp2_succ]; congr 1; rw [sub_eq_add_neg, sub_eq_add_neg, add_right_comm]
  unfold dil; split_ifs <;> simp only [h0, h2, add_zero, zero_add]

theorem exp2_msk (b : Prop) [Decidable b] (y m : EReal) :
    (if b then Ideal.exp2 (y - m) else 0) = Ideal.exp2 ((if b then y else ⊥) - m) := by
  have h0 : Ideal.exp2 ((⊥ : EReal) - m) = 0 := by rw [bot_sub]; rfl
  split_ifs
  · rfl
  · exact h0.symm

theorem lane2 (M₀ M₁ M₂ : ι → Prop) [DecidablePred M₀] [DecidablePred M₁] [DecidablePred M₂] (s vs v : ι → EReal)
    (e : κ → ι) (he : Function.Injective e) (p : κ → Prop) [DecidablePred p] (h0 : ∀ t, M₀ (e t) ↔ p t)
    (h0' : ∀ i, M₀ i → ∃ t, e t = i)
    (e₄ : μ → ι) (he₄ : Function.Injective e₄)
    (h1 : ∀ i, M₁ i → ∃ j, e₄ j = i) (h2 : ∀ i, M₂ i → ∃ j, e₄ j = i)
    (T : κ → EReal) (hT : ∀ t, T t = if p t then s (e t) * (((Real.log 2)⁻¹ : ℝ) : EReal) else ⊥)
    (T₄ : μ → EReal) (hT₄ : ∀ j, T₄ j = dil (M₁ (e₄ j)) (M₂ (e₄ j)) (s (e₄ j) * (((Real.log 2)⁻¹ : ℝ) : EReal)))
    (M : EReal) (hM : M = max (Finset.univ.sup T) (Finset.univ.sup T₄)) :
    (M + Ideal.log (∑ t, Ideal.exp2 (T t - M) + ∑ j, Ideal.exp2 (T₄ j - M)) * (((Real.log 2)⁻¹ : ℝ) : EReal))
        * ((Real.log 2 : ℝ) : EReal) = refL M₀ M₁ M₂ s ∧
    (∑ t, (v (e t) * vs (e t)) * Ideal.exp2 (T t - M) + ∑ j, (v (e₄ j) * vs (e₄ j)) * Ideal.exp2 (T₄ j - M))
        * Ideal.div 1 (∑ t, Ideal.exp2 (T t - M) + ∑ j, Ideal.exp2 (T₄ j - M)) = refO M₀ M₁ M₂ s vs v := by
  have hl : 0 < Real.log 2 := Real.log_pos (by norm_num)
  have hc : 0 < (Real.log 2)⁻¹ := inv_pos.mpr hl
  generalize hcc : (Real.log 2)⁻¹ = c at *
  -- each term is the reference's up to one factor
  set A := top3 M₀ M₁ M₂ s with hA
  have hle : ∀ i, (M₀ i ∨ M₁ i ∨ M₂ i) → s i * c ≤ A * c := fun i hi => by
    refine mul_real_mono hc.le ?_
    have := le_top3 M₀ M₁ M₂ s i
    unfold msk at this; rwa [if_pos hi] at this
  have hTle : ∀ t, T t ≤ A * c := fun t => by
    rw [hT]; split_ifs with h
    · exact hle _ (.inl ((h0 t).mpr h))
    · exact bot_le
  have hT₄le : ∀ j, T₄ j ≤ A * c + 1 := fun j => by
    rw [hT₄]
    by_cases hb : M₁ (e₄ j) ∨ M₂ (e₄ j)
    · exact (dil_le _ _ _).trans (add_le_add_left (hle _ (.inr hb)) 1)
    · unfold dil; rw [if_neg (fun h => hb (.inl h)), if_neg (fun h => hb (.inr h))]; exact bot_le
  have hMle : M ≤ A * c + 1 := by
    rw [hM]
    refine max_le (Finset.sup_le fun t _ => (hTle t).trans (le_add_of_nonneg_right zero_le_one)) (Finset.sup_le fun j _ => hT₄le j)
  have hAM : A * c ≤ M := by
    rw [hA, top3, ← sup_mul_real _ _ hc]
    refine Finset.sup_le fun i _ => ?_
    unfold msk
    split_ifs with hi
    · rw [hM]
      rcases hi with hi | hi
      · obtain ⟨t, rfl⟩ := h0' i hi
        refine le_trans ?_ (le_max_left _ _)
        refine le_trans ?_ (Finset.le_sup (f := T) (Finset.mem_univ t))
        rw [hT, if_pos ((h0 t).mp hi)]
      · obtain ⟨j, rfl⟩ : ∃ j, e₄ j = i := hi.elim (h1 i) (h2 i)
        refine le_trans ?_ (le_max_right _ _)
        refine le_trans ?_ (Finset.le_sup (f := T₄) (Finset.mem_univ j))
        rw [hT₄]; exact le_dil _ _ _ hi
    · rw [EReal.bot_mul_coe_of_pos hc]; exact bot_le
  obtain ⟨k, hk, hfac, hlog⟩ : ∃ k : ℝ, 0 < k ∧
      (∀ (P : ι → Prop) [DecidablePred P], (∀ i, P i → M₀ i ∨ M₁ i ∨ M₂ i) → ∀ i,
        (if P i then Ideal.exp2 (s i * c - M) else 0) = ex P s A i * k) ∧
      (∀ L : EReal, M + (L + (Real.log k : ℝ)) * c = A * c + L * c) := by
    have hex : ∀ (P : ι → Prop) [DecidablePred P] i, ex P s A i = Ideal.exp2 ((if P i then s i * c else ⊥) - A * c) := by
      intro P _ i
      have e : (if P i then s i * (c : EReal) else ⊥) = msk P s i * c := by
        unfold msk; split_ifs
        · rfl
        · rw [EReal.bot_mul_coe_of_pos hc]
      rw [e, exp2_sub_mul _ _ hcc.symm]; rfl
    have hinf : A * c = M → (A * c = ⊤ ∨ A * c = ⊥) → _ := fun e hinf =>
      (⟨1, one_pos, fun P _ hP i => by
        rw [exp2_msk, ← e, hex, EReal.coe_one, mul_one], fun L => by
        rw [Real.log_one, EReal.coe_zero, add_zero, e]⟩ : ∃ k : ℝ, 0 < k ∧
      (∀ (P : ι → Prop) [DecidablePred P], (∀ i, P i → M₀ i ∨ M₁ i ∨ M₂ i) → ∀ i,
        (if P i then Ideal.exp2 (s i * c - M) else 0) = ex P s A i * k) ∧
      (∀ L : EReal, M + (L + (Real.log k : ℝ)) * c = A * c + L * c))
    generalize hU : A * (c : EReal) = U at *
    induction U using EReal.rec with
    | bot => exact hinf (le_antisymm hAM (by simpa using hMle)) (.inr rfl)
    | top => exact hinf (le_antisymm hAM le_top) (.inl rfl)
    | coe u =>
      induction M using EReal.rec with
      | bot => exact absurd hAM (by simp)
      | top =>
        rw [show ((u : EReal) + 1) = ((u + 1 : ℝ) : EReal) by rw [EReal.coe_add, EReal.coe_one]] at hMle
        exact absurd hMle (not_le.mpr (EReal.coe_lt_top _))
      | coe m =>
        refine ⟨(2 : ℝ) ^ (u - m), Real.rpow_pos_of_pos (by norm_num) _, fun P _ hP i => ?_, fun L => ?_⟩
        · rw [exp2_msk, hex, exp2_sub_real _ u m]
        · rw [add_mul_real _ _ hc.le, Real.log_rpow (by norm_num), ← EReal.coe_mul, add_left_comm, ← EReal.coe_add, add_comm]
          congr 2
          rw [← hcc]; field_simp; ring
  have hPT : ∀ t, Ideal.exp2 (T t - M) = ex M₀ s A (e t) * k := fun t => by
    rw [← hfac M₀ (fun i h => .inl h), exp2_msk, hT]; simp only [h0]
  have hPT₄ : ∀ j, Ideal.exp2 (T₄ j - M) = (ex M₁ s A (e₄ j) + ex M₂ s A (e₄ j)) * k := fun j => by
    rw [hT₄, exp2_dil, hfac M₁ (fun i h => .inr (.inl h)), hfac M₂ (fun i h => .inr (.inr h)), add_mul_real _ _ hk.le]
  have z0 : ∀ i, (∀ t, e t ≠ i) → ex M₀ s A i = 0 := fun i hi => ex_of_not _ _ _ _ fun h => by
    obtain ⟨t, ht⟩ := h0' i h; exact hi t ht
  have z1 : ∀ i, (∀ t, e₄ t ≠ i) → ex M₁ s A i = 0 := fun i hi => ex_of_not _ _ _ _ fun h => by
    obtain ⟨t, ht⟩ := h1 i h; exact hi t ht
  have z2 : ∀ i, (∀ t, e₄ t ≠ i) → ex M₂ s A i = 0 := fun i hi => ex_of_not _ _ _ _ fun h => by
    obtain ⟨t, ht⟩ := h2 i h; exact hi t ht
  have hd : ∑ t, Ideal.exp2 (T t - M) + ∑ j, Ideal.exp2 (T₄ j - M) = den3 M₀ M₁ M₂ s A * k := by
    simp only [hPT, hPT₄]
    rw [← sum_mul_real _ _ hk.le, ← sum_mul_real _ _ hk.le, ← add_mul_real _ _ hk.le, Finset.sum_add_distrib,
      sum_inj e he z0, sum_inj e₄ he₄ z1, sum_inj e₄ he₄ z2, ← add_assoc]
    rfl
  have hpos : ∀ (P : ι → Prop) [DecidablePred P] i, 0 ≤ ex P s A i := fun P _ i => by
    unfold ex
    generalize msk P s i - A = x
    induction x using EReal.rec with
    | bot => exact le_rfl
    | top => exact le_top
    | coe a => exact EReal.coe_nonneg.mpr (Real.exp_pos a).le
  have hn : ∑ t, (v (e t) * vs (e t)) * Ideal.exp2 (T t - M) + ∑ j, (v (e₄ j) * vs (e₄ j)) * Ideal.exp2 (T₄ j - M)
      = num3 M₀ M₁ M₂ s vs v A * k := by
    have a0 : ∀ t, (v (e t) * vs (e t)) * Ideal.exp2 (T t - M) = (v (e t) * vs (e t) * ex M₀ s A (e t)) * k := fun t => by
      rw [hPT, mul_assoc _ _ (k : EReal)]
    have a1 : ∀ j, (v (e₄ j) * vs (e₄ j)) * Ideal.exp2 (T₄ j - M)
        = (v (e₄ j) * vs (e₄ j) * ex M₁ s A (e₄ j) + v (e₄ j) * vs (e₄ j) * ex M₂ s A (e₄ j)) * k := fun j => by
      rw [hPT₄, ← mul_assoc, EReal.left_distrib_of_nonneg (hpos _ _) (hpos _ _)]
    simp only [a0, a1]
    rw [← sum_mul_real _ _ hk.le, ← sum_mul_real _ _ hk.le, ← add_mul_real _ _ hk.le, Finset.sum_add_distrib,
      sum_inj (f := fun i => v i * vs i * ex M₀ s A i) e he (fun i h => by rw [z0 i h, mul_zero]),
      sum_inj (f := fun i => v i * vs i * ex M₁ s A i) e₄ he₄ (fun i h => by rw [z1 i h, mul_zero]),
      sum_inj (f := fun i => v i * vs i * ex M₂ s A i) e₄ he₄ (fun i h => by rw [z2 i h, mul_zero]), ← add_assoc]
    rfl
  obtain ⟨hL, hO⟩ := ref_eq M₀ M₁ M₂ s vs v
  rw [hd, hn]
  constructor
  · rw [log_mul_real _ hk, hlog, ← add_mul_real _ _ hc.le, ← hcc, mul_log2e_ln2, hL]
  · rw [hO, mul_assoc, mul_comm (k : EReal), div_one_mul _ hk]

end Cert.Attn

end
-- ==== Proof.Tile.lean ====
/- One 160 × 256 output tile of the attention kernel as a function of the blocks it reads, and what it is at a lane. -/
module

public import proofs.«01_k».proof.Proof.Gen.KernelIdeal.Skeleton
public import Idealize.ShloMosaic.Lib.Pointwise
public import Idealize.ShloMosaic.Lib.WordCmp
public import proofs.«01_k».proof.Proof.Softmax

@[expose] public section

noncomputable section

namespace Cert.KernelIdeal.Tile

open Cert.KernelIdeal Cert.KernelIdeal.Gen
open Idealize.ShloMosaic

/-! ## The tile as the kernel writes it: lanes 0–127 see 128 keys, lanes 128–255 see 256 -/

/-- The scores of the tile's own 256 keys (rows) against its 256 queries (lanes). -/
def sc (K Q : FVec Ideal S160x256 .fp8e4m3) : FVec Ideal S256x256 .f32 :=
  matmul dot_S160x256_S160x256_S256x256_0_0_1_1_n_n none K Q (constant S256x256 .f32 0x00000000#32)

/-- Where the key is not after the query, in a 128 × 128 corner. -/
def tri : IVec S128x128 1 :=
  cmpi .sle (iota .tc S128x128 32 [0] (by decide)) (iota .tc S128x128 32 [1] (by decide))

def neg {s : Shape} : FVec Ideal s .f32 := broadcast s (FloatOps.ofBits .f32 0xFF800000#32)

/-- The scaled and masked scores of the first 128 lanes. -/
def tA (s : FVec Ideal S256x256 .f32) (kc : FVec Ideal S256x1 .f32) (q : FVec Ideal S1x128 .f32) : FVec Ideal S128x128 .f32 :=
  select tri (mulf (mulf (extractStridedSlice S128x128 ![0, 0] s (by decide))
    (broadcastTo S128x128 (extractStridedSlice S128x1 ![0, 0] kc (by decide)) (by decide)))
    (broadcastTo S128x128 q (by decide))) neg

/-- The scaled scores of the last 128 lanes, before the mask. -/
def xB (s : FVec Ideal S256x256 .f32) (kc : FVec Ideal S256x1 .f32) (q : FVec Ideal S1x128 .f32) : FVec Ideal S256x128 .f32 :=
  mulf (mulf (extractStridedSlice S256x128 ![0, 128] s (by decide)) (broadcastTo S256x128 kc (by decide)))
    (broadcastTo S256x128 q (by decide))

/-- … and after it. -/
def tB (s : FVec Ideal S256x256 .f32) (kc : FVec Ideal S256x1 .f32) (q : FVec Ideal S1x128 .f32) : FVec Ideal S256x128 .f32 :=
  concatenate S256x128 0 [⟨S128x128, extractStridedSlice S128x128 ![0, 0] (xB s kc q) (by decide)⟩,
    ⟨S128x128, select tri (extractStridedSlice S128x128 ![128, 0] (xB s kc q) (by decide)) neg⟩] concatenates_S128x128_S128x128_S256x128_d0

/-- Each lane's largest score over its own keys. -/
def locA (t : FVec Ideal S128x128 .f32) : FVec Ideal S1x128 .f32 :=
  shapeCast S1x128 (multiReduction .maximumf [0] S128 t 0xFF800000#32 (by decide) (.inl rfl) rfl) (by decide)
def locB (t : FVec Ideal S256x128 .f32) : FVec Ideal S1x128 .f32 :=
  shapeCast S1x128 (multiReduction .maximumf [0] S128 t 0xFF800000#32 (by decide) (.inl rfl) rfl) (by decide)

/-- The largest score with the dilated pattern's joined in on the lanes that have one. -/
def mA (t : FVec Ideal S128x128 .f32) (own : IVec S1x128 1) (m4 : FVec Ideal S1x128 .f32) : FVec Ideal S1x128 .f32 :=
  select own (maximumf (locA t) m4) (locA t)
def mB (t : FVec Ideal S256x128 .f32) (own : IVec S1x128 1) (m4 : FVec Ideal S1x128 .f32) : FVec Ideal S1x128 .f32 :=
  select own (maximumf (locB t) m4) (locB t)

/-- The exponentials of the own keys' scores. -/
def eA (t : FVec Ideal S128x128 .f32) (m : FVec Ideal S1x128 .f32) : FVec Ideal S128x128 .f32 :=
  exp2 (subf t (broadcastTo S128x128 m (by decide)))
def eB (t : FVec Ideal S256x128 .f32) (m : FVec Ideal S1x128 .f32) : FVec Ideal S256x128 .f32 :=
  exp2 (subf t (broadcastTo S256x128 m (by decide)))

/-- The denominators. -/
def denA (e : FVec Ideal S128x128 .f32) (own : IVec S1x128 1) (l4 : FVec Ideal S1x128 .f32) : FVec Ideal S1x128 .f32 :=
  addf (shapeCast S1x128 (multiReduction .add [0] S128 e 0x00000000#32 (by decide) (.inl rfl) rfl) (by decide))
    (select own l4 (broadcast S1x128 (Scalar.ofBits .f32 0x00000000#32)))
def denB (e : FVec Ideal S256x128 .f32) (own : IVec S1x128 1) (l4 : FVec Ideal S1x128 .f32) : FVec Ideal S1x128 .f32 :=
  addf (shapeCast S1x128 (multiReduction .add [0] S128 e 0x00000000#32 (by decide) (.inl rfl) rfl) (by decide))
    (select own l4 (broadcast S1x128 (Scalar.ofBits .f32 0x00000000#32)))

/-- The own keys' weights of all 256 lanes: the first 128 lanes never see the last 128 keys. -/
def pp (e : FVec Ideal S128x128 .f32) (e' : FVec Ideal S256x128 .f32) : FVec Ideal S256x256 .bf16 :=
  concatenate S256x256 1 [⟨S256x128, concatenate S256x128 0 [⟨S128x128, truncf .bf16 e (by decide)⟩,
    ⟨S128x128, broadcast S128x128 (FloatOps.ofBits .bf16 0x0000#16)⟩] concatenates_S128x128_S128x128_S256x128_d0⟩,
    ⟨S256x128, truncf .bf16 e' (by decide)⟩] concatenates_S256x128_S256x128_S256x256_d1

/-- The reciprocals of the denominators. -/
def inv (d : FVec Ideal S1x128 .f32) : FVec Ideal S1x128 .f32 := divf (broadcast S1x128 (Scalar.ofBits .f32 0x3F800000#32)) d

/-- The output tile: weighted values, plus the dilated pattern's `z`, over the denominators. -/
def fin (vb : FVec Ideal S160x256 .bf16) (p : FVec Ideal S256x256 .bf16) (z : FVec Ideal S160x256 .f32)
    (d d' : FVec Ideal S1x128 .f32) : FVec Ideal S1x160x256 .bf16 :=
  shapeCast S1x160x256 (truncf .bf16 (mulf (addf
      (matmul dot_S160x256_S256x256_S160x256_1_0_0_1_n_n none vb p (constant S160x256 .f32 0x00000000#32)) z)
    (broadcastTo S160x256 (concatenate S1x256 1 [⟨S1x128, inv d⟩, ⟨S1x128, inv d'⟩]
      concatenates_S1x128_S1x128_S1x256_d1) (by decide))) (by decide)) (by decide)

def lnA (m d : FVec Ideal S1x128 .f32) : FVec Ideal S1x128 .f32 :=
  mulf (addf m (mulf (log d) (broadcast S1x128 (Named.named κ "log2e" 0x3FB8AA3B#32))))
    (broadcast S1x128 (Named.named κ "ln2" 0x3F317218#32))

/-- The tile of logarithms of the sums of exponentials. -/
def lnT (m d m' d' : FVec Ideal S1x128 .f32) : FVec Ideal S1x1x256 .f32 :=
  shapeCast S1x1x256 (concatenate S1x256 1 [⟨S1x128, lnA m d⟩, ⟨S1x128, lnA m' d'⟩]
      concatenates_S1x128_S1x128_S1x256_d1) (by decide)

/-- The whole output tile. -/
def tileO (K Q : FVec Ideal S160x256 .fp8e4m3) (kc : FVec Ideal S256x1 .f32) (q q' : FVec Ideal S1x128 .f32)
    (own own' : IVec S1x128 1) (m4 m4' l4 l4' : FVec Ideal S1x128 .f32) (vb : FVec Ideal S160x256 .bf16)
    (z : FVec Ideal S160x256 .f32) : FVec Ideal S1x160x256 .bf16 :=
  let t := tA (sc K Q) kc q
  let t' := tB (sc K Q) kc q'
  let e := eA t (mA t own m4)
  let e' := eB t' (mB t' own' m4')
  fin vb (pp e e') z (denA e own l4) (denB e' own' l4')

/-- The whole tile of logarithms. -/
def tileL (K Q : FVec Ideal S160x256 .fp8e4m3) (kc : FVec Ideal S256x1 .f32) (q q' : FVec Ideal S1x128 .f32)
    (own own' : IVec S1x128 1) (m4 m4' l4 l4' : FVec Ideal S1x128 .f32) : FVec Ideal S1x1x256 .f32 :=
  let t := tA (sc K Q) kc q
  let t' := tB (sc K Q) kc q'
  let e := eA t (mA t own m4)
  let e' := eB t' (mB t' own' m4')
  lnT (mA t own m4) (denA e own l4) (mB t' own' m4') (denB e' own' l4')

/-! ## At a lane -/

theorem neg_inf : Ideal.ofBits .f32 0xFF800000#32 = ⊥ := by
  simp [Ideal.ofBits, Ideal.ieee]

theorem exp2_bot : Ideal.exp2 ⊥ = 0 := rfl

theorem le_word (a b : ℕ) (ha : a < 256) (hb : b < 256) :
    IntOp.cmpi .sle (BitVec.ofNat 32 a) (BitVec.ofNat 32 b) = BitVec.ofBool (decide (a ≤ b)) :=
  WordCmp.cmpi_sle_ofNat (by omega) (by omega)

theorem select_ofBool {α : Type} (p : Prop) [Decidable p] (x y : α) :
    Scalar.select (BitVec.ofBool (decide p)) x y = if p then x else y := by
  by_cases h : p <;> simp [h, Scalar.select]

theorem tA_apply (s kc q) (t l : Fin 128) : tA s kc q (ix2 t l) =
    if t.val ≤ l.val then s (ix2 ⟨t, by omega⟩ ⟨l, by omega⟩) * kc (ix2 ⟨t, by omega⟩ 0) * q (ix2 0 l) else ⊥ := by
  pointwise [tA, tri, neg]
  rw [le_word _ _ (by omega) (by omega), select_ofBool, neg_inf]

theorem xB_apply (s kc q) (t : Fin 256) (l : Fin 128) :
    xB s kc q (ix2 t l) = s (ix2 t ⟨128 + l.val, by omega⟩) * kc (ix2 t 0) * q (ix2 0 l) := by
  pointwise [xB]

theorem tB_apply (s kc q) (t : Fin 256) (l : Fin 128) : tB s kc q (ix2 t l) =
    if t.val ≤ 128 + l.val then s (ix2 t ⟨128 + l.val, by omega⟩) * kc (ix2 t 0)
      * q (ix2 0 l) else ⊥ := by
  rw [← xB_apply, tB]
  generalize xB s kc q = x
  pointwise [tri, neg]
  by_cases h : t.val < 128
  · rw [dif_pos h, if_pos (by omega)]
  · have e : (⟨128 + (t.val - 128), by omega⟩ : Fin 256) = t := Fin.ext (by simp only; omega)
    rw [dif_neg h, le_word _ _ (by omega) (by omega), select_ofBool]
    exact if_congr (by omega) (by rw [e]) neg_inf

theorem fold_sup {n : ℕ} (f : Fin n → EReal) : Finset.fold max ⊥ f Finset.univ = Finset.univ.sup f := rfl

theorem locA_apply (t) (l : Fin 128) : locA t (ix2 0 l) = Finset.univ.sup fun k : Fin 128 => t (ix2 k l) := by
  pointwise [locA]
  rw [neg_inf, fold_sup]

theorem locB_apply (t) (l : Fin 128) : locB t (ix2 0 l) = Finset.univ.sup fun k : Fin 256 => t (ix2 k l) := by
  pointwise [locB]
  rw [neg_inf, fold_sup]

theorem select_zero {α : Type} (x y : α) : Scalar.select 0#1 x y = y := rfl

theorem mA_apply (t own m4) (l : Fin 128) (h : own (ix2 0 l) = 0#1) :
    mA t own m4 (ix2 0 l) = Finset.univ.sup fun k : Fin 128 => t (ix2 k l) := by
  rw [← locA_apply]; pointwise [mA]; rw [h, select_zero]

theorem mB_apply (t own m4) (l : Fin 128) (h : own (ix2 0 l) = 0#1) :
    mB t own m4 (ix2 0 l) = Finset.univ.sup fun k : Fin 256 => t (ix2 k l) := by
  rw [← locB_apply]; pointwise [mB]; rw [h, select_zero]

theorem eA_apply (t m) (k l : Fin 128) : eA t m (ix2 k l) = Ideal.exp2 (t (ix2 k l) - m (ix2 0 l)) := by
  pointwise [eA]; rfl

theorem eB_apply (t m) (k : Fin 256) (l : Fin 128) : eB t m (ix2 k l) = Ideal.exp2 (t (ix2 k l) - m (ix2 0 l)) := by
  pointwise [eB]; rfl

theorem denA_apply (e own l4) (l : Fin 128) (h : own (ix2 0 l) = 0#1) : denA e own l4 (ix2 0 l) = ∑ k : Fin 128, e (ix2 k l) := by
  pointwise [denA]
  rw [h, select_zero, add_zero]

theorem denB_apply (e own l4) (l : Fin 128) (h : own (ix2 0 l) = 0#1) : denB e own l4 (ix2 0 l) = ∑ k : Fin 256, e (ix2 k l) := by
  pointwise [denB]
  rw [h, select_zero, add_zero]

theorem pp_apply (e e') (t : Fin 256) (l : Fin 256) : pp e e' (ix2 t l) =
    if h : l.val < 128 then if h' : t.val < 128 then e (ix2 ⟨t, h'⟩ ⟨l, h⟩) else 0 else e' (ix2 t ⟨l - 128, by omega⟩) := by
  pointwise [pp]

theorem fin_apply (vb p z d d') (t : Fin 160) (l : Fin 256) : fin vb p z d d' (ix3 0 t l) =
    (∑ x, vb (ix2 t x) * p (ix2 x l) + z (ix2 t l)) *
      if h : l.val < 128 then Ideal.div 1 (d (ix2 0 ⟨l, h⟩)) else Ideal.div 1 (d' (ix2 0 ⟨l - 128, by omega⟩)) := by
  pointwise [fin, inv]

/-- The two constants that change the base of the logarithm. -/
def log2e : EReal := Named.named (F := Ideal) (φ := .f32) κ "log2e" 0x3FB8AA3B#32
def ln2 : EReal := Named.named (F := Ideal) (φ := .f32) κ "ln2" 0x3F317218#32
def qscale : EReal := Named.named (F := Ideal) (φ := .f32) κ "qscale" 0x3DE995B3#32

theorem log2e_eq : log2e = (((Real.log 2)⁻¹ : ℝ) : EReal) := rfl
theorem ln2_eq : ln2 = ((Real.log 2 : ℝ) : EReal) := rfl
theorem qscale_eq : qscale = (((Real.sqrt 160)⁻¹ * (Real.log 2)⁻¹ : ℝ) : EReal) := rfl

theorem lnA_apply (m d : FVec Ideal S1x128 .f32) (l : Fin 128) :
    lnA m d (ix2 0 l) = (m (ix2 0 l) + Ideal.log (d (ix2 0 l)) * log2e) * ln2 := by
  pointwise [lnA]; rfl

theorem lnT_apply (m d m' d') (l : Fin 256) : lnT m d m' d' (ix3 0 0 l) =
    if h : l.val < 128 then lnA m d (ix2 0 ⟨l, h⟩) else lnA m' d' (ix2 0 ⟨l - 128, by omega⟩) := by
  pointwise [lnT]

theorem sc_apply (K Q) (t l : Fin 256) : sc K Q (ix2 t l) = ∑ x, K (ix2 x t) * Q (ix2 x l) := by
  pointwise [sc]

theorem sup_half (f : Fin 256 → EReal) (h : ∀ t : Fin 256, 128 ≤ t.val → f t = ⊥) :
    (Finset.univ.sup fun k : Fin 128 => f ⟨k, by omega⟩) = Finset.univ.sup f := by
  apply le_antisymm
  · exact Finset.sup_le fun k _ => Finset.le_sup (f := f) (Finset.mem_univ _)
  · refine Finset.sup_le fun t _ => ?_
    by_cases ht : t.val < 128
    · exact Finset.le_sup (f := fun k : Fin 128 => f ⟨k, by omega⟩) (Finset.mem_univ ⟨t.val, ht⟩)
    · rw [h t (by omega)]; exact bot_le

theorem sum_half (f : Fin 256 → EReal) (h : ∀ t : Fin 256, 128 ≤ t.val → f t = 0) :
    (∑ k : Fin 128, f ⟨k, by omega⟩) = ∑ t, f t := by
  rw [show (∑ t, f t) = ∑ t : Fin (128 + 128), f t from rfl, Fin.sum_univ_add]
  rw [Finset.sum_eq_zero (s := Finset.univ) (f := fun i : Fin 128 => f (Fin.natAdd 128 i))
    (fun i _ => h _ (by simp [Fin.natAdd])), add_zero]
  rfl

/-! ## The whole tile at a lane the dilated pattern does not reach -/

section
variable (K Q : FVec Ideal S160x256 .fp8e4m3) (kc : FVec Ideal S256x1 .f32) (q q' : FVec Ideal S1x128 .f32)
  (own own' : IVec S1x128 1) (m4 m4' l4 l4' : FVec Ideal S1x128 .f32) (vb : FVec Ideal S160x256 .bf16)
  (z : FVec Ideal S160x256 .f32)

/-- The masked score of query `l` with key `t`. -/
def T (l t : Fin 256) : EReal :=
  if t.val ≤ l.val then (∑ x : Fin 160, K (ix2 x t) * Q (ix2 x l)) * kc (ix2 t 0)
    * (if h : l.val < 128 then q (ix2 0 ⟨l, h⟩) else q' (ix2 0 ⟨l - 128, by omega⟩)) else ⊥

theorem tA_T (t l : Fin 128) : tA (sc K Q) kc q (ix2 t l) = T K Q kc q q' ⟨l, by omega⟩ ⟨t, by omega⟩ := by
  rw [tA_apply, T, sc_apply, dif_pos l.isLt]

theorem tB_T (t : Fin 256) (l : Fin 256) (h : ¬ l.val < 128) :
    tB (sc K Q) kc q' (ix2 t ⟨l - 128, by omega⟩) = T K Q kc q q' l t := by
  have e : (⟨128 + (l.val - 128), by omega⟩ : Fin 256) = l := Fin.ext (by simp only; omega)
  rw [tB_apply, T, sc_apply, dif_neg h, e]
  exact if_congr (by simp only; omega) rfl rfl

theorem T_bot (l t : Fin 256) (h : l.val < t.val) : T K Q kc q q' l t = ⊥ := by
  rw [T, if_neg (by omega)]

def M (l : Fin 256) : EReal := Finset.univ.sup (T K Q kc q q' l)
def P (l t : Fin 256) : EReal := Ideal.exp2 (T K Q kc q q' l t - M K Q kc q q' l)

theorem P_zero (l t : Fin 256) (h : l.val < t.val) : P K Q kc q q' l t = 0 := by
  rw [P, T_bot _ _ _ _ _ _ _ h, EReal.bot_sub, exp2_bot]

/-- Neither half of the tile has a query of the dilated pattern at lane `l`. -/
def Off (l : Fin 256) : Prop :=
  (∀ h : l.val < 128, own (ix2 0 ⟨l, h⟩) = 0#1) ∧ ∀ h : ¬ l.val < 128, own' (ix2 0 ⟨l - 128, by omega⟩) = 0#1

variable {own own'}

theorem mA_M (l : Fin 256) (h : l.val < 128) (ho : own (ix2 0 ⟨l, h⟩) = 0#1) :
    mA (tA (sc K Q) kc q) own m4 (ix2 0 ⟨l, h⟩) = M K Q kc q q' l := by
  rw [mA_apply _ _ _ _ ho, M, ← sup_half _ fun t ht => T_bot _ _ _ _ _ _ _ (by omega)]
  exact Finset.sup_congr rfl fun k _ => tA_T ..

theorem mB_M (l : Fin 256) (h : ¬ l.val < 128) (ho : own' (ix2 0 ⟨l - 128, by omega⟩) = 0#1) :
    mB (tB (sc K Q) kc q') own' m4' (ix2 0 ⟨l - 128, by omega⟩) = M K Q kc q q' l := by
  rw [mB_apply _ _ _ _ ho, M]
  exact Finset.sup_congr rfl fun k _ => tB_T _ _ _ _ _ _ _ h

theorem eA_P (t : Fin 128) (l : Fin 256) (h : l.val < 128) (ho : own (ix2 0 ⟨l, h⟩) = 0#1) :
    eA (tA (sc K Q) kc q) (mA (tA (sc K Q) kc q) own m4) (ix2 t ⟨l, h⟩) = P K Q kc q q' l ⟨t, by omega⟩ := by
  rw [eA_apply, mA_M _ _ _ q q' _ _ _ ho, tA_T _ _ _ _ q', P]

theorem eB_P (t : Fin 256) (l : Fin 256) (h : ¬ l.val < 128) (ho : own' (ix2 0 ⟨l - 128, by omega⟩) = 0#1) :
    eB (tB (sc K Q) kc q') (mB (tB (sc K Q) kc q') own' m4') (ix2 t ⟨l - 128, by omega⟩) = P K Q kc q q' l t := by
  rw [eB_apply, mB_M _ _ _ q q' _ _ h ho, tB_T _ _ _ q _ _ _ h, P]

theorem denA_P (l : Fin 256) (h : l.val < 128) (ho : own (ix2 0 ⟨l, h⟩) = 0#1) :
    denA (eA (tA (sc K Q) kc q) (mA (tA (sc K Q) kc q) own m4)) own l4 (ix2 0 ⟨l, h⟩) = ∑ t, P K Q kc q q' l t := by
  rw [denA_apply _ _ _ _ ho, ← sum_half _ fun t ht => P_zero _ _ _ _ _ _ _ (by omega)]
  exact Finset.sum_congr rfl fun k _ => eA_P _ _ _ _ _ _ _ _ _ ho

theorem denB_P (l : Fin 256) (h : ¬ l.val < 128) (ho : own' (ix2 0 ⟨l - 128, by omega⟩) = 0#1) :
    denB (eB (tB (sc K Q) kc q') (mB (tB (sc K Q) kc q') own' m4')) own' l4' (ix2 0 ⟨l - 128, by omega⟩)
      = ∑ t, P K Q kc q q' l t := by
  rw [denB_apply _ _ _ _ ho]
  exact Finset.sum_congr rfl fun k _ => eB_P _ _ _ _ _ _ _ _ h ho

theorem pp_P (t l : Fin 256) (ho : Off own own' l) :
    pp (eA (tA (sc K Q) kc q) (mA (tA (sc K Q) kc q) own m4)) (eB (tB (sc K Q) kc q') (mB (tB (sc K Q) kc q') own' m4')) (ix2 t l)
      = P K Q kc q q' l t := by
  rw [pp_apply]
  by_cases h : l.val < 128
  · rw [dif_pos h]
    by_cases h' : t.val < 128
    · rw [dif_pos h', eA_P _ _ _ _ q' _ _ _ h (ho.1 h)]
    · rw [dif_neg h', P_zero _ _ _ _ _ _ _ (by omega)]
  · rw [dif_neg h, eB_P _ _ _ q _ _ _ _ h (ho.2 h)]

theorem tileO_apply (d : Fin 160) (l : Fin 256) (ho : Off own own' l) (hz : z (ix2 d l) = 0) :
    tileO K Q kc q q' own own' m4 m4' l4 l4' vb z (ix3 0 d l)
      = (∑ t, vb (ix2 d t) * P K Q kc q q' l t) * Ideal.div 1 (∑ t, P K Q kc q q' l t) := by
  simp only [tileO]
  rw [fin_apply, hz, add_zero]
  congr 1
  · exact Finset.sum_congr rfl fun t _ => by rw [pp_P _ _ _ _ _ _ _ _ _ ho]
  · by_cases h : l.val < 128
    · rw [dif_pos h, denA_P _ _ _ _ q' _ _ _ h (ho.1 h)]
    · rw [dif_neg h, denB_P _ _ _ q _ _ _ _ h (ho.2 h)]

theorem tileL_apply (l : Fin 256) (ho : Off own own' l) :
    tileL K Q kc q q' own own' m4 m4' l4 l4' (ix3 0 0 l)
      = (M K Q kc q q' l + Ideal.log (∑ t, P K Q kc q q' l t) * log2e) * ln2 := by
  simp only [tileL]
  rw [lnT_apply]
  by_cases h : l.val < 128
  · rw [dif_pos h, lnA_apply, denA_P _ _ _ _ q' _ _ _ h (ho.1 h), mA_M _ _ _ _ q' _ _ h (ho.1 h)]
  · rw [dif_neg h, lnA_apply, denB_P _ _ _ q _ _ _ _ h (ho.2 h), mB_M _ _ _ q _ _ _ h (ho.2 h)]

end

/-! ## What the dilated pattern adds on a lane it does not reach -/

/-- A word's remainder by four, made nonnegative. -/
def resW {s : Shape} (x : IVec s 32) (o : IVec s 1) : IVec s 32 :=
  let r := remsi x (broadcast s 4#32)
  select (andi (xori (cmpi .slt r (broadcast s 0#32)) o) (cmpi .ne r (broadcast s 0#32))) (addi r (broadcast s 4#32)) r

/-- The dilated pattern's part of a tile, over 128 or 256 keys. -/
def z128 (h : BitVec 32) (v : FVec Ideal S160x128 .bf16) (p : FVec Ideal S128x256 .bf16) : FVec Ideal S160x256 .f32 :=
  matmul dot_S160x128_S128x256_S160x256_1_0_0_1_n_n none v (truncf .bf16 (select
    (cmpi .eq (resW (iota .tc S128x256 32 [1] (by decide)) (broadcastTo S128x256 (broadcast S128x256 0#1) (by decide))) (broadcast S128x256 h))
    (extf .f32 p (by decide)) (broadcast S128x256 (Scalar.sitofp .f32 0#32))) (by decide)) (constant S160x256 .f32 0x00000000#32)
def z256 (h : BitVec 32) (v : FVec Ideal S160x256 .bf16) (p : FVec Ideal S256x256 .bf16) : FVec Ideal S160x256 .f32 :=
  matmul dot_S160x256_S256x256_S160x256_1_0_0_1_n_n none v (truncf .bf16 (select
    (cmpi .eq (resW (iota .tc S256x256 32 [1] (by decide)) (broadcastTo S256x256 (broadcast S256x256 0#1) (by decide))) (broadcast S256x256 h))
    (extf .f32 p (by decide)) (broadcast S256x256 (Scalar.sitofp .f32 0#32))) (by decide)) (constant S160x256 .f32 0x00000000#32)

/-- The 128 lanes from `e` on whose position is `h` modulo four. -/
def own (e : ℕ) (he : Shape.Slices S1x1024 ![0, e] S1x128) (h : BitVec 32) : IVec S1x128 1 :=
  cmpi .eq (extractStridedSlice S1x128 ![0, e] k0_pay5 he) (broadcast S1x128 h)

/-- One lane's remainder by four. -/
def resL (x : BitVec 32) : BitVec 32 :=
  Scalar.select
    (IntOp.andi (IntOp.xori (IntOp.cmpi CmpIPredicate.slt (IntOp.remsi ArithUnit.vector x 4#32) 0#32) 0#1)
      (IntOp.cmpi CmpIPredicate.ne (IntOp.remsi ArithUnit.vector x 4#32) 0#32))
    (IntOp.addi (IntOp.remsi ArithUnit.vector x 4#32) 4#32) (IntOp.remsi ArithUnit.vector x 4#32)

theorem resL_eq : ∀ p : Fin 1024, resL (BitVec.ofNat 32 p.val) = BitVec.ofNat 32 (p.val % 4) := by decide +kernel

theorem eq_zero (a h : ℕ) (ha : a < 4) (hh : h < 4) (hne : a ≠ h) :
    IntOp.cmpi .eq (BitVec.ofNat 32 a) (BitVec.ofNat 32 h) = 0#1 := by
  have H : ∀ a h : Fin 4, a ≠ h → IntOp.cmpi .eq (BitVec.ofNat 32 a.val) (BitVec.ofNat 32 h.val) = 0#1 := by decide
  exact H ⟨a, ha⟩ ⟨h, hh⟩ (by simpa [Fin.ext_iff] using hne)

theorem toInt_zero : (((0#32).toInt : ℝ) : EReal) = 0 := by simp

theorem z128_apply (h : ℕ) (v p) (d : Fin 160) (l : Fin 256) (hh : h < 4) (hl : l.val % 4 ≠ h) :
    z128 (BitVec.ofNat 32 h) v p (ix2 d l) = 0 := by
  pointwise [z128, resW]
  refine Finset.sum_eq_zero fun x _ => ?_
  rw [show Scalar.select _ _ _ = BitVec.ofNat 32 (l.val % 4) from resL_eq ⟨l, by omega⟩, eq_zero _ _ (by omega) hh hl,
    select_zero, toInt_zero, mul_zero]

theorem z256_apply (h : ℕ) (v p) (d : Fin 160) (l : Fin 256) (hh : h < 4) (hl : l.val % 4 ≠ h) :
    z256 (BitVec.ofNat 32 h) v p (ix2 d l) = 0 := by
  pointwise [z256, resW]
  refine Finset.sum_eq_zero fun x _ => ?_
  rw [show Scalar.select _ _ _ = BitVec.ofNat 32 (l.val % 4) from resL_eq ⟨l, by omega⟩, eq_zero _ _ (by omega) hh hl,
    select_zero, toInt_zero, mul_zero]

theorem pay5_apply (p : Fin 1024) : k0_pay5 (ix2 0 p) = BitVec.ofNat 32 (p % 4) := by
  pointwise [k0_pay5]
  exact resL_eq p

theorem own_apply (e : ℕ) (he) (h : ℕ) (l : Fin 128) (hh : h < 4) (hl : (e + l.val) % 4 ≠ h) :
    own e he (BitVec.ofNat 32 h) (ix2 0 l) = 0#1 := by
  pointwise [own]
  rw [pay5_apply]
  exact eq_zero _ _ (by simp only; omega) hh hl

end Cert.KernelIdeal.Tile

end
-- ==== Proof.TileOwn.lean ====
/- One 160 × 256 output tile of the attention kernel at a lane the dilated pattern reaches. -/
module

public import proofs.«01_k».proof.Proof.Tile

@[expose] public section

noncomputable section

namespace Cert.KernelIdeal.Tile

open Cert.KernelIdeal Cert.KernelIdeal.Gen
open Idealize.ShloMosaic

theorem select_one {α : Type} (x y : α) : Scalar.select 1#1 x y = x := rfl

theorem mA_on (t own m4) (l : Fin 128) (h : own (ix2 0 l) = 1#1) :
    mA t own m4 (ix2 0 l) = max (Finset.univ.sup fun k : Fin 128 => t (ix2 k l)) (m4 (ix2 0 l)) := by
  rw [← locA_apply]; pointwise [mA]; rw [h, select_one]

theorem mB_on (t own m4) (l : Fin 128) (h : own (ix2 0 l) = 1#1) :
    mB t own m4 (ix2 0 l) = max (Finset.univ.sup fun k : Fin 256 => t (ix2 k l)) (m4 (ix2 0 l)) := by
  rw [← locB_apply]; pointwise [mB]; rw [h, select_one]

theorem denA_on (e own l4) (l : Fin 128) (h : own (ix2 0 l) = 1#1) :
    denA e own l4 (ix2 0 l) = ∑ k : Fin 128, e (ix2 k l) + l4 (ix2 0 l) := by
  pointwise [denA]
  rw [h, select_one]

theorem denB_on (e own l4) (l : Fin 128) (h : own (ix2 0 l) = 1#1) :
    denB e own l4 (ix2 0 l) = ∑ k : Fin 256, e (ix2 k l) + l4 (ix2 0 l) := by
  pointwise [denB]
  rw [h, select_one]

section
variable (K Q : FVec Ideal S160x256 .fp8e4m3) (kc : FVec Ideal S256x1 .f32) (q q' : FVec Ideal S1x128 .f32)
  (own own' : IVec S1x128 1) (m4 m4' l4 l4' : FVec Ideal S1x128 .f32) (vb : FVec Ideal S160x256 .bf16)
  (z : FVec Ideal S160x256 .f32)

/-- A row over 256 lanes from its two halves. -/
def both (a b : FVec Ideal S1x128 .f32) (l : Fin 256) : EReal :=
  if h : l.val < 128 then a (ix2 0 ⟨l, h⟩) else b (ix2 0 ⟨l - 128, by omega⟩)

/-- The largest score of a lane, the dilated pattern's joined in, and the own keys' weights. -/
def M' (l : Fin 256) : EReal := max (M K Q kc q q' l) (both m4 m4' l)
def P' (l t : Fin 256) : EReal := Ideal.exp2 (T K Q kc q q' l t - M' K Q kc q q' m4 m4' l)

theorem P'_zero (l t : Fin 256) (h : l.val < t.val) : P' K Q kc q q' m4 m4' l t = 0 := by
  rw [P', T_bot _ _ _ _ _ _ _ h, EReal.bot_sub, exp2_bot]

/-- The half of the tile that has lane `l` has a query of the dilated pattern there. -/
def On (l : Fin 256) : Prop :=
  (∀ h : l.val < 128, own (ix2 0 ⟨l, h⟩) = 1#1) ∧ ∀ h : ¬ l.val < 128, own' (ix2 0 ⟨l - 128, by omega⟩) = 1#1

variable {own own'}

theorem mA_M' (l : Fin 256) (h : l.val < 128) (ho : own (ix2 0 ⟨l, h⟩) = 1#1) :
    mA (tA (sc K Q) kc q) own m4 (ix2 0 ⟨l, h⟩) = M' K Q kc q q' m4 m4' l := by
  rw [mA_on _ _ _ _ ho, M', M, both, dif_pos h, ← sup_half _ fun t ht => T_bot _ _ _ _ _ _ _ (by omega)]
  exact congrArg (max · _) (Finset.sup_congr rfl fun k _ => tA_T ..)

theorem mB_M' (l : Fin 256) (h : ¬ l.val < 128) (ho : own' (ix2 0 ⟨l - 128, by omega⟩) = 1#1) :
    mB (tB (sc K Q) kc q') own' m4' (ix2 0 ⟨l - 128, by omega⟩) = M' K Q kc q q' m4 m4' l := by
  rw [mB_on _ _ _ _ ho, M', M, both, dif_neg h]
  exact congrArg (max · _) (Finset.sup_congr rfl fun k _ => tB_T _ _ _ _ _ _ _ h)

theorem eA_P' (t : Fin 128) (l : Fin 256) (h : l.val < 128) (ho : own (ix2 0 ⟨l, h⟩) = 1#1) :
    eA (tA (sc K Q) kc q) (mA (tA (sc K Q) kc q) own m4) (ix2 t ⟨l, h⟩) = P' K Q kc q q' m4 m4' l ⟨t, by omega⟩ := by
  rw [eA_apply, mA_M' _ _ _ q q' _ m4' _ _ ho, tA_T _ _ _ _ q', P']

theorem eB_P' (t : Fin 256) (l : Fin 256) (h : ¬ l.val < 128) (ho : own' (ix2 0 ⟨l - 128, by omega⟩) = 1#1) :
    eB (tB (sc K Q) kc q') (mB (tB (sc K Q) kc q') own' m4') (ix2 t ⟨l - 128, by omega⟩) = P' K Q kc q q' m4 m4' l t := by
  rw [eB_apply, mB_M' _ _ _ q q' m4 _ _ h ho, tB_T _ _ _ q _ _ _ h, P']

theorem denA_P' (l : Fin 256) (h : l.val < 128) (ho : own (ix2 0 ⟨l, h⟩) = 1#1) :
    denA (eA (tA (sc K Q) kc q) (mA (tA (sc K Q) kc q) own m4)) own l4 (ix2 0 ⟨l, h⟩)
      = ∑ t, P' K Q kc q q' m4 m4' l t + both l4 l4' l := by
  rw [denA_on _ _ _ _ ho, both, dif_pos h, ← sum_half _ fun t ht => P'_zero _ _ _ _ _ _ _ _ _ (by omega)]
  exact congrArg (· + _) (Finset.sum_congr rfl fun k _ => eA_P' _ _ _ _ _ _ _ _ _ _ ho)

theorem denB_P' (l : Fin 256) (h : ¬ l.val < 128) (ho : own' (ix2 0 ⟨l - 128, by omega⟩) = 1#1) :
    denB (eB (tB (sc K Q) kc q') (mB (tB (sc K Q) kc q') own' m4')) own' l4' (ix2 0 ⟨l - 128, by omega⟩)
      = ∑ t, P' K Q kc q q' m4 m4' l t + both l4 l4' l := by
  rw [denB_on _ _ _ _ ho, both, dif_neg h]
  exact congrArg (· + _) (Finset.sum_congr rfl fun k _ => eB_P' _ _ _ _ _ _ _ _ _ h ho)

theorem pp_P' (t l : Fin 256) (ho : On own own' l) :
    pp (eA (tA (sc K Q) kc q) (mA (tA (sc K Q) kc q) own m4)) (eB (tB (sc K Q) kc q') (mB (tB (sc K Q) kc q') own' m4')) (ix2 t l)
      = P' K Q kc q q' m4 m4' l t := by
  rw [pp_apply]
  by_cases h : l.val < 128
  · rw [dif_pos h]
    by_cases h' : t.val < 128
    · rw [dif_pos h', eA_P' _ _ _ _ q' _ m4' _ _ _ (ho.1 h)]
    · rw [dif_neg h', P'_zero _ _ _ _ _ _ _ _ _ (by omega)]
  · rw [dif_neg h, eB_P' _ _ _ q _ m4 _ _ _ h (ho.2 h)]

theorem tileO_on (d : Fin 160) (l : Fin 256) (ho : On own own' l) :
    tileO K Q kc q q' own own' m4 m4' l4 l4' vb z (ix3 0 d l)
      = (∑ t, vb (ix2 d t) * P' K Q kc q q' m4 m4' l t + z (ix2 d l))
        * Ideal.div 1 (∑ t, P' K Q kc q q' m4 m4' l t + both l4 l4' l) := by
  simp only [tileO]
  rw [fin_apply]
  congr 1
  · exact congrArg (· + _) (Finset.sum_congr rfl fun t _ => by rw [pp_P' _ _ _ _ _ _ _ _ _ ho])
  · by_cases h : l.val < 128
    · rw [dif_pos h, denA_P' _ _ _ _ q' _ m4' _ l4' _ h (ho.1 h)]
    · rw [dif_neg h, denB_P' _ _ _ q _ m4 _ l4 _ _ h (ho.2 h)]

theorem tileL_on (l : Fin 256) (ho : On own own' l) :
    tileL K Q kc q q' own own' m4 m4' l4 l4' (ix3 0 0 l)
      = (M' K Q kc q q' m4 m4' l + Ideal.log (∑ t, P' K Q kc q q' m4 m4' l t + both l4 l4' l) * log2e) * ln2 := by
  simp only [tileL]
  rw [lnT_apply]
  by_cases h : l.val < 128
  · rw [dif_pos h, lnA_apply, denA_P' _ _ _ _ q' _ m4' _ l4' _ h (ho.1 h), mA_M' _ _ _ _ q' _ m4' _ h (ho.1 h)]
  · rw [dif_neg h, lnA_apply, denB_P' _ _ _ q _ m4 _ l4 _ _ h (ho.2 h), mB_M' _ _ _ q _ m4 _ _ h (ho.2 h)]

end

/-! ## What the dilated pattern adds -/

theorem eq_self (h : ℕ) : IntOp.cmpi .eq (BitVec.ofNat 32 h) (BitVec.ofNat 32 h) = 1#1 := by
  simp [IntOp.cmpi]

theorem z128_on (h : ℕ) (v p) (d : Fin 160) (l : Fin 256) (hl : l.val % 4 = h) :
    z128 (BitVec.ofNat 32 h) v p (ix2 d l) = ∑ j, v (ix2 d j) * p (ix2 j l) := by
  pointwise [z128, resW]
  refine Finset.sum_congr rfl fun x _ => ?_
  rw [show Scalar.select _ _ _ = BitVec.ofNat 32 (l.val % 4) from resL_eq ⟨l, by omega⟩, hl, eq_self, select_one]

theorem z256_on (h : ℕ) (v p) (d : Fin 160) (l : Fin 256) (hl : l.val % 4 = h) :
    z256 (BitVec.ofNat 32 h) v p (ix2 d l) = ∑ j, v (ix2 d j) * p (ix2 j l) := by
  pointwise [z256, resW]
  refine Finset.sum_congr rfl fun x _ => ?_
  rw [show Scalar.select _ _ _ = BitVec.ofNat 32 (l.val % 4) from resL_eq ⟨l, by omega⟩, hl, eq_self, select_one]

theorem own_on (e : ℕ) (he) (h : ℕ) (l : Fin 128) (hl : (e + l.val) % 4 = h) :
    own e he (BitVec.ofNat 32 h) (ix2 0 l) = 1#1 := by
  pointwise [own]
  rw [pay5_apply, hl]
  exact eq_self h

end Cert.KernelIdeal.Tile

end
-- ==== Proof.Stores.lean ====
/- The tiles the attention kernel stores, each as the tile function of the blocks it reads. -/
module

public import proofs.«01_k».proof.Proof.Tile
public import proofs.«01_k».proof.Proof.IdealBuf

@[expose] public section

noncomputable section

namespace Cert.KernelIdeal.Tile

open Cert.KernelIdeal Cert.KernelIdeal.Gen Cert.KernelIdeal.Hand
open Idealize.ShloMosaic

/-! ## What a tile reads -/

theorem inb_codes : ∀ (h n : Fin 4) (a), (![0, h.val, 0, n.val * 256] : Fin 4 → ℕ) a + S1x1x160x256.size a ≤ S1x4x160x1024.size a := by decide
theorem inb_vals : ∀ (h : Fin 4) (a), (![0, h.val, 0, 0] : Fin 4 → ℕ) a + S1x1x160x1024.size a ≤ S1x4x160x1024.size a := by decide
theorem sl_kcol : ∀ n : Fin 4, Shape.Slices S1024x1 ![n.val * 256, 0] S256x1 := by decide
theorem sl_q : ∀ n : Fin 4, Shape.Slices S1x1024 ![0, n.val * 256] S1x128 := by decide
theorem sl_q' : ∀ n : Fin 4, Shape.Slices S1x1024 ![0, n.val * 256 + 128] S1x128 := by decide
theorem sl_v : ∀ n : Fin 4, Shape.Slices S160x1024 ![0, n.val * 256] S160x256 := by decide

/-- The 160 × 256 codes of head `h` and segment `n`. -/
def codes {c : Dev nD} (M : Memref sig .tc .vmem S1x4x160x1024 .fp8e4m3) (f : Bf (F := Ideal) c M) (h n : Fin 4) :
    FVec Ideal S160x256 .fp8e4m3 :=
  shapeCast S160x256 (View.readAt (Elt Ideal) M.view
    (Rect.unit (s := S1x4x160x1024) ![0, h.val, 0, n.val * 256] S1x1x160x256.size (inb_codes h n)).toLoadRect f)
    (by exact (by decide : Shape.ShapeCasts S1x1x160x256 S160x256))

/-- A row of 1024 scales. -/
def scales {c : Dev nD} (M : Memref sig .tc .vmem S4x2x1024 .f32) (f : Bf (F := Ideal) c M) (off : Fin 3 → ℕ)
    (ho : ∀ a, off a + S1x1x1024.size a ≤ S4x2x1024.size a) : FVec Ideal S1x1024 .f32 :=
  shapeCast S1x1024 (View.readAt (Elt Ideal) M.view (Rect.unit (s := S4x2x1024) off S1x1x1024.size ho).toLoadRect f)
    (by exact (by decide : Shape.ShapeCasts S1x1x1024 S1x1024))

/-- The segment's key scales, as a column. -/
def kcol (x : FVec Ideal S1x1024 .f32) (n : Fin 4) : FVec Ideal S256x1 .f32 :=
  extractStridedSlice S256x1 ![n.val * 256, 0] (extractStridedSlice S1024x1 ![0, 0] (transpose S1024x8 [1, 0]
    (broadcastTo S8x1024 (shapeCast S1x1024 x (by decide)) (by decide)) (by decide)) (by decide)) (sl_kcol n)

/-- 128 query scales, with the softmax's scale and the change of base. -/
def qrow (x : FVec Ideal S1x1024 .f32) (e : ℕ) (he : Shape.Slices S1x1024 ![0, e] S1x128) : FVec Ideal S1x128 .f32 :=
  extractStridedSlice S1x128 ![0, e] (mulf x (broadcast S1x1024 (Named.named κ "qscale" 0x3DE995B3#32))) he

/-- The segment's dequantized values. -/
def vals {c : Dev nD} (M : Memref sig .tc .vmem S1x4x160x1024 .fp8e4m3) (f : Bf (F := Ideal) c M) (x : FVec Ideal S1x1024 .f32)
    (h n : Fin 4) : FVec Ideal S160x256 .bf16 :=
  extractStridedSlice S160x256 ![0, n.val * 256] (mulf (extf .bf16 (φ := .fp8e4m3) (shapeCast S160x1024 (View.readAt (Elt Ideal) M.view
    (Rect.unit (s := S1x4x160x1024) ![0, h.val, 0, 0] S1x1x160x1024.size (inb_vals h)).toLoadRect f)
    (by exact (by decide : Shape.ShapeCasts S1x1x160x1024 S160x1024))) (by decide))
    (broadcastTo S160x1024 (truncf .bf16 x (by decide)) (by decide))) (sl_v n)

section
variable {c : Dev nD}
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (f2 : Bf (F := Ideal) c M2) (f3 : Bf (F := Ideal) c M3) (f4 : Bf (F := Ideal) c M4) (f5 : Bf (F := Ideal) c M5)
  (f6 : Bf (F := Ideal) c M6) (f7 : Bf (F := Ideal) c M7)
  (off : Fin 3 → ℕ) (ho : ∀ a, off a + S1x1x1024.size a ≤ S4x2x1024.size a) (h n : Fin 4)

/-- The output tile of head `h` and segment `n`, given what the dilated pattern contributes. -/
def outT (z : FVec Ideal S160x256 .f32) (m4 m4' l4 l4' : FVec Ideal S1x128 .f32) : FVec Ideal S1x160x256 .bf16 :=
  tileO (codes M3 f3 h n) (codes M2 f2 h n) (kcol (scales M6 f6 off ho) n)
    (qrow (scales M5 f5 off ho) (n.val * 256) (sl_q n)) (qrow (scales M5 f5 off ho) (n.val * 256 + 128) (sl_q' n))
    (own (n.val * 256) (sl_q n) (BitVec.ofNat 32 h.val)) (own (n.val * 256 + 128) (sl_q' n) (BitVec.ofNat 32 h.val))
    m4 m4' l4 l4' (vals M4 f4 (scales M7 f7 off ho) h n) z

/-- The tile of logarithms of head `h` and segment `n`. -/
def lseT (m4 m4' l4 l4' : FVec Ideal S1x128 .f32) : FVec Ideal S1x1x256 .f32 :=
  tileL (codes M3 f3 h n) (codes M2 f2 h n) (kcol (scales M6 f6 off ho) n)
    (qrow (scales M5 f5 off ho) (n.val * 256) (sl_q n)) (qrow (scales M5 f5 off ho) (n.val * 256 + 128) (sl_q' n))
    (own (n.val * 256) (sl_q n) (BitVec.ofNat 32 h.val)) (own (n.val * 256 + 128) (sl_q' n) (BitVec.ofNat 32 h.val))
    m4 m4' l4 l4'

end

/-! ## Where a step reads and stores -/

/-- Where head `h`'s row of a 4 × 2 × 1024 block lies at a grid point, from lane `e` on. -/
def offV (i : grid0.Coords) (h : Fin 4) (e : ℕ) : Fin 3 → ℕ :=
  ![h.val, (Scalar.indexCast (BitVec.ofNat 32 (i 1).val) : Index).toNat, e]

theorem offV_eq (i : grid0.Coords) (h : Fin 4) (e : ℕ) : offV i h e = ![h.val, (i 1).val, e] := by
  have hi : (i 1).val < 2 := (i 1).isLt
  show ![h.val, (BitVec.ofNat 32 (i 1).val).toNat, e] = _
  rw [BitVec.toNat_ofNat, Nat.mod_eq_of_lt (by omega)]

theorem inb_row (i : grid0.Coords) (h : Fin 4) : ∀ a, offV i h 0 a + S1x1x1024.size a ≤ S4x2x1024.size a := by
  have hi : (i 1).val < 2 := (i 1).isLt
  rw [offV_eq]
  intro a; fin_cases a
  · show h.val + 1 ≤ 4; omega
  · show (i 1).val + 1 ≤ 2; omega
  · show 0 + 1024 ≤ 1024; omega

theorem inb_lse (i : grid0.Coords) (h n : Fin 4) : ∀ a, offV i h (n.val * 256) a + S1x1x256.size a ≤ S4x2x1024.size a := by
  have hi : (i 1).val < 2 := (i 1).isLt
  rw [offV_eq]
  intro a; fin_cases a
  · show h.val + 1 ≤ 4; omega
  · show (i 1).val + 1 ≤ 2; omega
  · show n.val * 256 + 256 ≤ 1024; omega

theorem inb_out : ∀ (h n : Fin 4) (a), (![0, h.val * 160, n.val * 256] : Fin 3 → ℕ) a + S1x160x256.size a ≤ S1x640x1024.size a := by decide

end Cert.KernelIdeal.Tile

end
-- ==== Proof.Gather.lean ====
/- The attention kernel gathers every fourth column: the lane words of its gathers, and what they pick. -/
module

public import proofs.«01_k».proof.Proof.Stores

@[expose] public section

noncomputable section

namespace Cert.KernelIdeal.Tile

open Cert.KernelIdeal Cert.KernelIdeal.Gen Cert.KernelIdeal.Hand
open Idealize.ShloMosaic

/-! ## Words -/

/-- A word's remainder by `b`, made nonnegative, and its quotient, rounded down. -/
def remW {s : Shape} (b : BitVec 32) (x : IVec s 32) (o : IVec s 1) : IVec s 32 :=
  let r := remsi x (broadcast s b)
  select (andi (xori (cmpi .slt r (broadcast s 0#32)) o) (cmpi .ne r (broadcast s 0#32))) (addi r (broadcast s b)) r
def divW {s : Shape} (b : BitVec 32) (x : IVec s 32) : IVec s 32 :=
  select (andi (cmpi .ne (subi (extui 32 (cmpi .sgt x (broadcast s 0#32)) (by decide)) (extui 32 (cmpi .slt x (broadcast s 0#32)) (by decide))) (broadcast s 1#32))
    (cmpi .ne (remsi x (broadcast s b)) (broadcast s 0#32))) (subi (divsi x (broadcast s b)) (broadcast s 1#32)) (divsi x (broadcast s b))

/-- A gather's lane numbers, with 128 added to a negative one. -/
def wrapW {s : Shape} (x : IVec s 32) : IVec s 32 :=
  select (cmpi .slt x (broadcast s 0#32)) (addi x (broadcast s 128#32)) x

def o160 : IVec S160x128 1 := broadcastTo S160x128 (broadcast S160x128 0#1) (by decide)
def i160 : IVec S160x128 32 := iota .tc S160x128 32 [1] (by decide)

/-- Every fourth lane from lane `r` on, thirty-two times over. -/
def gidx (r : BitVec 32) : IVec S160x128 32 :=
  shapeCast S160x128 (shapeCast S160x128x1 (wrapW (addi (muli (remW 32#32 i160 o160) (broadcast S160x128 4#32)) (broadcast S160x128 r))) (by decide)) (by decide)

/-- 128 dilated columns out of the 512 from column `o` on. -/
def dilH (X : FVec Ideal S160x1024 .f32) (r : BitVec 32) (o : ℕ) (h0 : Shape.Slices S160x1024 ![0, o] S160x128)
    (h1 : Shape.Slices S160x1024 ![0, o + 128] S160x128) (h2 : Shape.Slices S160x1024 ![0, o + 256] S160x128)
    (h3 : Shape.Slices S160x1024 ![0, o + 384] S160x128) : FVec Ideal S160x128 .f32 :=
  select (cmpi .eq (divW 32#32 i160) (broadcast S160x128 3#32)) (dynamicGather 1 (extractStridedSlice S160x128 ![0, o + 384] X h3) (gidx r))
  (select (cmpi .eq (divW 32#32 i160) (broadcast S160x128 2#32)) (dynamicGather 1 (extractStridedSlice S160x128 ![0, o + 256] X h2) (gidx r))
  (select (cmpi .eq (divW 32#32 i160) (broadcast S160x128 1#32)) (dynamicGather 1 (extractStridedSlice S160x128 ![0, o + 128] X h1) (gidx r))
    (dynamicGather 1 (extractStridedSlice S160x128 ![0, o] X h0) (gidx r))))

/-- Every fourth column from column `r` on. -/
def dilT (X : FVec Ideal S160x1024 .f32) (r : BitVec 32) : FVec Ideal S160x256 .f32 :=
  concatenate S160x256 1 [⟨S160x128, dilH X r 0 (by decide) (by decide) (by decide) (by decide)⟩,
    ⟨S160x128, dilH X r 512 (by decide) (by decide) (by decide) (by decide)⟩] concatenates_S160x128_S160x128_S160x256_d1

/-! ### One lane's words -/

def remL (b x : BitVec 32) : BitVec 32 :=
  Scalar.select
    (IntOp.andi (IntOp.xori (IntOp.cmpi CmpIPredicate.slt (IntOp.remsi ArithUnit.vector x b) 0#32) 0#1)
      (IntOp.cmpi CmpIPredicate.ne (IntOp.remsi ArithUnit.vector x b) 0#32))
    (IntOp.addi (IntOp.remsi ArithUnit.vector x b) b) (IntOp.remsi ArithUnit.vector x b)

def divL (b x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        1#32)
      (IntOp.cmpi CmpIPredicate.ne (IntOp.remsi ArithUnit.vector x b) 0#32))
    (IntOp.subi (IntOp.divsi ArithUnit.vector x b) 1#32)
    (IntOp.divsi ArithUnit.vector x b)

theorem rem32 : ∀ l : Fin 128, remL 32#32 (BitVec.ofNat 32 l.val) = BitVec.ofNat 32 (l.val % 32) := by decide +kernel
theorem rem4 : ∀ l : Fin 128, remL 4#32 (BitVec.ofNat 32 l.val) = BitVec.ofNat 32 (l.val % 4) := by decide +kernel
theorem div32 : ∀ l : Fin 128, divL 32#32 (BitVec.ofNat 32 l.val) = BitVec.ofNat 32 (l.val / 32) := by decide +kernel
theorem div4 : ∀ l : Fin 128, divL 4#32 (BitVec.ofNat 32 l.val) = BitVec.ofNat 32 (l.val / 4) := by decide +kernel

theorem addi_ofNat (a b : ℕ) : IntOp.addi (BitVec.ofNat 32 a) (BitVec.ofNat 32 b) = BitVec.ofNat 32 (a + b) :=
  (BitVec.ofNat_add a b).symm
theorem muli_ofNat (a b : ℕ) : IntOp.muli (BitVec.ofNat 32 a) (BitVec.ofNat 32 b) = BitVec.ofNat 32 (a * b) :=
  (BitVec.ofNat_mul a b).symm

theorem wrap_word : ∀ x : Fin 128, Scalar.select (IntOp.cmpi .slt (BitVec.ofNat 32 x.val) 0#32) (IntOp.addi (BitVec.ofNat 32 x.val) 128#32)
    (BitVec.ofNat 32 x.val) = BitVec.ofNat 32 x.val := by decide +kernel

theorem eq_word (a b : ℕ) (ha : a < 256) (hb : b < 256) :
    IntOp.cmpi .eq (BitVec.ofNat 32 a) (BitVec.ofNat 32 b) = BitVec.ofBool (decide (a = b)) :=
  WordCmp.cmpi_eq_ofNat (by omega) (by omega)

theorem sel_at {s : Shape} {α : Type} (c : IVec s 1) (a b : s.Idx → α) (i : s.Idx) : select c a b i = Scalar.select (c i) (a i) (b i) := rfl
theorem bc_at {s : Shape} {α : Type} (x : α) (i : s.Idx) : broadcast s x i = x := rfl

theorem gidx_apply (r : Fin 4) (x : Fin 160) (l : Fin 128) :
    gidx (BitVec.ofNat 32 r.val) (ix2 x l) = BitVec.ofNat 32 (4 * (l.val % 32) + r.val) := by
  pointwise [gidx, wrapW, remW, i160, o160]
  have e := rem32 l
  unfold remL at e
  have w := wrap_word ⟨l.val % 32 * 4 + r.val, by omega⟩
  simp only at w
  rw [e, muli_ofNat, addi_ofNat, w, mul_comm]

theorem div_apply (x : Fin 160) (l : Fin 128) :
    divW 32#32 i160 (ix2 x l) = BitVec.ofNat 32 (l.val / 32) := by
  pointwise [divW, i160]
  exact div32 l

theorem gather_apply (Y : FVec Ideal S160x128 .f32) (r : Fin 4) (x : Fin 160) (l : Fin 128) :
    dynamicGather 1 Y (gidx (BitVec.ofNat 32 r.val)) (ix2 x l) = Y (ix2 x ⟨4 * (l.val % 32) + r.val, by omega⟩) := by
  pointwise []
  rw [gidx_apply]
  congr 2
  apply Fin.ext
  show (BitVec.ofNat 32 (4 * (l.val % 32) + r.val)).toNat % 128 = 4 * (l.val % 32) + r.val
  rw [BitVec.toNat_ofNat, Nat.mod_eq_of_lt (by omega), Nat.mod_eq_of_lt (by omega)]

theorem dilH_apply (X : FVec Ideal S160x1024 .f32) (r : Fin 4) (o : ℕ) (h0 h1 h2 h3) (x : Fin 160) (l : Fin 128) (ho : o + 512 ≤ 1024) :
    dilH X (BitVec.ofNat 32 r.val) o h0 h1 h2 h3 (ix2 x l) = X (ix2 x ⟨o + (4 * l.val + r.val), by omega⟩) := by
  have H : ∀ k : ℕ, k < 4 → ∀ hs : Shape.Slices S160x1024 ![0, o + 128 * k] S160x128, l.val / 32 = k →
      dynamicGather 1 (extractStridedSlice S160x128 ![0, o + 128 * k] X hs) (gidx (BitVec.ofNat 32 r.val)) (ix2 x l)
        = X (ix2 x ⟨o + (4 * l.val + r.val), by omega⟩) := by
    intro k hk hs e
    rw [gather_apply]
    pointwise []
    congr 2
    apply Fin.ext
    simp only
    omega
  have hd := div_apply x l
  unfold dilH
  simp only [sel_at, bc_at, cmpi_apply, hd, show (3#32) = BitVec.ofNat 32 3 from rfl, show (2#32) = BitVec.ofNat 32 2 from rfl,
    show (1#32) = BitVec.ofNat 32 1 from rfl]
  rw [eq_word _ _ (by omega) (by omega), eq_word _ _ (by omega) (by omega), eq_word _ _ (by omega) (by omega), select_ofBool, select_ofBool, select_ofBool]
  split_ifs with a b d
  · exact H 3 (by omega) h3 a
  · exact H 2 (by omega) h2 b
  · exact H 1 (by omega) h1 d
  · exact H 0 (by omega) h0 (by omega)

theorem dilT_apply (X : FVec Ideal S160x1024 .f32) (r : Fin 4) (x : Fin 160) (j : Fin 256) :
    dilT X (BitVec.ofNat 32 r.val) (ix2 x j) = X (ix2 x ⟨4 * j.val + r.val, by omega⟩) := by
  have A := fun l => dilH_apply X r 0 (by decide) (by decide) (by decide) (by decide) x l (by omega)
  have B := fun l => dilH_apply X r 512 (by decide) (by decide) (by decide) (by decide) x l (by omega)
  unfold dilT
  generalize dilH X (BitVec.ofNat 32 r.val) 0 _ _ _ _ = Y at *
  generalize dilH X (BitVec.ofNat 32 r.val) 512 _ _ _ _ = Z at *
  pointwise []
  by_cases h : j.val < 128
  · rw [dif_pos h, A]; congr 2; apply Fin.ext; simp only; omega
  · rw [dif_neg h, B]; congr 2; apply Fin.ext; simp only; omega

end Cert.KernelIdeal.Tile
end
-- ==== Proof.Dilated.lean ====
/- The dilated pattern's blocks of scores, and what they are at a lane. -/
module

public import proofs.«01_k».proof.Proof.Gather

@[expose] public section

noncomputable section

namespace Cert.KernelIdeal.Tile

open Cert.KernelIdeal Cert.KernelIdeal.Gen Cert.KernelIdeal.Hand
open Idealize.ShloMosaic

/-! ## Scores of the dilated keys -/

/-- A head's 160 × 1024 codes. -/
def all {c : Dev nD} (M : Memref sig .tc .vmem S1x4x160x1024 .fp8e4m3) (f : Bf (F := Ideal) c M) (h : Fin 4) : FVec Ideal S160x1024 .fp8e4m3 :=
  shapeCast S160x1024 (View.readAt (Elt Ideal) M.view
    (Rect.unit (s := S1x4x160x1024) ![0, h.val, 0, 0] S1x1x160x1024.size (inb_vals h)).toLoadRect f)
    (by exact (by decide : Shape.ShapeCasts S1x1x160x1024 S160x1024))

/-- The queries whose position is `h` modulo four, the others zero. -/
def resQ (Q : FVec Ideal S160x1024 .fp8e4m3) (h : BitVec 32) : FVec Ideal S160x1024 .fp8e4m3 :=
  truncf .fp8e4m3 (select (cmpi .eq (remW 4#32 (iota .tc S160x1024 32 [1] (by decide)) (broadcastTo S160x1024 (broadcast S160x1024 0#1) (by decide)))
    (broadcast S160x1024 h)) (extf .f32 Q (by decide)) (broadcast S160x1024 (Scalar.sitofp .f32 0#32))) (by decide)

/-- The dilated keys of residue `h` against the queries of residue `h`. -/
def mm (K Q : FVec Ideal S160x1024 .fp8e4m3) (h : BitVec 32) : FVec Ideal S256x1024 .f32 :=
  matmul dot_S160x256_S160x1024_S256x1024_0_0_1_1_n_n none (truncf .fp8e4m3 (dilT (extf .f32 K (by decide)) h) (by decide)) (resQ Q h)
    (constant S256x1024 .f32 0x00000000#32)

theorem resQ_apply (Q) (h : Fin 4) (x : Fin 160) (q : Fin 1024) :
    resQ Q (BitVec.ofNat 32 h.val) (ix2 x q) = if q.val % 4 = h.val then Q (ix2 x q) else 0 := by
  pointwise [resQ, remW]
  rw [show Scalar.select _ _ _ = BitVec.ofNat 32 (q.val % 4) from resL_eq q, eq_word _ _ (by omega) (by omega), select_ofBool, toInt_zero]

theorem mm_apply (K Q) (h : Fin 4) (j : Fin 256) (q : Fin 1024) : mm K Q (BitVec.ofNat 32 h.val) (ix2 j q) =
    if q.val % 4 = h.val then ∑ x, K (ix2 x ⟨4 * j.val + h.val, by omega⟩) * Q (ix2 x q) else 0 := by
  have A := fun x => resQ_apply Q h x q
  have B := fun x => dilT_apply (extf .f32 K (by decide)) h x j
  unfold mm
  generalize resQ Q (BitVec.ofNat 32 h.val) = Y at *
  generalize dilT (extf .f32 K (by decide)) (BitVec.ofNat 32 h.val) = Z at *
  pointwise []
  simp only [A, B]
  split_ifs with hq
  · rfl
  · exact Finset.sum_eq_zero fun x _ => mul_zero _

/-- The heads' products, four heads or two. -/
def S4 (f : Fin 4 → FVec Ideal S256x1024 .f32) : FVec Ideal S256x1024 .f32 := addf (addf (addf (f 0) (f 1)) (f 2)) (f 3)
def S2 (f : Fin 4 → FVec Ideal S256x1024 .f32) : FVec Ideal S256x1024 .f32 := addf (f 0) (f 1)

theorem S4_apply (f) (h : Fin 4) (y) (hf : ∀ k, k ≠ h → f k y = 0) : S4 f y = f h y := by
  show f 0 y + f 1 y + f 2 y + f 3 y = f h y
  fin_cases h
  · rw [hf 1 (by decide), hf 2 (by decide), hf 3 (by decide), add_zero, add_zero, add_zero]; rfl
  · rw [hf 0 (by decide), hf 2 (by decide), hf 3 (by decide), add_zero, add_zero, zero_add]; rfl
  · rw [hf 0 (by decide), hf 1 (by decide), hf 3 (by decide), add_zero, zero_add, zero_add]; rfl
  · rw [hf 0 (by decide), hf 1 (by decide), hf 2 (by decide), zero_add, zero_add, zero_add]; rfl

theorem S2_apply (f) (h : Fin 4) (hh : h.val < 2) (y) (hf : ∀ k, k ≠ h → f k y = 0) : S2 f y = f h y := by
  show f 0 y + f 1 y = f h y
  fin_cases h
  · rw [hf 1 (by decide), add_zero]; rfl
  · rw [hf 0 (by decide), zero_add]; rfl
  · exact absurd hh (by decide)
  · exact absurd hh (by decide)

/-- Each lane's own head's entry, of four heads or two. -/
def X4 {s : Shape} (r : IVec s 32) (f : Fin 4 → FVec Ideal s .f32) : FVec Ideal s .f32 :=
  select (cmpi .eq r (broadcast s 3#32)) (f 3) (select (cmpi .eq r (broadcast s 2#32)) (f 2) (select (cmpi .eq r (broadcast s 1#32)) (f 1) (f 0)))
def X2 {s : Shape} (r : IVec s 32) (f : Fin 4 → FVec Ideal s .f32) : FVec Ideal s .f32 :=
  select (cmpi .eq r (broadcast s 1#32)) (f 1) (f 0)

theorem X4_apply {s : Shape} (r : IVec s 32) (f : Fin 4 → FVec Ideal s .f32) (h : Fin 4) (y : s.Idx) (hr : r y = BitVec.ofNat 32 h.val) :
    X4 r f y = f h y := by
  unfold X4
  simp only [sel_at, bc_at, cmpi_apply, hr]
  fin_cases h <;> rfl

theorem X2_apply {s : Shape} (r : IVec s 32) (f : Fin 4 → FVec Ideal s .f32) (h : Fin 4) (hh : h.val < 2) (y : s.Idx)
    (hr : r y = BitVec.ofNat 32 h.val) : X2 r f y = f h y := by
  unfold X2
  simp only [sel_at, bc_at, cmpi_apply, hr]
  fin_cases h
  · rfl
  · rfl
  · exact absurd hh (by decide)
  · exact absurd hh (by decide)

/-! ## One 8 × 128 block -/

def o8 : IVec S8x128 1 := broadcastTo S8x128 (broadcast S8x128 0#1) (by decide)
def r8 : IVec S8x128 32 := iota .tc S8x128 32 [0] (by decide)
def l8 : IVec S8x128 32 := iota .tc S8x128 32 [1] (by decide)

/-- The lanes of eight dilated keys' scales in 128 lanes, from lane `b` on. -/
def kidx (b : BitVec 32) : IVec S8x128 32 :=
  shapeCast S8x128 (shapeCast S8x128x1 (wrapW (addi (addi (broadcast S8x128 b) (muli r8 (broadcast S8x128 4#32))) (remW 4#32 l8 o8)))
    (by decide)) (by decide)

/-- Whether key and query are both of residue `w` modulo four among the dilated positions. -/
def same (w : BitVec 32) : IVec S8x128 1 :=
  andi (cmpi .eq (remW 4#32 r8 o8) (broadcast S8x128 w)) (cmpi .eq (remW 4#32 (divW 4#32 l8) o8) (broadcast S8x128 w))

def f1 : FVec Ideal S8x128 .f32 := broadcast S8x128 (FloatOps.ofBits .f32 0x3F800000#32)
def f0 : FVec Ideal S8x128 .f32 := broadcast S8x128 (FloatOps.ofBits .f32 0x00000000#32)

/-- What is added to a block's scores: in one segment of 768 positions one where both patterns let the key through, else
    zero; across segments zero where the wider pattern does, else minus infinity; and minus infinity after the query. -/
def bS (w : BitVec 32) : FVec Ideal S8x128 .f32 := select (same w) f1 f0
def bX (w : BitVec 32) : FVec Ideal S8x128 .f32 := select (same w) f0 neg
def bD (w a e : BitVec 32) : FVec Ideal S8x128 .f32 :=
  select (cmpi .sle (addi (broadcast S8x128 a) r8) (addi (broadcast S8x128 e) (divW 4#32 l8))) (bS w) neg

theorem sl_s : ∀ (a : Fin 32) (e : Fin 8), Shape.Slices S256x1024 ![8 * a.val, 128 * e.val] S8x128 := by decide +kernel
theorem sl_k : ∀ a : Fin 32, Shape.Slices S1x1024 ![0, 128 * (a.val / 4)] S1x128 := by decide
theorem sl_e : ∀ e : Fin 8, Shape.Slices S1x1024 ![0, 128 * e.val] S1x128 := by decide

/-- Rows `8a…8a+7` and lanes `128e…128e+127` of the dilated scores, scaled and masked. -/
def blk (S : FVec Ideal S256x1024 .f32) (K Q : FVec Ideal S1x1024 .f32) (w : BitVec 32) (a : Fin 32) (e : Fin 8) : FVec Ideal S8x128 .f32 :=
  addf (mulf (mulf (extractStridedSlice S8x128 ![8 * a.val, 128 * e.val] S (sl_s a e))
      (dynamicGather 1 (broadcastTo S8x128 (shapeCast S1x128 (extractStridedSlice S1x128 ![0, 128 * (a.val / 4)] K (sl_k a)) (by decide)) (by decide))
        (kidx (BitVec.ofNat 32 (32 * (a.val % 4))))))
      (broadcastTo S8x128 (extractStridedSlice S1x128 ![0, 128 * e.val] Q (sl_e e)) (by decide)))
    (if 4 * e.val ≤ a.val then bD w (BitVec.ofNat 32 (8 * a.val)) (BitVec.ofNat 32 (32 * e.val))
      else if 24 ≤ a.val ∨ e.val < 6 then bS w else bX w)

/-- What is added to the score of query `q` with dilated key `j`. -/
def bias (c j q : ℕ) : EReal :=
  if j ≤ q / 4 then (if 192 ≤ j ∨ q / 4 < 192 then (if j % 4 = c ∧ q / 4 % 4 = c then 1 else 0)
    else if j % 4 = c ∧ q / 4 % 4 = c then 0 else ⊥) else ⊥

theorem kidx_apply (b : Fin 4) (r : Fin 8) (l : Fin 128) :
    kidx (BitVec.ofNat 32 (32 * b.val)) (ix2 r l) = BitVec.ofNat 32 (32 * b.val + 4 * r.val + l.val % 4) := by
  pointwise [kidx, wrapW, remW, r8, l8, o8]
  have e := rem4 l
  unfold remL at e
  have w := wrap_word ⟨32 * b.val + r.val * 4 + l.val % 4, by omega⟩
  simp only at w
  rw [e, muli_ofNat, addi_ofNat, addi_ofNat, w, mul_comm r.val]

theorem same_apply (c : ℕ) (hc : c < 4) (r : Fin 8) (l : Fin 128) :
    same (BitVec.ofNat 32 c) (ix2 r l) = BitVec.ofBool (decide (r.val % 4 = c ∧ l.val / 4 % 4 = c)) := by
  pointwise [same, remW, divW, r8, l8, o8]
  have e1 := rem4 ⟨r.val, by omega⟩
  have e2 := rem4 ⟨l.val / 4, by omega⟩
  have e3 := div4 l
  unfold remL at e1 e2
  unfold divL at e3
  rw [e3, e1, e2, eq_word _ _ (by omega) (by omega), eq_word _ _ (by omega) (by omega)]
  simp only
  by_cases h1 : r.val % 4 = c <;> by_cases h2 : l.val / 4 % 4 = c <;> simp [h1, h2, IntOp.andi]

theorem one_f : Ideal.ofBits .f32 0x3F800000#32 = 1 := by
  have h : ∀ x : FVec Ideal S8x128 .f32, x = f1 → x (ix2 0 0) = 1 := by
    rintro _ rfl; pointwise [f1]
  exact h f1 rfl

theorem bS_apply (c : ℕ) (hc : c < 4) (r : Fin 8) (l : Fin 128) : bS (BitVec.ofNat 32 c) (ix2 r l) =
    if r.val % 4 = c ∧ l.val / 4 % 4 = c then 1 else 0 := by
  have e := same_apply c hc r l
  have a1 : f1 (ix2 r l) = 1 := one_f
  have a0 : f0 (ix2 r l) = 0 := by pointwise [f0]
  unfold bS; rw [sel_at, e, select_ofBool, a1, a0]

theorem bX_apply (c : ℕ) (hc : c < 4) (r : Fin 8) (l : Fin 128) : bX (BitVec.ofNat 32 c) (ix2 r l) =
    if r.val % 4 = c ∧ l.val / 4 % 4 = c then 0 else ⊥ := by
  have e := same_apply c hc r l
  have a1 : (neg : FVec Ideal S8x128 .f32) (ix2 r l) = ⊥ := neg_inf
  have a0 : f0 (ix2 r l) = 0 := by pointwise [f0]
  unfold bX; rw [sel_at, e, select_ofBool, a1, a0]

theorem bD_apply (c : ℕ) (hc : c < 4) (a e : ℕ) (ha : a < 256) (he : e < 256) (r : Fin 8) (l : Fin 128) :
    bD (BitVec.ofNat 32 c) (BitVec.ofNat 32 a) (BitVec.ofNat 32 e) (ix2 r l) =
    if a + r.val ≤ e + l.val / 4 then if r.val % 4 = c ∧ l.val / 4 % 4 = c then 1 else 0 else ⊥ := by
  have e1 := bS_apply c hc r l
  have a1 : (neg : FVec Ideal S8x128 .f32) (ix2 r l) = ⊥ := neg_inf
  have e3 : divW 4#32 l8 (ix2 r l) = BitVec.ofNat 32 (l.val / 4) := by
    pointwise [divW, l8]; exact div4 l
  have e4 : r8 (ix2 r l) = BitVec.ofNat 32 r.val := by pointwise [r8]
  have e5 : cmpi .sle (addi (broadcast S8x128 (BitVec.ofNat 32 a)) r8) (addi (broadcast S8x128 (BitVec.ofNat 32 e)) (divW 4#32 l8)) (ix2 r l)
      = BitVec.ofBool (decide (a + r.val ≤ e + l.val / 4)) := by
    show IntOp.cmpi .sle (IntOp.addi (BitVec.ofNat 32 a) (r8 (ix2 r l))) (IntOp.addi (BitVec.ofNat 32 e) (divW 4#32 l8 (ix2 r l))) = _
    rw [e3, e4, addi_ofNat, addi_ofNat]
    exact WordCmp.cmpi_sle_ofNat (by omega) (by omega)
  unfold bD; rw [sel_at, e5, select_ofBool, e1, a1]

section
variable (S : FVec Ideal S256x1024 .f32) (K Q : FVec Ideal S1x1024 .f32) (c : ℕ) (hc : c < 4)

/-- The scaled and masked score of query `q` with dilated key `j`. -/
def G (j : Fin 256) (q : Fin 1024) : EReal :=
  S (ix2 j q) * K (ix2 0 ⟨4 * j.val + q.val % 4, by omega⟩) * Q (ix2 0 q) + bias c j.val q.val

include hc in
theorem blk_apply (a : Fin 32) (e : Fin 8) (hae : a.val < 4 * (e.val + 1)) (r : Fin 8) (l : Fin 128) :
    blk S K Q (BitVec.ofNat 32 c) a e (ix2 r l) = G S K Q c ⟨8 * a.val + r.val, by omega⟩ ⟨128 * e.val + l.val, by omega⟩ := by
  have hb : (if 4 * e.val ≤ a.val then bD (BitVec.ofNat 32 c) (BitVec.ofNat 32 (8 * a.val)) (BitVec.ofNat 32 (32 * e.val))
      else if 24 ≤ a.val ∨ e.val < 6 then bS (BitVec.ofNat 32 c) else bX (BitVec.ofNat 32 c)) (ix2 r l)
      = bias c (8 * a.val + r.val) (128 * e.val + l.val) := by
    have q4 : (128 * e.val + l.val) / 4 = 32 * e.val + l.val / 4 := by omega
    have m1 : (8 * a.val + r.val) % 4 = r.val % 4 := by omega
    have m2 : (32 * e.val + l.val / 4) % 4 = l.val / 4 % 4 := by omega
    unfold bias
    rw [q4, m1, m2]
    by_cases h1 : 4 * e.val ≤ a.val
    · rw [if_pos h1, bD_apply c hc _ _ (by omega) (by omega), if_pos (show 192 ≤ 8 * a.val + r.val ∨ 32 * e.val + l.val / 4 < 192 by omega)]
    · rw [if_neg h1, if_pos (show 8 * a.val + r.val ≤ 32 * e.val + l.val / 4 by omega)]
      by_cases h2 : 24 ≤ a.val ∨ e.val < 6
      · rw [if_pos h2, bS_apply c hc, if_pos (show 192 ≤ 8 * a.val + r.val ∨ 32 * e.val + l.val / 4 < 192 by omega)]
      · rw [if_neg h2, bX_apply c hc, if_neg (show ¬(192 ≤ 8 * a.val + r.val ∨ 32 * e.val + l.val / 4 < 192) by omega)]
  have hk := kidx_apply ⟨a.val % 4, by omega⟩ r l
  unfold blk G
  generalize (if 4 * e.val ≤ a.val then bD (BitVec.ofNat 32 c) (BitVec.ofNat 32 (8 * a.val)) (BitVec.ofNat 32 (32 * e.val))
      else if 24 ≤ a.val ∨ e.val < 6 then bS (BitVec.ofNat 32 c) else bX (BitVec.ofNat 32 c)) = B at *
  simp only at hk
  generalize kidx (BitVec.ofNat 32 (32 * (a.val % 4))) = I at *
  pointwise []
  rw [hb]
  have hn : (I (ix2 r l)).toNat % 128 = 32 * (a.val % 4) + 4 * r.val + l.val % 4 := by
    rw [hk, BitVec.toNat_ofNat, Nat.mod_eq_of_lt (by omega), Nat.mod_eq_of_lt (by omega)]
  congr 5
  apply Fin.ext
  simp only [hn]
  omega

/-- A lane tile's running maximum over its first `k` blocks. -/
def acc (w : BitVec 32) (e : Fin 8) : ℕ → FVec Ideal S8x128 .f32
  | 0 => neg
  | k + 1 => maximumf (acc w e k) (blk S K Q w (Fin.ofNat 32 k) e)

/-- Each lane's largest dilated score. -/
def m4 (w : BitVec 32) (e : Fin 8) : FVec Ideal S1x128 .f32 :=
  shapeCast S1x128 (multiReduction .maximumf [0] S128 (acc S K Q w e (4 * (e.val + 1))) 0xFF800000#32 (by decide) (.inl rfl) rfl) (by decide)

theorem bias_bot (c j q : ℕ) (h : q / 4 < j) : bias c j q = ⊥ := by
  unfold bias; rw [if_neg (by omega)]

theorem G_bot (j : Fin 256) (q : Fin 1024) (h : q.val / 4 < j.val) : G S K Q c j q = ⊥ := by
  unfold G; rw [bias_bot _ _ _ h, EReal.add_bot]

include hc in
theorem acc_le (e : Fin 8) (r : Fin 8) (l : Fin 128) : ∀ k : ℕ, k ≤ 4 * (e.val + 1) →
    acc S K Q (BitVec.ofNat 32 c) e k (ix2 r l) ≤ Finset.univ.sup fun j => G S K Q c j ⟨128 * e.val + l.val, by omega⟩
  | 0, _ => by show Ideal.ofBits .f32 0xFF800000#32 ≤ _; rw [neg_inf]; exact bot_le
  | k + 1, hk => by
    have hkv : (Fin.ofNat 32 k).val = k := Nat.mod_eq_of_lt (by omega)
    show max (acc S K Q (BitVec.ofNat 32 c) e k (ix2 r l)) (blk S K Q (BitVec.ofNat 32 c) (Fin.ofNat 32 k) e (ix2 r l)) ≤ _
    refine max_le (acc_le e r l k (by omega)) ?_
    rw [blk_apply S K Q c hc _ _ (by omega)]
    exact Finset.le_sup (f := fun j => G S K Q c j ⟨128 * e.val + l.val, by omega⟩) (Finset.mem_univ _)

include hc in
theorem le_acc (e : Fin 8) (r : Fin 8) (l : Fin 128) (a : Fin 32) : ∀ k : ℕ, k ≤ 4 * (e.val + 1) → a.val < k →
    G S K Q c ⟨8 * a.val + r.val, by omega⟩ ⟨128 * e.val + l.val, by omega⟩ ≤ acc S K Q (BitVec.ofNat 32 c) e k (ix2 r l)
  | 0, _, h => absurd h (by omega)
  | k + 1, hk, h => by
    have hkv : (Fin.ofNat 32 k).val = k := Nat.mod_eq_of_lt (by omega)
    show _ ≤ max (acc S K Q (BitVec.ofNat 32 c) e k (ix2 r l)) (blk S K Q (BitVec.ofNat 32 c) (Fin.ofNat 32 k) e (ix2 r l))
    by_cases ha : a.val = k
    · obtain rfl : a = Fin.ofNat 32 k := Fin.ext (by omega)
      rw [← blk_apply S K Q c hc _ _ (by omega)]
      exact le_max_right _ _
    · exact (le_acc e r l a k (by omega) (by omega)).trans (le_max_left _ _)

include hc in
theorem m4_apply (e : Fin 8) (l : Fin 128) : m4 S K Q (BitVec.ofNat 32 c) e (ix2 0 l) =
    Finset.univ.sup fun j => G S K Q c j ⟨128 * e.val + l.val, by omega⟩ := by
  have A := fun r => acc_le S K Q c hc e r l _ le_rfl
  have B := fun r a => le_acc S K Q c hc e r l a _ le_rfl
  unfold m4
  generalize acc S K Q (BitVec.ofNat 32 c) e (4 * (e.val + 1)) = Y at *
  pointwise []
  rw [neg_inf, fold_sup]
  apply le_antisymm
  · exact Finset.sup_le fun r _ => A r
  · refine Finset.sup_le fun j _ => ?_
    by_cases hj : j.val / 8 < 4 * (e.val + 1)
    · refine le_trans ?_ (Finset.le_sup (f := fun r => Y (ix2 r l)) (Finset.mem_univ (⟨j.val % 8, by omega⟩ : Fin 8)))
      refine le_trans (le_of_eq ?_) (B ⟨j.val % 8, by omega⟩ ⟨j.val / 8, by omega⟩ hj)
      congr 1
      apply Fin.ext
      simp only
      omega
    · rw [G_bot]
      · exact bot_le
      · simp only; omega

end

end Cert.KernelIdeal.Tile

end
-- ==== Proof.Weights.lean ====
/- The dilated pattern's part of a tile: its scores, their largest, their weights and its values, as the kernel writes them. -/
module

public import proofs.«01_k».proof.Proof.Dilated
public import Idealize.ShloMosaic.Lib.Pipeline.CanonAppend
public import Idealize.ShloMosaic.Lib.Pipeline.ValueKit.Tiles
public import Idealize.ShloMosaic.Lib.Pipeline.ValueKit.Geometry

@[expose] public section

noncomputable section

namespace Cert.KernelIdeal.Tile

open Cert.KernelIdeal Cert.KernelIdeal.Gen Cert.KernelIdeal.Hand
open Idealize.ShloMosaic

/-- What a step computes from: whether it has four heads or two, its grid point, its blocks and what they hold, and its scratch; and
    what it computes of the dilated pattern: the residue of its heads among the dilated positions, the scores and their scales, the
    stores of scaled scores, each lane tile's largest dilated scores, largest scores of all and sums of dilated weights, and the
    stores of dilated weights before each segment and after the last. -/
structure Env (c : Dev nD) where
  four : Bool
  i : grid0.Coords
  M2 : Memref sig .tc .vmem S1x4x160x1024 .fp8e4m3
  M3 : Memref sig .tc .vmem S1x4x160x1024 .fp8e4m3
  M4 : Memref sig .tc .vmem S1x4x160x1024 .fp8e4m3
  M5 : Memref sig .tc .vmem S4x2x1024 .f32
  M6 : Memref sig .tc .vmem S4x2x1024 .f32
  M7 : Memref sig .tc .vmem S4x2x1024 .f32
  M10 : Memref sig .tc .vmem S256x1024 .f32
  M11 : Memref sig .tc .vmem S256x1024 .bf16
  f2 : Bf (F := Ideal) c M2
  f3 : Bf (F := Ideal) c M3
  f4 : Bf (F := Ideal) c M4
  f5 : Bf (F := Ideal) c M5
  f6 : Bf (F := Ideal) c M6
  f7 : Bf (F := Ideal) c M7
  w : BitVec 32
  S : FVec Ideal S256x1024 .f32
  K : FVec Ideal S1x1024 .f32
  Q : FVec Ideal S1x1024 .f32
  L10 : List (View.Piece (Elt Ideal) S256x1024 .f32)
  big : Fin 8 → FVec Ideal S1x128 .f32
  mix : Fin 8 → FVec Ideal S1x128 .f32
  l4 : Fin 8 → FVec Ideal S1x128 .f32
  wt : Fin 5 → List (View.Piece (Elt Ideal) S256x1024 .bf16)

/-! ## The scratch of dilated scores -/

/-- Blocks `k-1, …, 0` of lane tile `e`, in the order the stores list them. -/
def down (e : Fin 8) : ℕ → List (Fin 32 × Fin 8)
  | 0 => []
  | k + 1 => (Fin.ofNat 32 k, e) :: down e k

/-- All blocks with a key not after some query. -/
def keys : List (Fin 32 × Fin 8) :=
  down 7 32 ++ (down 6 28 ++ (down 5 24 ++ (down 4 20 ++ (down 3 16 ++ (down 2 12 ++ (down 1 8 ++ down 0 4))))))

theorem inb_blk : ∀ (a : Fin 32) (e : Fin 8) (x), (![8 * a.val, 128 * e.val] : Fin 2 → ℕ) x + S8x128.size x ≤ S256x1024.size x := by
  decide +kernel

def piece (S : FVec Ideal S256x1024 .f32) (K Q : FVec Ideal S1x1024 .f32) (w : BitVec 32) (k : Fin 32 × Fin 8) :
    View.Piece (Elt Ideal) S256x1024 .f32 :=
  ⟨Rect.unit ![8 * k.1.val, 128 * k.2.val] S8x128.size (inb_blk k.1 k.2), shapeCast S8x128 (blk S K Q w k.1 k.2) (by decide)⟩

/-- The rows of lane tile `e` that hold a key not after some query. -/
abbrev Rw (e : Fin 8) : Shape := ⟨2, ![32 * (e.val + 1), 128]⟩

theorem inb_rw : ∀ (e : Fin 8) (x), (![0, 128 * e.val] : Fin 2 → ℕ) x + (Rw e).size x ≤ S256x1024.size x := by decide +kernel
theorem bc_rw : ∀ e : Fin 8, Shape.Broadcasts S1x128 (Rw e) := by decide +kernel
theorem red_rw : ∀ e : Fin 8, Shape.Reduces (Rw e) [0] S128 := by decide +kernel
theorem cast_rw : ∀ e : Fin 8, Shape.ShapeCasts (Rw e) (Rw e) := by decide +kernel

/-- Four heads' or two heads' sum, and each lane's own head's entry. -/
def SS (b : Bool) (f : Fin 4 → FVec Ideal S256x1024 .f32) : FVec Ideal S256x1024 .f32 := cond b (S4 f) (S2 f)
def XX {s : Shape} (b : Bool) (r : IVec s 32) (f : Fin 4 → FVec Ideal s .f32) : FVec Ideal s .f32 := cond b (X4 r f) (X2 r f)

def evn (n : Fin 4) : Fin 8 := ⟨2 * n.val, by omega⟩
def odd (n : Fin 4) : Fin 8 := ⟨2 * n.val + 1, by omega⟩

/-- The scales of dilated key values of residue `r` in 128 lanes: which scale each lane takes. -/
def vidx (r : BitVec 32) : IVec S8x128 32 :=
  shapeCast S8x128 (shapeCast S8x128x1 (wrapW (addi (muli (remW 32#32 l8 o8) (broadcast S8x128 4#32)) (broadcast S8x128 r)))
    (by decide)) (by decide)

theorem sl_o : ∀ o : Fin 8, Shape.Slices S1x1024 ![0, 128 * o.val] S1x128 := by decide

def vget (x : FVec Ideal S1x1024 .f32) (r : BitVec 32) (o : Fin 8) : FVec Ideal S8x128 .f32 :=
  dynamicGather 1 (broadcastTo S8x128 (shapeCast S1x128 (extractStridedSlice S1x128 ![0, 128 * o.val] x (sl_o o)) (by decide)) (by decide)) (vidx r)

/-- 128 of the dilated values' scales. -/
def vhalf (x : FVec Ideal S1x1024 .f32) (r : BitVec 32) (o o1 o2 o3 : Fin 8) : FVec Ideal S1x128 .f32 :=
  extractStridedSlice S1x128 ![0, 0] (select (cmpi .eq (divW 32#32 l8) (broadcast S8x128 3#32)) (vget x r o3)
    (select (cmpi .eq (divW 32#32 l8) (broadcast S8x128 2#32)) (vget x r o2)
      (select (cmpi .eq (divW 32#32 l8) (broadcast S8x128 1#32)) (vget x r o1) (vget x r o)))) (by decide)

def vsc (x : FVec Ideal S1x1024 .f32) (r : BitVec 32) : FVec Ideal S1x256 .f32 :=
  concatenate S1x256 1 [⟨S1x128, vhalf x r 0 1 2 3⟩, ⟨S1x128, vhalf x r 4 5 6 7⟩] concatenates_S1x128_S1x128_S1x256_d1

/-- The dilated keys' values, dequantized. -/
def vdil (V : FVec Ideal S160x1024 .fp8e4m3) (x : FVec Ideal S1x1024 .f32) (r : BitVec 32) : FVec Ideal S160x256 .bf16 :=
  mulf (extf .bf16 (truncf .fp8e4m3 (dilT (extf .f32 V (by decide)) r) (by decide)) (by decide))
    (broadcastTo S160x256 (truncf .bf16 (vsc x r) (by decide)) (by decide))

namespace Env
variable {c : Dev nD} (E : Env c)

abbrev ksc (h : Fin 4) : FVec Ideal S1x1024 .f32 := scales E.M6 E.f6 (offV E.i h 0) (inb_row E.i h)
abbrev qsc (h : Fin 4) : FVec Ideal S1x1024 .f32 := scales E.M5 E.f5 (offV E.i h 0) (inb_row E.i h)
abbrev vscl (h : Fin 4) : FVec Ideal S1x1024 .f32 := scales E.M7 E.f7 (offV E.i h 0) (inb_row E.i h)

/-- A head's largest scores in the two halves of segment `n`. -/
def mA1 (n h : Fin 4) : FVec Ideal S1x128 .f32 :=
  mA (tA (sc (codes E.M3 E.f3 h n) (codes E.M2 E.f2 h n)) (kcol (E.ksc h) n) (qrow (E.qsc h) (n.val * 256) (sl_q n)))
    (own (n.val * 256) (sl_q n) (BitVec.ofNat 32 h.val)) (E.big (evn n))
def mB1 (n h : Fin 4) : FVec Ideal S1x128 .f32 :=
  mB (tB (sc (codes E.M3 E.f3 h n) (codes E.M2 E.f2 h n)) (kcol (E.ksc h) n) (qrow (E.qsc h) (n.val * 256 + 128) (sl_q' n)))
    (own (n.val * 256 + 128) (sl_q' n) (BitVec.ofNat 32 h.val)) (E.big (odd n))
/-- The dilated scores read back. -/
def back (e : Fin 8) : FVec Ideal (Rw e) .f32 :=
  E.M10.view.readCov E.L10 (Rect.unit (s := S256x1024) ![0, 128 * e.val] (Rw e).size (inb_rw e)).toLoadRect

def ex (e : Fin 8) (m : FVec Ideal S1x128 .f32) : FVec Ideal (Rw e) .f32 := exp2 (subf (E.back e) (broadcastTo (Rw e) m (bc_rw e)))

/-- The sum of a lane's dilated weights. -/
def sum (e : Fin 8) (m : FVec Ideal S1x128 .f32) : FVec Ideal S1x128 .f32 :=
  shapeCast S1x128 (multiReduction .add [0] S128 (E.ex e m) 0x00000000#32 (red_rw e) (.inl rfl) rfl) (by decide)

def exP (e : Fin 8) (m : FVec Ideal S1x128 .f32) : View.Piece (Elt Ideal) S256x1024 .bf16 :=
  ⟨Rect.unit (s := S256x1024) ![0, 128 * e.val] (Rw e).size (inb_rw e), shapeCast (Rw e) (truncf .bf16 (E.ex e m) (by decide)) (cast_rw e)⟩

/-- The step's dilated quantities are what they are meant to be. -/
structure Good : Prop where
  w : E.w = BitVec.ofNat 32 ((E.i 0).val % 4)
  S : E.S = SS E.four fun h => mm (all E.M3 E.f3 h) (all E.M2 E.f2 h) (BitVec.ofNat 32 h.val)
  K : E.K = XX E.four k0_pay5 E.ksc
  Q : E.Q = XX E.four k0_pay5 fun h => mulf (E.qsc h) (broadcast S1x1024 (Named.named κ "qscale" 0x3DE995B3#32))
  L10 : E.L10 = keys.map (piece E.S E.K E.Q E.w)
  big : ∀ e, E.big e = m4 E.S E.K E.Q E.w e
  mixA : ∀ n, E.mix (evn n) = XX E.four (extractStridedSlice S1x128 ![0, n.val * 256] k0_pay5 (sl_q n)) (E.mA1 n)
  mixB : ∀ n, E.mix (odd n) = XX E.four (extractStridedSlice S1x128 ![0, n.val * 256 + 128] k0_pay5 (sl_q' n)) (E.mB1 n)
  l4 : ∀ e, E.l4 e = E.sum e (E.mix e)
  wt0 : E.wt 0 = [⟨Rect.unit ![0, 0] S256x1024.size (by decide),
    shapeCast S256x1024 (broadcast S256x1024 (FloatOps.ofBits .bf16 0x0000#16) : FVec Ideal S256x1024 .bf16) (by decide)⟩]
  wt : ∀ n : Fin 4, E.wt n.succ = E.exP (odd n) (E.mix (odd n)) :: E.exP (evn n) (E.mix (evn n)) :: E.wt n.castSucc

/-- The dilated part of the output tile of head `h` and segment `n`. -/
def zz (h n : Fin 4) : FVec Ideal S160x256 .f32 :=
  if n.val < 2 then z128 (BitVec.ofNat 32 h.val)
    (extractStridedSlice S160x128 ![0, 0] (vdil (all E.M4 E.f4 h) (E.vscl h) (BitVec.ofNat 32 h.val)) (by decide))
    (E.M11.view.readCov (E.wt n.succ) (Rect.unit (s := S256x1024) ![0, 256 * n.val] S128x256.size (by revert n; decide +kernel)).toLoadRect)
  else z256 (BitVec.ofNat 32 h.val) (vdil (all E.M4 E.f4 h) (E.vscl h) (BitVec.ofNat 32 h.val))
    (E.M11.view.readCov (E.wt n.succ) (Rect.unit (s := S256x1024) ![0, 256 * n.val] S256x256.size (by revert n; decide +kernel)).toLoadRect)

/-- The output tile of head `h` and segment `n`, and its tile of logarithms. -/
def outW (h n : Fin 4) : FVec Ideal S1x160x256 .bf16 :=
  outT E.M2 E.M3 E.M4 E.M5 E.M6 E.M7 E.f2 E.f3 E.f4 E.f5 E.f6 E.f7 (offV E.i h 0) (inb_row E.i h) h n (E.zz h n)
    (E.big (evn n)) (E.big (odd n)) (E.l4 (evn n)) (E.l4 (odd n))
def lseW (h n : Fin 4) : FVec Ideal S1x1x256 .f32 :=
  lseT E.M2 E.M3 E.M5 E.M6 E.f2 E.f3 E.f5 E.f6 (offV E.i h 0) (inb_row E.i h) h n
    (E.big (evn n)) (E.big (odd n)) (E.l4 (evn n)) (E.l4 (odd n))

end Env

section
variable {c : Dev nD} (E : Env c)

/-- A list of stores into the output block is one tile for each (head, segment) listed. -/
def Outs (L : List (View.Piece (Elt Ideal) S1x640x1024 .bf16)) (ks : List (Fin 4 × Fin 4)) : Prop :=
  List.Forall₂ (fun p k => p = ⟨Rect.unit ![0, k.1.val * 160, k.2.val * 256] S1x160x256.size (inb_out k.1 k.2), E.outW k.1 k.2⟩) L ks

/-- … and into the block of logarithms. -/
def Lses (L : List (View.Piece (Elt Ideal) S4x2x1024 .f32)) (ks : List (Fin 4 × Fin 4)) : Prop :=
  List.Forall₂ (fun p k => p = ⟨Rect.unit (offV E.i k.1 (k.2.val * 256)) S1x1x256.size (inb_lse E.i k.1 k.2), E.lseW k.1 k.2⟩) L ks

end

end Cert.KernelIdeal.Tile

end
-- ==== Proof.WeightsAt.lean ====
/- The dilated pattern's part of a tile, at a lane it reaches. -/
module

public import proofs.«01_k».proof.Proof.Weights

@[expose] public section

noncomputable section

namespace Cert.KernelIdeal.Tile

open Cert.KernelIdeal Cert.KernelIdeal.Gen Cert.KernelIdeal.Hand
open Idealize.ShloMosaic

/-! ## The values of the dilated keys -/

theorem vidx_apply (r : Fin 4) (i : Fin 8) (l : Fin 128) :
    vidx (BitVec.ofNat 32 r.val) (ix2 i l) = BitVec.ofNat 32 (4 * (l.val % 32) + r.val) := by
  pointwise [vidx, wrapW, remW, l8, o8]
  have e := rem32 l
  unfold remL at e
  have w := wrap_word ⟨4 * (l.val % 32) + r.val, by omega⟩
  simp only at w
  rw [e, muli_ofNat, addi_ofNat, mul_comm (l.val % 32), w]

theorem vget_apply (x : FVec Ideal S1x1024 .f32) (r : Fin 4) (o : Fin 8) (i : Fin 8) (l : Fin 128) :
    vget x (BitVec.ofNat 32 r.val) o (ix2 i l) = x (ix2 0 ⟨128 * o.val + 4 * (l.val % 32) + r.val, by omega⟩) := by
  have e := vidx_apply r i l
  unfold vget
  generalize vidx (BitVec.ofNat 32 r.val) = I at *
  pointwise []
  have hn : (I (ix2 i l)).toNat % 128 = 4 * (l.val % 32) + r.val := by
    rw [e, BitVec.toNat_ofNat, Nat.mod_eq_of_lt (by omega), Nat.mod_eq_of_lt (by omega)]
  congr 2
  apply Fin.ext
  simp only [hn]
  omega

theorem divl_apply (i : Fin 8) (l : Fin 128) : divW 32#32 l8 (ix2 i l) = BitVec.ofNat 32 (l.val / 32) := by
  pointwise [divW, l8]
  exact div32 l

theorem vhalf_apply (x : FVec Ideal S1x1024 .f32) (r : Fin 4) (o : ℕ) (ho : o < 2) (l : Fin 128) (o0 o1 o2 o3 : Fin 8)
    (h0 : o0.val = 4 * o) (h1 : o1.val = 4 * o + 1) (h2 : o2.val = 4 * o + 2) (h3 : o3.val = 4 * o + 3) :
    vhalf x (BitVec.ofNat 32 r.val) o0 o1 o2 o3 (ix2 0 l) = x (ix2 0 ⟨4 * (128 * o + l.val) + r.val, by omega⟩) := by
  have d := divl_apply 0 l
  have g := fun o => vget_apply x r o 0 l
  unfold vhalf
  have c : ∀ k : Fin 4, cmpi .eq (divW 32#32 l8) (broadcast S8x128 (BitVec.ofNat 32 k.val)) (ix2 0 l) = BitVec.ofBool (decide (l.val / 32 = k.val)) :=
    fun k => by
      show IntOp.cmpi .eq (divW 32#32 l8 (ix2 0 l)) (BitVec.ofNat 32 k.val) = _
      rw [d, eq_word _ _ (by omega) (by omega)]
  have c1 := c 1
  have c2 := c 2
  have c3 := c 3
  change cmpi .eq (divW 32#32 l8) (broadcast S8x128 1#32) (ix2 0 l) = BitVec.ofBool (decide (l.val / 32 = 1)) at c1
  change cmpi .eq (divW 32#32 l8) (broadcast S8x128 2#32) (ix2 0 l) = BitVec.ofBool (decide (l.val / 32 = 2)) at c2
  change cmpi .eq (divW 32#32 l8) (broadcast S8x128 3#32) (ix2 0 l) = BitVec.ofBool (decide (l.val / 32 = 3)) at c3
  generalize cmpi .eq (divW 32#32 l8) (broadcast S8x128 1#32) = C1 at *
  generalize cmpi .eq (divW 32#32 l8) (broadcast S8x128 2#32) = C2 at *
  generalize cmpi .eq (divW 32#32 l8) (broadcast S8x128 3#32) = C3 at *
  have g0 := g o0
  have g1 := g o1
  have g2 := g o2
  have g3 := g o3
  generalize vget x (BitVec.ofNat 32 r.val) o0 = V0 at *
  generalize vget x (BitVec.ofNat 32 r.val) o1 = V1 at *
  generalize vget x (BitVec.ofNat 32 r.val) o2 = V2 at *
  generalize vget x (BitVec.ofNat 32 r.val) o3 = V3 at *
  pointwise []
  rw [show (ix2 0 l : S8x128.Idx) = ix2 0 l from rfl] at *
  rw [c3, c2, c1, select_ofBool, select_ofBool, select_ofBool, g0, g1, g2, g3]
  have hx : ∀ a b : Fin 1024, a.val = b.val → x (ix2 0 a) = x (ix2 0 b) := fun a b h => by rw [Fin.ext h]
  by_cases k3 : l.val / 32 = 3
  · rw [if_pos k3]; exact hx _ _ (by simp only; omega)
  rw [if_neg k3]
  by_cases k2 : l.val / 32 = 2
  · rw [if_pos k2]; exact hx _ _ (by simp only; omega)
  rw [if_neg k2]
  by_cases k1 : l.val / 32 = 1
  · rw [if_pos k1]; exact hx _ _ (by simp only; omega)
  rw [if_neg k1]
  exact hx _ _ (by simp only; omega)

theorem vsc_apply (x : FVec Ideal S1x1024 .f32) (r : Fin 4) (j : Fin 256) :
    vsc x (BitVec.ofNat 32 r.val) (ix2 0 j) = x (ix2 0 ⟨4 * j.val + r.val, by omega⟩) := by
  have a := fun l => vhalf_apply x r 0 (by decide) l 0 1 2 3 rfl rfl rfl rfl
  have b := fun l => vhalf_apply x r 1 (by decide) l 4 5 6 7 rfl rfl rfl rfl
  unfold vsc
  generalize vhalf x (BitVec.ofNat 32 r.val) 0 1 2 3 = A at *
  generalize vhalf x (BitVec.ofNat 32 r.val) 4 5 6 7 = B at *
  pointwise []
  have hx : ∀ a b : Fin 1024, a.val = b.val → x (ix2 0 a) = x (ix2 0 b) := fun a b h => by rw [Fin.ext h]
  by_cases h : j.val < 128
  · rw [dif_pos h, a]; exact hx _ _ (by simp only; omega)
  · rw [dif_neg h, b]; exact hx _ _ (by simp only; omega)

theorem vdil_apply (V : FVec Ideal S160x1024 .fp8e4m3) (x : FVec Ideal S1x1024 .f32) (r : Fin 4) (d : Fin 160) (j : Fin 256) :
    vdil V x (BitVec.ofNat 32 r.val) (ix2 d j) = V (ix2 d ⟨4 * j.val + r.val, by omega⟩) * x (ix2 0 ⟨4 * j.val + r.val, by omega⟩) := by
  have a := dilT_apply (extf .f32 V (by decide)) r d j
  have b := vsc_apply x r j
  unfold vdil
  generalize dilT (extf .f32 V (by decide)) (BitVec.ofNat 32 r.val) = A at *
  generalize vsc x (BitVec.ofNat 32 r.val) = B at *
  pointwise []
  rw [a, b]
  rfl

/-! ## The scratch of dilated scores, read back -/

theorem SS_apply (b : Bool) (f) (h : Fin 4) (hb : b = true ∨ h.val < 2) (y) (hf : ∀ k, k ≠ h → f k y = 0) : SS b f y = f h y := by
  cases b
  · exact S2_apply f h (hb.resolve_left (by decide)) y hf
  · exact S4_apply f h y hf

theorem XX_apply {s : Shape} (b : Bool) (r : IVec s 32) (f : Fin 4 → FVec Ideal s .f32) (h : Fin 4) (hb : b = true ∨ h.val < 2) (y : s.Idx)
    (hr : r y = BitVec.ofNat 32 h.val) : XX b r f y = f h y := by
  cases b
  · exact X2_apply r f h (hb.resolve_left (by decide)) y hr
  · exact X4_apply r f h y hr

theorem cast_8 (B : FVec Ideal S8x128 .f32) (r : Fin 8) (l : Fin 128) : shapeCast S8x128 B (by decide) (ix2 r l) = B (ix2 r l) := by
  pointwise []

theorem mem_keys : ∀ (a : Fin 32) (e : Fin 8), a.val < 4 * (e.val + 1) → (a, e) ∈ keys := by decide +kernel
theorem keys_lt : ∀ k ∈ keys, k.1.val < 4 * (k.2.val + 1) := by decide +kernel

section
variable (S : FVec Ideal S256x1024 .f32) (K Q : FVec Ideal S1x1024 .f32) (c : ℕ) (hc : c < 4)

include hc in
theorem canon_keys (j : Fin 256) (q : Fin 1024) (h : j.val < 32 * (q.val / 128 + 1)) :
    View.canon (keys.map (piece S K Q (BitVec.ofNat 32 c))) (ix2 j q) = G S K Q c j q := by
  have H := View.canon_append_of_pieces (Val := Elt Ideal) (S := S256x1024) (e := .f32) (fun y => G S K Q c (y 0) (y 1)) []
    (keys.map (piece S K Q (BitVec.ofNat 32 c))) ?_ (ix2 j q) ?_
  · rwa [List.append_nil] at H
  · intro p hp x
    obtain ⟨⟨a, e⟩, hk, rfl⟩ := List.mem_map.mp hp
    have hae := keys_lt _ hk
    have x0 : (x 0).val < 8 := (x 0).isLt
    have x1 : (x 1).val < 128 := (x 1).isLt
    have ex : x = (ix2 ⟨(x 0).val, x0⟩ ⟨(x 1).val, x1⟩ : S8x128.Idx) := by
      funext z; apply Fin.ext; fin_cases z <;> rfl
    have e0 : (((piece S K Q (BitVec.ofNat 32 c) (a, e)).1.emb x) 0).val = 8 * a.val + (x 0).val :=
      ValueKit.rect_emb_unit_val (s := S256x1024) ![8 * a.val, 128 * e.val] S8x128.size (inb_blk a e) x 0
    have e1 : (((piece S K Q (BitVec.ofNat 32 c) (a, e)).1.emb x) 1).val = 128 * e.val + (x 1).val :=
      ValueKit.rect_emb_unit_val (s := S256x1024) ![8 * a.val, 128 * e.val] S8x128.size (inb_blk a e) x 1
    have hb := blk_apply S K Q c hc a e hae ⟨(x 0).val, x0⟩ ⟨(x 1).val, x1⟩
    have hl : (piece S K Q (BitVec.ofNat 32 c) (a, e)).2 x = blk S K Q (BitVec.ofNat 32 c) a e (ix2 ⟨(x 0).val, x0⟩ ⟨(x 1).val, x1⟩) := by
      show shapeCast S8x128 (blk S K Q (BitVec.ofNat 32 c) a e) _ x = _
      exact (congrArg (shapeCast S8x128 (blk S K Q (BitVec.ofNat 32 c) a e) (by decide)) ex).trans (cast_8 _ _ _)
    rw [hl, hb]
    congr 1
    · exact Fin.ext e0.symm
    · exact Fin.ext e1.symm
  · refine ⟨_, List.mem_map.mpr ⟨(⟨j.val / 8, by omega⟩, ⟨q.val / 128, by omega⟩), mem_keys _ _ (by simp only; omega), rfl⟩,
      (Rect.mem_set_unit (inb := inb_blk _ _)).mpr fun a => ?_⟩
    fin_cases a
    · exact ⟨by show 8 * (j.val / 8) ≤ j.val; omega, by show j.val < 8 * (j.val / 8) + 8; omega⟩
    · exact ⟨by show 128 * (q.val / 128) ≤ q.val; omega, by show q.val < 128 * (q.val / 128) + 128; omega⟩

end

theorem idx_rw (e : Fin 8) (j : Fin (32 * (e.val + 1))) (l : Fin 128) :
    (Rect.unit (s := S256x1024) ![0, 128 * e.val] (Rw e).size (inb_rw e)).toLoadRect.idx (ix2 j l)
      = ix2 ⟨j.val, by omega⟩ ⟨128 * e.val + l.val, by omega⟩ := by
  funext a
  apply Fin.ext
  refine (Rect.idx_unit_val _ _ _ _ a).trans ?_
  fin_cases a
  · show 0 + j.val = j.val; omega
  · rfl

theorem bc_rw_apply (e : Fin 8) (m : FVec Ideal S1x128 .f32) (j : Fin (32 * (e.val + 1))) (l : Fin 128) :
    broadcastTo (Rw e) m (bc_rw e) (ix2 j l) = m (ix2 0 l) := by
  revert j; fin_cases e <;> intro j <;> pointwise []

theorem sum_rw_apply (e : Fin 8) (X : FVec Ideal (Rw e) .f32) (l : Fin 128) :
    shapeCast S1x128 (multiReduction .add [0] S128 X 0x00000000#32 (red_rw e) (.inl rfl) rfl) (by decide) (ix2 0 l)
      = ∑ j : Fin (32 * (e.val + 1)), X (ix2 j l) := by
  revert X; fin_cases e <;> intro X <;> pointwise []

theorem cast_rw_apply (e : Fin 8) (X : FVec Ideal (Rw e) .bf16) (j : Fin (32 * (e.val + 1))) (l : Fin 128) :
    shapeCast (Rw e) X (cast_rw e) (ix2 j l) = X (ix2 j l) := by
  revert X j; fin_cases e <;> intro X j <;> pointwise []

/-! ## The step's dilated quantities at a lane -/

theorem sum_extend {m n : ℕ} (h : m ≤ n) (f : Fin n → EReal) (hf : ∀ j : Fin n, m ≤ j.val → f j = 0) :
    ∑ j : Fin m, f ⟨j.val, by omega⟩ = ∑ j, f j := by
  obtain ⟨k, rfl⟩ := Nat.exists_eq_add_of_le h
  rw [Fin.sum_univ_add, Finset.sum_eq_zero (s := Finset.univ) (f := fun i : Fin k => f (Fin.natAdd m i))
    (fun i _ => hf _ (by simp [Fin.natAdd])), add_zero]
  rfl

namespace Env
variable {c : Dev nD} (E : Env c)

/-- The scaled and masked score of query `q` with dilated key `j`. -/
def g (j : Fin 256) (q : Fin 1024) : EReal := G E.S E.K E.Q ((E.i 0).val % 4) j q

/-- Lane `l` of lane tile `e`. -/
def lane (e : Fin 8) (l : Fin 128) : Fin 1024 := ⟨128 * e.val + l.val, by omega⟩

theorem g_bot (j : Fin 256) (q : Fin 1024) (h : q.val / 4 < j.val) : E.g j q = ⊥ := G_bot _ _ _ _ _ _ h

theorem g_zero (j : Fin 256) (q : Fin 1024) (h : q.val / 4 < j.val) (m : EReal) : Ideal.exp2 (E.g j q - m) = 0 := by
  rw [g_bot _ _ _ h, EReal.bot_sub, exp2_bot]

variable {E} (H : E.Good)
include H

theorem big_apply (e : Fin 8) (l : Fin 128) : E.big e (ix2 0 l) = Finset.univ.sup fun j => E.g j (lane e l) := by
  rw [H.big, H.w]
  exact m4_apply _ _ _ _ (Nat.mod_lt _ (by decide)) e l

theorem back_apply (e : Fin 8) (j : Fin (32 * (e.val + 1))) (l : Fin 128) :
    E.back e (ix2 j l) = E.g ⟨j.val, by omega⟩ (lane e l) := by
  unfold back
  rw [View.readCov_eq_canon', H.L10, H.w]
  show View.canon _ ((Rect.unit (s := S256x1024) ![0, 128 * e.val] (Rw e).size (inb_rw e)).toLoadRect.idx (ix2 j l)) = _
  rw [idx_rw]
  exact canon_keys _ _ _ _ (Nat.mod_lt _ (by decide)) _ _ (by simp only; omega)

theorem ex_apply (e : Fin 8) (m : FVec Ideal S1x128 .f32) (j : Fin (32 * (e.val + 1))) (l : Fin 128) :
    E.ex e m (ix2 j l) = Ideal.exp2 (E.g ⟨j.val, by omega⟩ (lane e l) - m (ix2 0 l)) := by
  show Ideal.exp2 (E.back e (ix2 j l) - broadcastTo (Rw e) m (bc_rw e) (ix2 j l)) = _
  rw [back_apply H, bc_rw_apply]

theorem sum_apply (e : Fin 8) (m : FVec Ideal S1x128 .f32) (l : Fin 128) :
    E.sum e m (ix2 0 l) = ∑ j, Ideal.exp2 (E.g j (lane e l) - m (ix2 0 l)) := by
  unfold sum
  rw [sum_rw_apply, ← sum_extend (show 32 * (e.val + 1) ≤ 256 by omega) _ fun j hj => E.g_zero _ _ (by unfold lane; simp only; omega) _]
  exact Finset.sum_congr rfl fun j _ => ex_apply H e m j l

theorem exP_cons (e : Fin 8) (m : FVec Ideal S1x128 .f32) (L) (j : Fin 256) (q : Fin 1024) :
    View.canon (E.exP e m :: L) (ix2 j q) = if q.val / 128 = e.val ∧ j.val < 32 * (e.val + 1)
      then Ideal.exp2 (E.g j q - m (ix2 0 ⟨q.val % 128, by omega⟩)) else View.canon L (ix2 j q) := by
  by_cases h : q.val / 128 = e.val ∧ j.val < 32 * (e.val + 1)
  · rw [if_pos h]
    have he : (Rect.unit (s := S256x1024) ![0, 128 * e.val] (Rw e).size (inb_rw e)).emb
        (ix2 (⟨j.val, h.2⟩ : Fin (32 * (e.val + 1))) (⟨q.val % 128, by omega⟩ : Fin 128)) = ix2 j q := by
      funext a
      apply Fin.ext
      refine (ValueKit.rect_emb_unit_val (s := S256x1024) ![0, 128 * e.val] (Rw e).size (inb_rw e) _ a).trans ?_
      fin_cases a
      · show 0 + j.val = j.val; omega
      · show 128 * e.val + q.val % 128 = q.val; omega
    rw [← he]
    unfold exP
    rw [View.canon_cons_emb]
    refine (cast_rw_apply e _ _ _).trans ((ex_apply H e m _ _).trans ?_)
    congr 2
    rw [show lane e ⟨q.val % 128, by omega⟩ = q from Fin.ext (by unfold lane; simp only; omega)]
  · rw [if_neg h]
    refine View.canon_cons_of_not_mem _ _ fun hm => h ?_
    have hm := (Rect.mem_set_unit (inb := inb_rw e)).mp hm
    have h0 := hm 0
    have h1 := hm 1
    change 0 ≤ j.val ∧ j.val < 0 + 32 * (e.val + 1) at h0
    change 128 * e.val ≤ q.val ∧ q.val < 128 * e.val + 128 at h1
    omega

/-- The scratch of dilated weights after `k` segments. -/
theorem canon_wt : ∀ (k : ℕ) (hk : k < 5) (j : Fin 256) (q : Fin 1024), View.canon (E.wt ⟨k, hk⟩) (ix2 j q) =
    if q.val < 256 * k then Ideal.exp2 (E.g j q - E.mix ⟨q.val / 128, by omega⟩ (ix2 0 ⟨q.val % 128, by omega⟩)) else 0
  | 0, hk, j, q => by
    rw [if_neg (by omega)]
    refine (congrArg (fun L => View.canon L (ix2 j q)) H.wt0).trans ?_
    have he : (Rect.unit (s := S256x1024) ![0, 0] S256x1024.size (by decide)).emb (ix2 j q) = ix2 j q := by
      funext a
      apply Fin.ext
      refine (ValueKit.rect_emb_unit_val (s := S256x1024) ![0, 0] S256x1024.size (by decide) _ a).trans ?_
      fin_cases a
      · show 0 + j.val = j.val; omega
      · show 0 + q.val = q.val; omega
    rw [← he]
    refine (View.canon_cons_emb _ _ _ _).trans ?_
    pointwise []
  | k + 1, hk, j, q => by
    have hw := H.wt ⟨k, by omega⟩
    refine (congrArg (fun L => View.canon L (ix2 j q)) hw).trans ?_
    rw [exP_cons H, exP_cons H]
    have ih := canon_wt k (by omega) j q
    have hm : ∀ e : Fin 8, q.val / 128 = e.val → E.mix ⟨q.val / 128, by omega⟩ = E.mix e := fun e h => congrArg E.mix (Fin.ext h)
    by_cases h1 : q.val / 128 = 2 * k + 1
    · rw [if_pos (show q.val < 256 * (k + 1) by omega), hm (odd ⟨k, by omega⟩) h1]
      by_cases hj : j.val < 32 * ((2 * k + 1) + 1)
      · rw [if_pos ⟨h1, hj⟩]
      · rw [if_neg (fun h => hj h.2), if_neg (fun h => by have : q.val / 128 = 2 * k := h.1; omega)]
        refine ih.trans ?_
        rw [if_neg (by omega), g_zero _ _ _ (by omega)]
    by_cases h2 : q.val / 128 = 2 * k
    · rw [if_pos (show q.val < 256 * (k + 1) by omega), hm (evn ⟨k, by omega⟩) h2]
      rw [if_neg (fun h => h1 h.1)]
      by_cases hj : j.val < 32 * (2 * k + 1)
      · rw [if_pos ⟨h2, hj⟩]
      · rw [if_neg (fun h => hj h.2)]
        refine ih.trans ?_
        rw [if_neg (by omega), g_zero _ _ _ (by omega)]
    rw [if_neg (fun h => h1 h.1), if_neg (fun h => h2 h.1)]
    refine ih.trans ?_
    exact if_congr (by omega) rfl rfl

end Env

end Cert.KernelIdeal.Tile

end
-- ==== Proof.Read.lean ====
/- The kernel's stored tiles, read back. -/
module

public import Idealize.ShloMosaic.Lib.Pipeline.ValueKit.Tiles
public import Idealize.ShloMosaic.Lib.Pipeline.ValueKit.Geometry
public import proofs.«01_k».proof.Proof.Lane
public import proofs.«01_k».proof.Proof.Lane2
public import proofs.«01_k».proof.Proof.TileOwn
public import proofs.«01_k».proof.Proof.WeightsAt

@[expose] public section

noncomputable section

namespace Idealize.ShloMosaic.View

/-- A list of stores that agree on one element leave that value there, if one of them covers it. -/
theorem read_writes_at {Val : EltTy → Type} {sig : RefSig} {κ : Kind} {sp : Space} {s : Shape} {e : EltTy}
    (v : View sig κ sp s e) (f : v.ty.Contents Val) (X : Val e) (y : s.Idx) :
    ∀ L : List (Piece Val s e), (∀ p ∈ L, ∀ x : p.1.shape.Idx, p.1.emb x = y → p.2 x = X) →
      (∃ p ∈ L, y ∈ p.1.set) → v.read Val (v.writes Val f L) y = X
  | [], _, h => by obtain ⟨_, hm, _⟩ := h; exact absurd hm List.not_mem_nil
  | p :: L, hG, h => by
    by_cases hy : y ∈ p.1.set
    · obtain ⟨x, rfl⟩ : ∃ x, p.1.emb x = y := p.1.exists_idx_of_mem hy
      obtain ⟨r, w⟩ := p
      rw [read_writes_cons_emb]
      exact hG ⟨r, w⟩ List.mem_cons_self x rfl
    · have hy' : y ∉ Finset.univ.map p.1.emb := by rwa [Rect.map_emb_univ]
      rw [writes_cons, read_slice_write_of_not_mem p.1 _ _ _ hy']
      refine read_writes_at v f X y L (fun p' hp' => hG p' (List.mem_cons_of_mem _ hp')) ?_
      obtain ⟨p', hm, hy''⟩ := h
      rcases List.mem_cons.mp hm with rfl | hm
      · exact absurd hy'' hy
      · exact ⟨p', hm, hy''⟩

/-- A list of stores leaves an element none of them covers. -/
theorem read_writes_off {Val : EltTy → Type} {sig : RefSig} {κ : Kind} {sp : Space} {s : Shape} {e : EltTy}
    (v : View sig κ sp s e) (f : v.ty.Contents Val) (y : s.Idx) :
    ∀ L : List (Piece Val s e), (∀ p ∈ L, y ∉ p.1.set) → v.read Val (v.writes Val f L) y = v.read Val f y
  | [], _ => rfl
  | p :: L, h => by
    have hy' : y ∉ Finset.univ.map p.1.emb := by rw [Rect.map_emb_univ]; exact h p List.mem_cons_self
    rw [writes_cons, read_slice_write_of_not_mem p.1 _ _ _ hy']
    exact read_writes_off v f y L fun p' hp' => h p' (List.mem_cons_of_mem _ hp')

end Idealize.ShloMosaic.View

namespace Cert.KernelIdeal.Tile

open Cert.KernelIdeal Cert.KernelIdeal.Gen Cert.KernelIdeal.Hand
open Idealize.ShloMosaic

/-! ## What a tile reads, element by element -/

section
variable {c : Dev nD}

theorem cast_codes (X : FVec Ideal S1x1x160x256 .fp8e4m3) (hs) (x : Fin 160) (t : Fin 256) :
    shapeCast S160x256 X hs (ix2 x t) = X (ix4 0 0 x t) := by pointwise []

theorem cast_scales (X : FVec Ideal S1x1x1024 .f32) (hs) (t : Fin 1024) :
    shapeCast S1x1024 X hs (ix2 0 t) = X (ix3 0 0 t) := by pointwise []

theorem cast_vals (X : FVec Ideal S1x1x160x1024 .fp8e4m3) (hs) (x : Fin 160) (t : Fin 1024) :
    shapeCast S160x1024 X hs (ix2 x t) = X (ix4 0 0 x t) := by pointwise []

theorem codes_apply (M : Memref sig .tc .vmem S1x4x160x1024 .fp8e4m3) (f : Bf (F := Ideal) c M) (h n : Fin 4)
    (x : Fin 160) (t : Fin 256) :
    codes M f h n (ix2 x t) = M.view.read (Elt Ideal) f (ix4 0 h x ⟨n.val * 256 + t.val, by omega⟩) := by
  unfold codes
  rw [cast_codes, View.readAt_apply]
  congr 1
  funext a
  apply Fin.ext
  refine (Rect.idx_unit_val _ _ _ _ a).trans ?_
  fin_cases a
  · rfl
  · show h.val + 0 = h.val; omega
  · show 0 + x.val = x.val; omega
  · rfl

theorem scales_apply (M : Memref sig .tc .vmem S4x2x1024 .f32) (f : Bf (F := Ideal) c M) (i : grid0.Coords) (h : Fin 4) (t : Fin 1024) :
    scales M f (offV i h 0) (inb_row i h) (ix2 0 t) = M.view.read (Elt Ideal) f (ix3 h ⟨(i 1).val, (i 1).isLt⟩ t) := by
  unfold scales
  rw [cast_scales, View.readAt_apply]
  congr 1
  funext a
  apply Fin.ext
  refine (Rect.idx_unit_val _ _ _ _ a).trans ?_
  refine (congrArg (· + _) (congrFun (offV_eq i h 0) a)).trans ?_
  fin_cases a
  · show h.val + 0 = h.val; omega
  · show (i 1).val + 0 = (i 1).val; omega
  · show 0 + t.val = t.val; omega

theorem kcol_apply (x : FVec Ideal S1x1024 .f32) (n : Fin 4) (t : Fin 256) :
    kcol x n (ix2 t 0) = x (ix2 0 ⟨n.val * 256 + t.val, by omega⟩) := by
  pointwise [kcol]

theorem qrow_apply (x : FVec Ideal S1x1024 .f32) (e : ℕ) (he) (l : Fin 128) (hl : e + l.val < 1024) :
    qrow x e he (ix2 0 l) = x (ix2 0 ⟨e + l.val, hl⟩) * qscale := by
  pointwise [qrow]
  rfl

theorem vals_apply (M : Memref sig .tc .vmem S1x4x160x1024 .fp8e4m3) (f : Bf (F := Ideal) c M) (x : FVec Ideal S1x1024 .f32)
    (h n : Fin 4) (d : Fin 160) (t : Fin 256) :
    vals M f x h n (ix2 d t) = M.view.read (Elt Ideal) f (ix4 0 h d ⟨n.val * 256 + t.val, by omega⟩)
      * x (ix2 0 ⟨n.val * 256 + t.val, by omega⟩) := by
  have e := cast_vals (View.readAt (Elt Ideal) M.view
    (Rect.unit (s := S1x4x160x1024) ![0, h.val, 0, 0] S1x1x160x1024.size (inb_vals h)).toLoadRect f)
    (by exact (by decide : Shape.ShapeCasts S1x1x160x1024 S160x1024)) d ⟨n.val * 256 + t.val, by omega⟩
  unfold vals
  generalize shapeCast S160x1024 (View.readAt (Elt Ideal) M.view
    (Rect.unit (s := S1x4x160x1024) ![0, h.val, 0, 0] S1x1x160x1024.size (inb_vals h)).toLoadRect f)
    (by exact (by decide : Shape.ShapeCasts S1x1x160x1024 S160x1024)) = y at e
  pointwise []
  rw [e, View.readAt_apply]
  congr 2
  funext a
  apply Fin.ext
  refine (Rect.idx_unit_val _ _ _ _ a).trans ?_
  fin_cases a
  · rfl
  · show h.val + 0 = h.val; omega
  · show 0 + d.val = d.val; omega
  · show 0 + (n.val * 256 + t.val) = n.val * 256 + t.val; omega

end

/-! ## A tile's value at a lane -/

/-- The scaled score of query `q` against key `t`, for the head and the batch element whose codes and scales are given. -/
def score (qc kc : Fin 160 → Fin 1024 → EReal) (qs ks : Fin 1024 → EReal) (q t : Fin 1024) : EReal :=
  (∑ x : Fin 160, qc x q * kc x t) * (qs q * (((Real.sqrt 160)⁻¹ : ℝ) : EReal)) * ks t

/-- The joint softmax of the three patterns, its output and its logarithm, in the head whose residue is `h`. -/
def goalO (h : ℕ) (qc kc : Fin 160 → Fin 1024 → EReal) (qs ks vs : Fin 1024 → EReal) (v : Fin 1024 → EReal) (q : Fin 1024) : EReal :=
  Cert.Attn.refO (fun t : Fin 1024 => Cert.Attn.Pat 256 1 h q.val t.val) (fun t : Fin 1024 => Cert.Attn.Pat 768 4 h q.val t.val)
    (fun t : Fin 1024 => Cert.Attn.Pat 1024 16 h q.val t.val) (score qc kc qs ks q) vs v
def goalL (h : ℕ) (qc kc : Fin 160 → Fin 1024 → EReal) (qs ks : Fin 1024 → EReal) (q : Fin 1024) : EReal :=
  Cert.Attn.refL (fun t : Fin 1024 => Cert.Attn.Pat 256 1 h q.val t.val) (fun t : Fin 1024 => Cert.Attn.Pat 768 4 h q.val t.val)
    (fun t : Fin 1024 => Cert.Attn.Pat 1024 16 h q.val t.val) (score qc kc qs ks q)

section
variable {c : Dev nD} (i : grid0.Coords)
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (f2 : Bf (F := Ideal) c M2) (f3 : Bf (F := Ideal) c M3) (f4 : Bf (F := Ideal) c M4) (f5 : Bf (F := Ideal) c M5)
  (f6 : Bf (F := Ideal) c M6) (f7 : Bf (F := Ideal) c M7) (h n : Fin 4)

/-- A head's codes in a block, and its scales at the grid point's batch element. -/
def rowC (M : Memref sig .tc .vmem S1x4x160x1024 .fp8e4m3) (f : Bf (F := Ideal) c M) (x : Fin 160) (t : Fin 1024) : EReal :=
  M.view.read (Elt Ideal) f (ix4 0 h x t)
def rowS (M : Memref sig .tc .vmem S4x2x1024 .f32) (f : Bf (F := Ideal) c M) (t : Fin 1024) : EReal :=
  M.view.read (Elt Ideal) f (ix3 h ⟨(i 1).val, (i 1).isLt⟩ t)

/-- Lane `l` of segment `n`. -/
def at' (l : Fin 256) : Fin 1024 := ⟨n.val * 256 + l.val, by omega⟩

theorem qscale_split (x : EReal) : x * qscale = x * (((Real.sqrt 160)⁻¹ : ℝ) : EReal) * (((Real.log 2)⁻¹ : ℝ) : EReal) := by
  rw [qscale_eq, EReal.coe_mul, mul_assoc]

theorem T_eq (l t : Fin 256) :
    T (codes M3 f3 h n) (codes M2 f2 h n) (kcol (scales M6 f6 (offV i h 0) (inb_row i h)) n)
      (qrow (scales M5 f5 (offV i h 0) (inb_row i h)) (n.val * 256) (sl_q n))
      (qrow (scales M5 f5 (offV i h 0) (inb_row i h)) (n.val * 256 + 128) (sl_q' n)) l t
      = if t.val ≤ l.val then score (rowC h M2 f2) (rowC h M3 f3) (rowS i h M5 f5) (rowS i h M6 f6) (at' n l) (at' n t)
          * (((Real.log 2)⁻¹ : ℝ) : EReal) else ⊥ := by
  have hq : (if hl : l.val < 128 then qrow (scales M5 f5 (offV i h 0) (inb_row i h)) (n.val * 256) (sl_q n) (ix2 0 ⟨l, hl⟩)
      else qrow (scales M5 f5 (offV i h 0) (inb_row i h)) (n.val * 256 + 128) (sl_q' n) (ix2 0 ⟨l - 128, by omega⟩))
      = rowS i h M5 f5 (at' n l) * qscale := by
    by_cases hl : l.val < 128
    · rw [dif_pos hl, qrow_apply _ _ _ _ (by simp only; omega), scales_apply]; rfl
    · rw [dif_neg hl, qrow_apply _ _ _ _ (by simp only; omega), scales_apply]
      have e : (⟨n.val * 256 + 128 + (l.val - 128), by omega⟩ : Fin 1024) = at' n l := Fin.ext (by simp only [at']; omega)
      simp only [e]; rfl
  unfold T
  rw [hq, kcol_apply, scales_apply, qscale_split]
  by_cases ht : t.val ≤ l.val
  · rw [if_pos ht, if_pos ht]
    unfold score
    have hs : (∑ x : Fin 160, codes M3 f3 h n (ix2 x t) * codes M2 f2 h n (ix2 x l))
        = ∑ x : Fin 160, rowC h M2 f2 x (at' n l) * rowC h M3 f3 x (at' n t) :=
      Finset.sum_congr rfl fun x _ => by rw [codes_apply, codes_apply, mul_comm]; rfl
    rw [hs]
    show _ * rowS i h M6 f6 (at' n t) * _ = _
    ac_rfl
  · rw [if_neg ht, if_neg ht]

theorem off_eq (l : Fin 256) (hl : (at' n l).val % 4 ≠ h.val) :
    Off (own (n.val * 256) (sl_q n) (BitVec.ofNat 32 h.val)) (own (n.val * 256 + 128) (sl_q' n) (BitVec.ofNat 32 h.val)) l :=
  ⟨fun h' => own_apply _ _ _ _ h.isLt hl,
   fun h' => own_apply _ _ _ _ h.isLt (by simp only [at'] at hl; simp only; omega)⟩

theorem lane_eq (H : ℕ) (hH : H % 4 = h.val) (vs v : Fin 1024 → EReal) (l : Fin 256) (hl : (at' n l).val % 4 ≠ h.val)
    (T' : Fin 256 → EReal) (hT : ∀ t, T' t = if t.val ≤ l.val then
      score (rowC h M2 f2) (rowC h M3 f3) (rowS i h M5 f5) (rowS i h M6 f6) (at' n l) (at' n t)
          * (((Real.log 2)⁻¹ : ℝ) : EReal) else ⊥) :
    (Finset.univ.sup T' + Ideal.log (∑ t, Ideal.exp2 (T' t - Finset.univ.sup T')) * log2e) * ln2
      = goalL H (rowC h M2 f2) (rowC h M3 f3) (rowS i h M5 f5) (rowS i h M6 f6) (at' n l) ∧
    (∑ t, (v (at' n t) * vs (at' n t)) * Ideal.exp2 (T' t - Finset.univ.sup T'))
        * Ideal.div 1 (∑ t, Ideal.exp2 (T' t - Finset.univ.sup T'))
      = goalO H (rowC h M2 f2) (rowC h M3 f3) (rowS i h M5 f5) (rowS i h M6 f6) vs v (at' n l) := by
  refine Cert.Attn.lane _ _ _ (score (rowC h M2 f2) (rowC h M3 f3) (rowS i h M5 f5) (rowS i h M6 f6) (at' n l)) vs v (at' n)
    (fun a b e => Fin.ext (by have := congrArg Fin.val e; simp only [at'] at this; omega)) (fun t => t.val ≤ l.val) ?_
    (fun t => Cert.Attn.pat_dilated _ _ _ _ _ (by decide) (by omega))
    (fun t => Cert.Attn.pat_dilated _ _ _ _ _ (by decide) (by omega)) T' hT
  intro t
  have hn := n.isLt
  constructor
  · rintro ⟨_, e, hle⟩
    simp only [at'] at e hle
    refine ⟨⟨t.val - n.val * 256, by omega⟩, by simp only; omega, Fin.ext (by simp only [at']; omega)⟩
  · rintro ⟨k, hk, rfl⟩
    simp only [at']
    exact ⟨⟨by omega, by omega⟩, by omega, by omega⟩

end

section
variable {c : Dev nD} {E : Env c} (hE : E.Good) (h n : Fin 4) (hb : E.four = true ∨ h.val < 2)

/-- The codes and scales of head `h`. -/
abbrev Env.rq (E : Env c) (h : Fin 4) := rowC h E.M2 E.f2
abbrev Env.rk (E : Env c) (h : Fin 4) := rowC h E.M3 E.f3
abbrev Env.rv (E : Env c) (h : Fin 4) := rowC h E.M4 E.f4
abbrev Env.sq (E : Env c) (h : Fin 4) := rowS E.i h E.M5 E.f5
abbrev Env.sk (E : Env c) (h : Fin 4) := rowS E.i h E.M6 E.f6
abbrev Env.sv (E : Env c) (h : Fin 4) := rowS E.i h E.M7 E.f7

/-- A lane's scores against its own segment's keys, and its largest score of all. -/
abbrev Env.tt (E : Env c) (h n : Fin 4) (l t : Fin 256) : EReal :=
  T (codes E.M3 E.f3 h n) (codes E.M2 E.f2 h n) (kcol (E.ksc h) n) (qrow (E.qsc h) (n.val * 256) (sl_q n))
    (qrow (E.qsc h) (n.val * 256 + 128) (sl_q' n)) l t
abbrev Env.mm (E : Env c) (h n : Fin 4) (l : Fin 256) : EReal :=
  M' (codes E.M3 E.f3 h n) (codes E.M2 E.f2 h n) (kcol (E.ksc h) n) (qrow (E.qsc h) (n.val * 256) (sl_q n))
    (qrow (E.qsc h) (n.val * 256 + 128) (sl_q' n)) (E.big (evn n)) (E.big (odd n)) l

/-- Dilated key `j` of head `h`. -/
def dk (h : Fin 4) (j : Fin 256) : Fin 1024 := ⟨4 * j.val + h.val, by omega⟩

theorem all_apply (M : Memref sig .tc .vmem S1x4x160x1024 .fp8e4m3) (f : Bf (F := Ideal) c M) (x : Fin 160) (t : Fin 1024) :
    all M f h (ix2 x t) = rowC h M f x t := by
  unfold all rowC
  rw [cast_vals, View.readAt_apply]
  congr 1
  funext a
  apply Fin.ext
  refine (Rect.idx_unit_val _ _ _ _ a).trans ?_
  fin_cases a
  · rfl
  · show h.val + 0 = h.val; omega
  · show 0 + x.val = x.val; omega
  · show 0 + t.val = t.val; omega

include hE hb in
theorem g_score (j : Fin 256) (q : Fin 1024) (hq : q.val % 4 = h.val) :
    E.g j q = score (E.rq h) (E.rk h) (E.sq h) (E.sk h) q (dk h j) * (((Real.log 2)⁻¹ : ℝ) : EReal)
      + bias ((E.i 0).val % 4) j.val q.val := by
  have hS : E.S (ix2 j q) = ∑ x : Fin 160, E.rq h x q * E.rk h x (dk h j) := by
    rw [hE.S, SS_apply _ _ h hb _ fun k hk => by rw [mm_apply, if_neg (fun e => hk (Fin.ext (e.symm.trans hq)))], mm_apply, if_pos hq]
    exact Finset.sum_congr rfl fun x _ => by rw [all_apply, all_apply, mul_comm]; rfl
  have hk : E.K (ix2 0 ⟨4 * j.val + q.val % 4, by omega⟩) = E.sk h (dk h j) := by
    have e : (⟨4 * j.val + q.val % 4, by omega⟩ : Fin 1024) = dk h j := Fin.ext (by unfold dk; simp only; omega)
    rw [e, hE.K, XX_apply _ _ _ h hb _ (by rw [pay5_apply]; congr 1; unfold dk; simp only; omega)]
    exact scales_apply ..
  have hQ : E.Q (ix2 0 q) = E.sq h q * qscale := by
    rw [hE.Q, XX_apply _ _ _ h hb _ (by rw [pay5_apply, hq])]
    exact congrArg (· * qscale) (scales_apply ..)
  unfold Env.g G
  rw [hS, hk, hQ, qscale_split]
  unfold score
  congr 1
  ac_rfl

/-- What is added to a dilated score is what the two dilated patterns ask for. -/
theorem bias_dil (c H j q t : ℕ) (hj : j < 256) (hq1 : q < 1024) (h : ℕ) (hh : h < 4) (hH : H % 16 = 4 * c + h) (hc : c < 4) (hq : q % 4 = h)
    (ht : t = 4 * j + h) (y : EReal) :
    y + bias c j q = Cert.Attn.dil (Cert.Attn.Pat 768 4 H q t) (Cert.Attn.Pat 1024 16 H q t) y := by
  have p1 : Cert.Attn.Pat 768 4 H q t ↔ j ≤ q / 4 ∧ (192 ≤ j ∨ q / 4 < 192) := by
    unfold Cert.Attn.Pat; constructor
    · rintro ⟨_, e, hle⟩; omega
    · rintro ⟨a, b⟩; exact ⟨by omega, by omega, by omega⟩
  have p2 : Cert.Attn.Pat 1024 16 H q t ↔ j ≤ q / 4 ∧ (j % 4 = c ∧ q / 4 % 4 = c) := by
    unfold Cert.Attn.Pat; constructor
    · rintro ⟨⟨a, b⟩, e, hle⟩; omega
    · rintro ⟨a, b⟩; exact ⟨by omega, by omega, by omega⟩
  unfold bias Cert.Attn.dil
  by_cases a : j ≤ q / 4
  · by_cases b : 192 ≤ j ∨ q / 4 < 192
    · rw [if_pos a, if_pos b, if_pos (p1.mpr ⟨a, b⟩)]
      by_cases d : j % 4 = c ∧ q / 4 % 4 = c
      · rw [if_pos d, if_pos (p2.mpr ⟨a, d⟩)]
      · rw [if_neg d, if_neg (fun x => d (p2.mp x).2), add_zero]
    · rw [if_pos a, if_neg b, if_neg (fun x => b (p1.mp x).2)]
      by_cases d : j % 4 = c ∧ q / 4 % 4 = c
      · rw [if_pos d, if_pos (p2.mpr ⟨a, d⟩), add_zero]
      · rw [if_neg d, if_neg (fun x => d (p2.mp x).2), EReal.add_bot]
  · rw [if_neg a, if_neg (fun x => a (p1.mp x).1), if_neg (fun x => a (p2.mp x).1), EReal.add_bot]

theorem on_eq (l : Fin 256) (hl : (at' n l).val % 4 = h.val) :
    On (own (n.val * 256) (sl_q n) (BitVec.ofNat 32 h.val)) (own (n.val * 256 + 128) (sl_q' n) (BitVec.ofNat 32 h.val)) l :=
  ⟨fun _ => own_on _ _ _ _ hl, fun _ => own_on _ _ _ _ (by simp only [at'] at hl; simp only; omega)⟩

include hE in
theorem both_big (l : Fin 256) : both (E.big (evn n)) (E.big (odd n)) l = Finset.univ.sup fun j => E.g j (at' n l) := by
  unfold both
  by_cases h : l.val < 128
  · rw [dif_pos h, Env.big_apply hE, show Env.lane (evn n) ⟨l, h⟩ = at' n l from Fin.ext (by simp only [Env.lane, evn, at']; omega)]
  · rw [dif_neg h, Env.big_apply hE, show Env.lane (odd n) ⟨l - 128, by omega⟩ = at' n l from Fin.ext (by simp only [Env.lane, odd, at']; omega)]

theorem slice_pay (e : ℕ) (he) (l : Fin 128) (hl : (e + l.val) % 4 = h.val) :
    extractStridedSlice S1x128 ![0, e] k0_pay5 he (ix2 0 l) = BitVec.ofNat 32 h.val := by
  pointwise []
  rw [pay5_apply, hl]

include hE hb in
theorem mix_mm (l : Fin 256) (hl : (at' n l).val % 4 = h.val) (e : Fin 8) (k : Fin 128) (he : 128 * e.val + k.val = (at' n l).val) :
    E.mix e (ix2 0 k) = E.mm h n l := by
  have ho := on_eq h n l hl
  simp only [at'] at he hl
  by_cases hh : l.val < 128
  · obtain rfl : e = evn n := Fin.ext (by simp only [evn]; omega)
    obtain rfl : k = ⟨l, hh⟩ := Fin.ext (by simp only [evn] at he; simp only; omega)
    rw [hE.mixA, XX_apply _ _ _ h hb _ (slice_pay h _ _ _ hl)]
    exact mA_M' _ _ _ _ _ _ _ _ _ (ho.1 hh)
  · obtain rfl : e = odd n := Fin.ext (by simp only [odd]; omega)
    have ek : k = ⟨l.val - 128, by omega⟩ := Fin.ext (by simp only [odd] at he; simp only; omega)
    rw [ek]
    rw [hE.mixB, XX_apply _ _ _ h hb _ (slice_pay h _ _ _ (by simp only; omega))]
    exact mB_M' _ _ _ _ _ _ _ _ hh (ho.2 hh)

include hE hb in
theorem both_l4 (l : Fin 256) (hl : (at' n l).val % 4 = h.val) :
    both (E.l4 (evn n)) (E.l4 (odd n)) l = ∑ j, Ideal.exp2 (E.g j (at' n l) - E.mm h n l) := by
  unfold both
  by_cases hh : l.val < 128
  · have e : 128 * (evn n).val + l.val = (at' n l).val := by simp only [evn, at']; omega
    rw [dif_pos hh, hE.l4, Env.sum_apply hE, mix_mm hE h n hb l hl (evn n) ⟨l, hh⟩ e,
      show Env.lane (evn n) ⟨l, hh⟩ = at' n l from Fin.ext e]
  · have e : 128 * (odd n).val + (l.val - 128) = (at' n l).val := by simp only [odd, at']; omega
    rw [dif_neg hh, hE.l4, Env.sum_apply hE, mix_mm hE h n hb l hl (odd n) ⟨l - 128, by omega⟩ e,
      show Env.lane (odd n) ⟨l - 128, by omega⟩ = at' n l from Fin.ext e]

include hE hb in
theorem wt_mm (l : Fin 256) (hl : (at' n l).val % 4 = h.val) (j : Fin 256) :
    View.canon (E.wt n.succ) (ix2 j (at' n l)) = Ideal.exp2 (E.g j (at' n l) - E.mm h n l) := by
  refine (Env.canon_wt hE (n.val + 1) (by omega) j (at' n l)).trans ?_
  rw [if_pos (by simp only [at']; omega), mix_mm hE h n hb l hl _ _ (by simp only; omega)]

theorem idx_wt (m : ℕ) (S : Shape) (hS : S = ⟨2, ![m, 256]⟩) (inb) (j : Fin m) (l : Fin 256) (hm : m ≤ 256) :
    ((Rect.unit (s := S256x1024) ![0, 256 * n.val] (⟨2, ![m, 256]⟩ : Shape).size inb).toLoadRect.idx (ix2 j l) : S256x1024.Idx)
      = ix2 ⟨j.val, by omega⟩ (at' n l) := by
  funext a
  apply Fin.ext
  refine (Rect.idx_unit_val _ _ _ _ a).trans ?_
  fin_cases a
  · show 0 + j.val = j.val; omega
  · show 256 * n.val + l.val = n.val * 256 + l.val; omega

include hE hb in
theorem zz_mm (d : Fin 160) (l : Fin 256) (hl : (at' n l).val % 4 = h.val) :
    E.zz h n (ix2 d l) = ∑ j, (E.rv h d (dk h j) * E.sv h (dk h j)) * Ideal.exp2 (E.g j (at' n l) - E.mm h n l) := by
  have hl' : l.val % 4 = h.val := by simp only [at'] at hl; omega
  have hv : ∀ j, vdil (all E.M4 E.f4 h) (E.vscl h) (BitVec.ofNat 32 h.val) (ix2 d j) = E.rv h d (dk h j) * E.sv h (dk h j) := fun j => by
    rw [vdil_apply, all_apply]
    exact congrArg (_ * ·) (scales_apply ..)
  unfold Env.zz
  by_cases hn : n.val < 2
  · rw [if_pos hn, z128_on _ _ _ _ _ hl', ← sum_extend (show 128 ≤ 256 by omega) _ fun j hj => by
      rw [Env.g_zero _ _ _ (by simp only [at']; omega), mul_zero]]
    refine Finset.sum_congr rfl fun j _ => ?_
    congr 1
    · rw [← hv]
      generalize vdil (all E.M4 E.f4 h) (E.vscl h) (BitVec.ofNat 32 h.val) = V
      pointwise []
    · rw [View.readCov_eq_canon', ← wt_mm hE h n hb l hl]
      exact congrArg (View.canon (E.wt n.succ)) (idx_wt n 128 S128x256 rfl _ j l (by omega))
  · rw [if_neg hn, z256_on _ _ _ _ _ hl']
    refine Finset.sum_congr rfl fun j _ => ?_
    congr 1
    · exact hv j
    · rw [View.readCov_eq_canon', ← wt_mm hE h n hb l hl]
      exact congrArg (View.canon (E.wt n.succ)) (idx_wt n 256 S256x256 rfl _ j l (by omega))

include hE hb in
/-- A lane the dilated pattern reaches. -/
theorem lane_on (H : ℕ) (hH : H % 16 = 4 * ((E.i 0).val % 4) + h.val) (vs v : Fin 1024 → EReal) (l : Fin 256) (hl : (at' n l).val % 4 = h.val) :
    (E.mm h n l + Ideal.log (∑ t, Ideal.exp2 (E.tt h n l t - E.mm h n l) + ∑ j, Ideal.exp2 (E.g j (at' n l) - E.mm h n l)) * log2e) * ln2
      = goalL H (E.rq h) (E.rk h) (E.sq h) (E.sk h) (at' n l) ∧
    (∑ t, (v (at' n t) * vs (at' n t)) * Ideal.exp2 (E.tt h n l t - E.mm h n l)
        + ∑ j, (v (dk h j) * vs (dk h j)) * Ideal.exp2 (E.g j (at' n l) - E.mm h n l))
        * Ideal.div 1 (∑ t, Ideal.exp2 (E.tt h n l t - E.mm h n l) + ∑ j, Ideal.exp2 (E.g j (at' n l) - E.mm h n l))
      = goalO H (E.rq h) (E.rk h) (E.sq h) (E.sk h) vs v (at' n l) := by
  have hn := n.isLt
  have hh := h.isLt
  refine Cert.Attn.lane2 _ _ _ (score (E.rq h) (E.rk h) (E.sq h) (E.sk h) (at' n l)) vs v (at' n)
    (fun a b e => Fin.ext (by have := congrArg Fin.val e; simp only [at'] at this; omega)) (fun t => t.val ≤ l.val) ?_ ?_ (dk h)
    (fun a b e => Fin.ext (by have := congrArg Fin.val e; simp only [dk] at this; omega)) ?_ ?_
    (E.tt h n l) (T_eq E.i E.M2 E.M3 E.M5 E.M6 E.f2 E.f3 E.f5 E.f6 h n l)
    (fun j => E.g j (at' n l)) (fun j => ?_) _ ?_
  · intro t
    unfold Cert.Attn.Pat
    simp only [at']
    exact ⟨fun ⟨_, _, _⟩ => by omega, fun _ => ⟨⟨by omega, by omega⟩, by omega, by omega⟩⟩
  · rintro i ⟨_, e, hle⟩
    simp only [at'] at e hle
    exact ⟨⟨i.val - n.val * 256, by omega⟩, Fin.ext (by simp only [at']; omega)⟩
  · rintro i ⟨⟨_, e⟩, _⟩
    exact ⟨⟨i.val / 4, by omega⟩, Fin.ext (by simp only [dk]; omega)⟩
  · rintro i ⟨⟨_, e⟩, _⟩
    exact ⟨⟨i.val / 4, by omega⟩, Fin.ext (by simp only [dk]; omega)⟩
  · rw [g_score hE h hb j _ hl]
    exact bias_dil _ _ _ _ _ j.isLt (at' n l).isLt h.val hh hH (Nat.mod_lt _ (by decide)) hl rfl _
  · rw [← both_big hE n l]
    rfl

include hE hb in
theorem outW_lane (H : ℕ) (hH : H % 16 = 4 * ((E.i 0).val % 4) + h.val) (d : Fin 160) (l : Fin 256) :
    E.outW h n (ix3 0 d l) = goalO H (E.rq h) (E.rk h) (E.sq h) (E.sk h) (E.sv h) (E.rv h d) (at' n l) := by
  have hv : ∀ t : Fin 256, vals E.M4 E.f4 (E.vscl h) h n (ix2 d t) = E.rv h d (at' n t) * E.sv h (at' n t) := fun t => by
    rw [vals_apply]; exact congrArg (_ * ·) (scales_apply ..)
  unfold Env.outW outT
  by_cases hl : (at' n l).val % 4 = h.val
  · rw [← (lane_on hE h n hb H hH (E.sv h) (E.rv h d) l hl).2, tileO_on _ _ _ _ _ _ _ _ _ _ _ d l (on_eq h n l hl),
      zz_mm hE h n hb d l hl, both_l4 hE h n hb l hl]
    simp only [hv]; rfl
  · have hl' : l.val % 4 ≠ h.val := by simp only [at'] at hl; omega
    have hz : E.zz h n (ix2 d l) = 0 := by
      unfold Env.zz
      by_cases hn : n.val < 2
      · rw [if_pos hn, z128_apply _ _ _ d l h.isLt hl']
      · rw [if_neg hn, z256_apply _ _ _ d l h.isLt hl']
    rw [← (lane_eq E.i E.M2 E.M3 E.M5 E.M6 E.f2 E.f3 E.f5 E.f6 h n H (by omega) (E.sv h) (E.rv h d) l hl _
        (T_eq E.i E.M2 E.M3 E.M5 E.M6 E.f2 E.f3 E.f5 E.f6 h n l)).2, tileO_apply _ _ _ _ _ _ _ _ _ _ _ d l (off_eq h n l hl) hz]
    simp only [hv]; rfl

include hE hb in
theorem lseW_lane (H : ℕ) (hH : H % 16 = 4 * ((E.i 0).val % 4) + h.val) (l : Fin 256) :
    E.lseW h n (ix3 0 0 l) = goalL H (E.rq h) (E.rk h) (E.sq h) (E.sk h) (at' n l) := by
  unfold Env.lseW lseT
  by_cases hl : (at' n l).val % 4 = h.val
  · rw [← (lane_on hE h n hb H hH (fun _ => 0) (fun _ => 0) l hl).1, tileL_on _ _ _ _ _ _ _ _ _ l (on_eq h n l hl), both_l4 hE h n hb l hl]
    rfl
  · rw [← (lane_eq E.i E.M2 E.M3 E.M5 E.M6 E.f2 E.f3 E.f5 E.f6 h n H (by omega) (fun _ => 0) (fun _ => 0) l hl _
        (T_eq E.i E.M2 E.M3 E.M5 E.M6 E.f2 E.f3 E.f5 E.f6 h n l)).1, tileL_apply _ _ _ _ _ _ _ _ _ l (off_eq h n l hl)]
    rfl

/-! ## The lists of stores, read back -/

theorem at'_inj {n n' : Fin 4} {l l' : Fin 256} (e : (at' n l).val = (at' n' l').val) : n = n' ∧ l = l' := by
  simp only [at'] at e
  exact ⟨Fin.ext (by omega), Fin.ext (by omega)⟩

theorem at'_surj (q : Fin 1024) : ∃ n l, at' n l = q :=
  ⟨⟨q.val / 256, by omega⟩, ⟨q.val % 256, by omega⟩, Fin.ext (by simp only [at']; omega)⟩

theorem exists_of_forall₂ {α β : Type*} {R : α → β → Prop} {L : List α} {ks : List β} (H : List.Forall₂ R L ks) :
    (∀ p ∈ L, ∃ k ∈ ks, R p k) ∧ ∀ k ∈ ks, ∃ p ∈ L, R p k := by
  induction H with
  | nil => exact ⟨fun _ h => absurd h List.not_mem_nil, fun _ h => absurd h List.not_mem_nil⟩
  | cons h _ ih =>
    constructor
    · intro p hp
      rcases List.mem_cons.mp hp with rfl | hp
      · exact ⟨_, List.mem_cons_self, h⟩
      · obtain ⟨k, hk, r⟩ := ih.1 p hp; exact ⟨k, List.mem_cons_of_mem _ hk, r⟩
    · intro k hk
      rcases List.mem_cons.mp hk with rfl | hk
      · exact ⟨_, List.mem_cons_self, h⟩
      · obtain ⟨p, hp, r⟩ := ih.2 k hk; exact ⟨p, List.mem_cons_of_mem _ hp, r⟩

variable {h n}

include hE hb in
theorem outs_read {L ks} (hL : Outs E L ks) (M8 : Memref sig .tc .vmem S1x640x1024 .bf16)
    (f8 : Bf (F := Ideal) c M8) (H : ℕ) (hH : H % 16 = 4 * ((E.i 0).val % 4) + h.val) (d : Fin 160) (q : Fin 1024)
    (hk : ∀ n, (h, n) ∈ ks) :
    M8.view.read (Elt Ideal) (M8.view.writes (Elt Ideal) f8 L) (ix3 0 ⟨h.val * 160 + d.val, by omega⟩ q)
      = goalO H (E.rq h) (E.rk h) (E.sq h) (E.sk h) (E.sv h) (E.rv h d) q := by
  obtain ⟨n, l, rfl⟩ := at'_surj q
  obtain ⟨h1, h2⟩ := exists_of_forall₂ hL
  refine View.read_writes_at M8.view f8 _ _ L ?_ ?_
  · rintro p hp x hx
    obtain ⟨⟨h', n'⟩, _, rfl⟩ := h1 p hp
    have e1 : h.val * 160 + d.val = h'.val * 160 + (x 1).val :=
      (congrArg (fun y : S1x640x1024.Idx => (y 1).val) hx).symm.trans (ValueKit.rect_emb_unit_val (s := S1x640x1024)
        ![0, h'.val * 160, n'.val * 256] S1x160x256.size (inb_out h' n') x 1)
    have e2 : n.val * 256 + l.val = n'.val * 256 + (x 2).val :=
      (congrArg (fun y : S1x640x1024.Idx => (y 2).val) hx).symm.trans (ValueKit.rect_emb_unit_val (s := S1x640x1024)
        ![0, h'.val * 160, n'.val * 256] S1x160x256.size (inb_out h' n') x 2)
    have x1 : (x 1).val < 160 := (x 1).isLt
    have x2 : (x 2).val < 256 := (x 2).isLt
    have x0 : (x 0).val < 1 := (x 0).isLt
    obtain rfl : h' = h := Fin.ext (by omega)
    obtain rfl : n' = n := Fin.ext (by omega)
    have ex : x = (ix3 0 d l : S1x160x256.Idx) := by
      funext a; apply Fin.ext; fin_cases a
      · show (x 0).val = 0; omega
      · show (x 1).val = d.val; omega
      · show (x 2).val = l.val; omega
    rw [ex]
    exact outW_lane hE h' n' hb H hH d l
  · obtain ⟨p, hp, rfl⟩ := h2 (h, n) (hk n)
    refine ⟨_, hp, (Rect.mem_set_unit (inb := inb_out h n)).mpr fun a => ?_⟩
    fin_cases a
    · exact ⟨le_rfl, Nat.one_pos⟩
    · exact ⟨Nat.le_add_right _ _, by show h.val * 160 + d.val < h.val * 160 + 160; omega⟩
    · exact ⟨Nat.le_add_right _ _, by show n.val * 256 + l.val < n.val * 256 + 256; omega⟩

include hE hb in
theorem lses_read {L ks} (hL : Lses E L ks) (M9 : Memref sig .tc .vmem S4x2x1024 .f32)
    (f9 : Bf (F := Ideal) c M9) (H : ℕ) (hH : H % 16 = 4 * ((E.i 0).val % 4) + h.val) (q : Fin 1024)
    (hk : ∀ n, (h, n) ∈ ks) :
    M9.view.read (Elt Ideal) (M9.view.writes (Elt Ideal) f9 L) (ix3 h ⟨(E.i 1).val, (E.i 1).isLt⟩ q)
      = goalL H (E.rq h) (E.rk h) (E.sq h) (E.sk h) q := by
  obtain ⟨n, l, rfl⟩ := at'_surj q
  obtain ⟨h1, h2⟩ := exists_of_forall₂ hL
  refine View.read_writes_at M9.view f9 _ _ L ?_ ?_
  · rintro p hp x hx
    obtain ⟨⟨h', n'⟩, _, rfl⟩ := h1 p hp
    have o := offV_eq E.i h' (n'.val * 256)
    have o0 : offV E.i h' (n'.val * 256) 0 = h'.val := congrFun o 0
    have o1 : offV E.i h' (n'.val * 256) 1 = (E.i 1).val := congrFun o 1
    have o2 : offV E.i h' (n'.val * 256) 2 = n'.val * 256 := congrFun o 2
    have e0 : h.val = offV E.i h' (n'.val * 256) 0 + (x 0).val :=
      (congrArg (fun y : S4x2x1024.Idx => (y 0).val) hx).symm.trans (ValueKit.rect_emb_unit_val (s := S4x2x1024) (offV E.i h' (n'.val * 256)) S1x1x256.size (inb_lse E.i h' n') x 0)
    have e1 : (E.i 1).val = offV E.i h' (n'.val * 256) 1 + (x 1).val :=
      (congrArg (fun y : S4x2x1024.Idx => (y 1).val) hx).symm.trans (ValueKit.rect_emb_unit_val (s := S4x2x1024) (offV E.i h' (n'.val * 256)) S1x1x256.size (inb_lse E.i h' n') x 1)
    have e2 : n.val * 256 + l.val = offV E.i h' (n'.val * 256) 2 + (x 2).val :=
      (congrArg (fun y : S4x2x1024.Idx => (y 2).val) hx).symm.trans (ValueKit.rect_emb_unit_val (s := S4x2x1024) (offV E.i h' (n'.val * 256)) S1x1x256.size (inb_lse E.i h' n') x 2)
    have x0 : (x 0).val < 1 := (x 0).isLt
    have x2 : (x 2).val < 256 := (x 2).isLt
    obtain rfl : h' = h := Fin.ext (by omega)
    obtain rfl : n' = n := Fin.ext (by omega)
    have ex : x = (ix3 0 0 l : S1x1x256.Idx) := by
      funext a; apply Fin.ext; fin_cases a
      · show (x 0).val = 0; omega
      · show (x 1).val = 0; omega
      · show (x 2).val = l.val; omega
    rw [ex]
    exact lseW_lane hE h' n' hb H hH l
  · obtain ⟨p, hp, rfl⟩ := h2 (h, n) (hk n)
    refine ⟨_, hp, (Rect.mem_set_unit (inb := inb_lse E.i h n)).mpr fun a => ?_⟩
    have o := congrFun (offV_eq E.i h (n.val * 256)) a
    show offV E.i h (n.val * 256) a ≤ _ ∧ _ < offV E.i h (n.val * 256) a + _
    rw [o]
    fin_cases a
    · exact ⟨le_rfl, Nat.lt_succ_self _⟩
    · exact ⟨le_rfl, Nat.lt_succ_self _⟩
    · exact ⟨Nat.le_add_right _ _, by show n.val * 256 + l.val < n.val * 256 + 256; omega⟩

/-- The other batch element's rows of the block of logarithms are left. -/
theorem lses_keep {L ks} (hL : Lses E L ks) (M9 : Memref sig .tc .vmem S4x2x1024 .f32)
    (f9 : Bf (F := Ideal) c M9) (b : Fin 2) (hb : b.val ≠ (E.i 1).val) (q : Fin 1024) :
    M9.view.read (Elt Ideal) (M9.view.writes (Elt Ideal) f9 L) (ix3 h b q) = M9.view.read (Elt Ideal) f9 (ix3 h b q) := by
  refine View.read_writes_off M9.view f9 _ L fun p hp hy => ?_
  obtain ⟨⟨h', n'⟩, _, rfl⟩ := (exists_of_forall₂ hL).1 p hp
  have e : offV E.i h' (n'.val * 256) 1 ≤ b.val ∧ b.val < offV E.i h' (n'.val * 256) 1 + 1 :=
    (Rect.mem_set_unit (inb := inb_lse E.i h' n')).mp hy 1
  have o1 : offV E.i h' (n'.val * 256) 1 = (E.i 1).val := congrFun (offV_eq E.i h' (n'.val * 256)) 1
  omega

end

end Cert.KernelIdeal.Tile

end
-- ==== Proof.Blocks.lean ====
/- What the input windows' blocks hold, as the kernel's arguments. -/
module

public import Idealize.ShloMosaic.Lib.Pipeline.ValueKit.Geometry
public import Idealize.ShloMosaic.Lib.Pointwise
public import Idealize.ShloMosaic.Lib.StableHlo.Run
public import proofs.«01_k».proof.Proof.IdealFrame
public import proofs.«01_k».proof.Proof.Read

@[expose] public section

noncomputable section

namespace Cert.KernelIdeal.Tile

open Cert.KernelIdeal Cert.KernelIdeal.Gen Cert.KernelIdeal.Hand
open Idealize.ShloMosaic Idealize.ShloMosaic.TcCoe

variable (m : (ℓ : Loc nD τ sig) → Buf (Elt Ideal) ℓ) (c : Dev nD)

/-- A head's codes in an argument, and its scales. -/
def codesOf (a : S2x1024x18x160.Idx → EReal) (b : Fin 2) (H : Fin 18) (x : Fin 160) (t : Fin 1024) : EReal := a (ix4 b t H x)
def scalesOf (a : S2x1024x18.Idx → EReal) (b : Fin 2) (H : Fin 18) (t : Fin 1024) : EReal := a (ix3 b t H)

/-! ## The arrays the windows read -/

theorem V_v0 (b : Fin 2) (H : Fin 18) (x : Fin 160) (t : Fin 1024) :
    (V m c main_v0 : S2x18x160x1024.Idx → EReal) (ix4 b H x t) = codesOf (m ((c : Thread nD τ).loc main_arg0)) b H x t := by
  rw [show V m c main_v0 = transpose S2x18x160x1024 [0, 2, 3, 1] (m ((c : Thread nD τ).loc main_arg0)) transposes_S2x1024x18x160_S2x18x160x1024_0_2_3_1 by
    unfold V; after_results]
  pointwise []
  rfl
theorem V_v1 (b : Fin 2) (H : Fin 18) (x : Fin 160) (t : Fin 1024) :
    (V m c main_v1 : S2x18x160x1024.Idx → EReal) (ix4 b H x t) = codesOf (m ((c : Thread nD τ).loc main_arg1)) b H x t := by
  rw [show V m c main_v1 = transpose S2x18x160x1024 [0, 2, 3, 1] (m ((c : Thread nD τ).loc main_arg1)) transposes_S2x1024x18x160_S2x18x160x1024_0_2_3_1 by
    unfold V; after_results]
  pointwise []
  rfl
theorem V_v2 (b : Fin 2) (H : Fin 18) (x : Fin 160) (t : Fin 1024) :
    (V m c main_v2 : S2x18x160x1024.Idx → EReal) (ix4 b H x t) = codesOf (m ((c : Thread nD τ).loc main_arg2)) b H x t := by
  rw [show V m c main_v2 = transpose S2x18x160x1024 [0, 2, 3, 1] (m ((c : Thread nD τ).loc main_arg2)) transposes_S2x1024x18x160_S2x18x160x1024_0_2_3_1 by
    unfold V; after_results]
  pointwise []
  rfl
theorem V_v3 (b : Fin 2) (H : Fin 18) (t : Fin 1024) :
    (V m c main_v3 : S18x2x1024.Idx → EReal) (ix3 H b t) = scalesOf (m ((c : Thread nD τ).loc main_arg3)) b H t := by
  rw [show V m c main_v3 = transpose S18x2x1024 [2, 0, 1] (m ((c : Thread nD τ).loc main_arg3)) transposes_S2x1024x18_S18x2x1024_2_0_1 by
    unfold V; after_results]
  pointwise []
  rfl
theorem V_v4 (b : Fin 2) (H : Fin 18) (t : Fin 1024) :
    (V m c main_v4 : S18x2x1024.Idx → EReal) (ix3 H b t) = scalesOf (m ((c : Thread nD τ).loc main_arg4)) b H t := by
  rw [show V m c main_v4 = transpose S18x2x1024 [2, 0, 1] (m ((c : Thread nD τ).loc main_arg4)) transposes_S2x1024x18_S18x2x1024_2_0_1 by
    unfold V; after_results]
  pointwise []
  rfl
theorem V_v5 (b : Fin 2) (H : Fin 18) (t : Fin 1024) :
    (V m c main_v5 : S18x2x1024.Idx → EReal) (ix3 H b t) = scalesOf (m ((c : Thread nD τ).loc main_arg5)) b H t := by
  rw [show V m c main_v5 = transpose S18x2x1024 [2, 0, 1] (m ((c : Thread nD τ).loc main_arg5)) transposes_S2x1024x18_S18x2x1024_2_0_1 by
    unfold V; after_results]
  pointwise []
  rfl

/-! ## The blocks -/

/-- The batch element and the head a grid point works on. -/
def bat (t : Fin cfg0.N) : Fin 2 := ⟨t.val % 2, Nat.mod_lt _ (by decide)⟩
def hd (t : Fin cfg0.N) (h : Fin 4) (hh : 4 * (t.val / 2) + h.val < 18) : Fin 18 := ⟨4 * (t.val / 2) + h.val, hh⟩

/-- Where a block's element lies in the array. -/
theorem emb_val {G : Pipeline.Grid} (w : Pipeline.Window sig G) (t : Fin G.N) (hk : w.kind = .blocked) (j : (w.xblock (G.coords t)).Idx) (a : Fin w.shape.rank) :
    ((w.rect t).emb j a).val = w.index t a * w.size a + (j a).val := by
  refine (ValueKit.rect_emb_unit_val _ _ _ _ a).trans ?_
  exact congrArg (fun k : Pipeline.WinKind => k.off (w.index t a) (w.size a) + (j a).val) hk

/-- The elements of a block of codes that a step works on lie inside the array, and where. -/
theorem in4 (t : Fin cfg0.N) (h : Fin 4) (hh : 4 * (t.val / 2) + h.val < 18) (x : Fin 160) (k : Fin 1024) : ∀ a : Fin 4,
    ((ix4 (0 : Fin 1) h x k : S1x4x160x1024.Idx) a).val < (![1, if t.val < 8 then 4 else 2, 160, 1024] : Fin 4 → ℕ) a
  | 0 => Nat.zero_lt_one
  | 1 => show h.val < if t.val < 8 then 4 else 2 by split <;> omega
  | 2 => x.isLt
  | 3 => k.isLt
theorem pos4 (t : Fin cfg0.N) (h : Fin 4) (hh : 4 * (t.val / 2) + h.val < 18) (x : Fin 160) (k : Fin 1024) : ∀ a : Fin 4,
    (![t.val % 2, t.val / 2, 0, 0] : Fin 4 → ℕ) a * S1x4x160x1024.size a + ((ix4 (0 : Fin 1) h x k : S1x4x160x1024.Idx) a).val
      = ((ix4 (bat t) (hd t h hh) x k : S2x18x160x1024.Idx) a).val
  | 0 => show t.val % 2 * 1 + 0 = t.val % 2 by omega
  | 1 => show t.val / 2 * 4 + h.val = 4 * (t.val / 2) + h.val by omega
  | 2 => show 0 * 160 + x.val = x.val by omega
  | 3 => show 0 * 1024 + k.val = k.val by omega

/-- … and of a block of scales. -/
theorem in3 (t : Fin cfg0.N) (h : Fin 4) (hh : 4 * (t.val / 2) + h.val < 18) (b : Fin 2) (k : Fin 1024) : ∀ a : Fin 3,
    ((ix3 h b k : S4x2x1024.Idx) a).val < (![if t.val < 8 then 4 else 2, 2, 1024] : Fin 3 → ℕ) a
  | 0 => show h.val < if t.val < 8 then 4 else 2 by split <;> omega
  | 1 => b.isLt
  | 2 => k.isLt
theorem pos3 (t : Fin cfg0.N) (h : Fin 4) (hh : 4 * (t.val / 2) + h.val < 18) (b : Fin 2) (k : Fin 1024) : ∀ a : Fin 3,
    (![t.val / 2, 0, 0] : Fin 3 → ℕ) a * S4x2x1024.size a + ((ix3 h b k : S4x2x1024.Idx) a).val
      = ((ix3 (hd t h hh) b k : S18x2x1024.Idx) a).val
  | 0 => show t.val / 2 * 4 + h.val = 4 * (t.val / 2) + h.val by omega
  | 1 => show 0 * 2 + b.val = b.val by omega
  | 2 => show 0 * 1024 + k.val = k.val by omega

theorem xs0 : ∀ (t : Fin cfg0.N) (a : Fin 4), win0_0.xsize (grid0.coords t) a = (![1, if t.val < 8 then 4 else 2, 160, 1024] : Fin 4 → ℕ) a := by
  decide +kernel
theorem idx0 : ∀ (t : Fin cfg0.N) (a : Fin 4), win0_0.index t a = (![t.val % 2, t.val / 2, 0, 0] : Fin 4 → ℕ) a := by
  decide +kernel
theorem holds0 (t : Fin cfg0.N) (D) (hD : Holds m c 0 t D) (h : Fin 4) (hh : 4 * (t.val / 2) + h.val < 18) (x : Fin 160) (k : Fin 1024) :
    (D : S1x4x160x1024.Idx → EReal) (ix4 0 h x k) = codesOf (m ((c : Thread nD τ).loc main_arg0)) (bat t) (hd t h hh) x k := by
  obtain ⟨d, rfl⟩ := hD
  have hm : ∀ a : Fin 4, ((ix4 (0 : Fin 1) h x k : S1x4x160x1024.Idx) a).val < win0_0.xsize (grid0.coords t) a := fun a => by
    rw [xs0]; exact in4 t h hh x k a
  rw [← V_v0]
  refine (win0_0.fill_xinj (grid0.coords t) d (iblk m c 0 t) fun a => ⟨_, hm a⟩).trans ?_
  refine congrArg (V m c main_v0 : S2x18x160x1024.Idx → EReal) (funext fun a => Fin.ext ?_)
  exact ((emb_val win0_0 t rfl (fun a => ⟨_, hm a⟩) a).trans (by rw [idx0])).trans (pos4 t h hh x k a)

theorem xs1 : ∀ (t : Fin cfg0.N) (a : Fin 4), win0_1.xsize (grid0.coords t) a = (![1, if t.val < 8 then 4 else 2, 160, 1024] : Fin 4 → ℕ) a := by
  decide +kernel
theorem idx1 : ∀ (t : Fin cfg0.N) (a : Fin 4), win0_1.index t a = (![t.val % 2, t.val / 2, 0, 0] : Fin 4 → ℕ) a := by
  decide +kernel
theorem holds1 (t : Fin cfg0.N) (D) (hD : Holds m c 1 t D) (h : Fin 4) (hh : 4 * (t.val / 2) + h.val < 18) (x : Fin 160) (k : Fin 1024) :
    (D : S1x4x160x1024.Idx → EReal) (ix4 0 h x k) = codesOf (m ((c : Thread nD τ).loc main_arg1)) (bat t) (hd t h hh) x k := by
  obtain ⟨d, rfl⟩ := hD
  have hm : ∀ a : Fin 4, ((ix4 (0 : Fin 1) h x k : S1x4x160x1024.Idx) a).val < win0_1.xsize (grid0.coords t) a := fun a => by
    rw [xs1]; exact in4 t h hh x k a
  rw [← V_v1]
  refine (win0_1.fill_xinj (grid0.coords t) d (iblk m c 1 t) fun a => ⟨_, hm a⟩).trans ?_
  refine congrArg (V m c main_v1 : S2x18x160x1024.Idx → EReal) (funext fun a => Fin.ext ?_)
  exact ((emb_val win0_1 t rfl (fun a => ⟨_, hm a⟩) a).trans (by rw [idx1])).trans (pos4 t h hh x k a)

theorem xs2 : ∀ (t : Fin cfg0.N) (a : Fin 4), win0_2.xsize (grid0.coords t) a = (![1, if t.val < 8 then 4 else 2, 160, 1024] : Fin 4 → ℕ) a := by
  decide +kernel
theorem idx2 : ∀ (t : Fin cfg0.N) (a : Fin 4), win0_2.index t a = (![t.val % 2, t.val / 2, 0, 0] : Fin 4 → ℕ) a := by
  decide +kernel
theorem holds2 (t : Fin cfg0.N) (D) (hD : Holds m c 2 t D) (h : Fin 4) (hh : 4 * (t.val / 2) + h.val < 18) (x : Fin 160) (k : Fin 1024) :
    (D : S1x4x160x1024.Idx → EReal) (ix4 0 h x k) = codesOf (m ((c : Thread nD τ).loc main_arg2)) (bat t) (hd t h hh) x k := by
  obtain ⟨d, rfl⟩ := hD
  have hm : ∀ a : Fin 4, ((ix4 (0 : Fin 1) h x k : S1x4x160x1024.Idx) a).val < win0_2.xsize (grid0.coords t) a := fun a => by
    rw [xs2]; exact in4 t h hh x k a
  rw [← V_v2]
  refine (win0_2.fill_xinj (grid0.coords t) d (iblk m c 2 t) fun a => ⟨_, hm a⟩).trans ?_
  refine congrArg (V m c main_v2 : S2x18x160x1024.Idx → EReal) (funext fun a => Fin.ext ?_)
  exact ((emb_val win0_2 t rfl (fun a => ⟨_, hm a⟩) a).trans (by rw [idx2])).trans (pos4 t h hh x k a)

theorem xs3 : ∀ (t : Fin cfg0.N) (a : Fin 3), win0_3.xsize (grid0.coords t) a = (![if t.val < 8 then 4 else 2, 2, 1024] : Fin 3 → ℕ) a := by
  decide +kernel
theorem idx3 : ∀ (t : Fin cfg0.N) (a : Fin 3), win0_3.index t a = (![t.val / 2, 0, 0] : Fin 3 → ℕ) a := by
  decide +kernel
theorem holds3 (t : Fin cfg0.N) (D) (hD : Holds m c 3 t D) (h : Fin 4) (hh : 4 * (t.val / 2) + h.val < 18) (b : Fin 2) (k : Fin 1024) :
    (D : S4x2x1024.Idx → EReal) (ix3 h b k) = scalesOf (m ((c : Thread nD τ).loc main_arg3)) b (hd t h hh) k := by
  obtain ⟨d, rfl⟩ := hD
  have hm : ∀ a : Fin 3, ((ix3 h b k : S4x2x1024.Idx) a).val < win0_3.xsize (grid0.coords t) a := fun a => by
    rw [xs3]; exact in3 t h hh b k a
  rw [← V_v3]
  refine (win0_3.fill_xinj (grid0.coords t) d (iblk m c 3 t) fun a => ⟨_, hm a⟩).trans ?_
  refine congrArg (V m c main_v3 : S18x2x1024.Idx → EReal) (funext fun a => Fin.ext ?_)
  exact ((emb_val win0_3 t rfl (fun a => ⟨_, hm a⟩) a).trans (by rw [idx3])).trans (pos3 t h hh b k a)

theorem xs4 : ∀ (t : Fin cfg0.N) (a : Fin 3), win0_4.xsize (grid0.coords t) a = (![if t.val < 8 then 4 else 2, 2, 1024] : Fin 3 → ℕ) a := by
  decide +kernel
theorem idx4 : ∀ (t : Fin cfg0.N) (a : Fin 3), win0_4.index t a = (![t.val / 2, 0, 0] : Fin 3 → ℕ) a := by
  decide +kernel
theorem holds4 (t : Fin cfg0.N) (D) (hD : Holds m c 4 t D) (h : Fin 4) (hh : 4 * (t.val / 2) + h.val < 18) (b : Fin 2) (k : Fin 1024) :
    (D : S4x2x1024.Idx → EReal) (ix3 h b k) = scalesOf (m ((c : Thread nD τ).loc main_arg4)) b (hd t h hh) k := by
  obtain ⟨d, rfl⟩ := hD
  have hm : ∀ a : Fin 3, ((ix3 h b k : S4x2x1024.Idx) a).val < win0_4.xsize (grid0.coords t) a := fun a => by
    rw [xs4]; exact in3 t h hh b k a
  rw [← V_v4]
  refine (win0_4.fill_xinj (grid0.coords t) d (iblk m c 4 t) fun a => ⟨_, hm a⟩).trans ?_
  refine congrArg (V m c main_v4 : S18x2x1024.Idx → EReal) (funext fun a => Fin.ext ?_)
  exact ((emb_val win0_4 t rfl (fun a => ⟨_, hm a⟩) a).trans (by rw [idx4])).trans (pos3 t h hh b k a)

theorem xs5 : ∀ (t : Fin cfg0.N) (a : Fin 3), win0_5.xsize (grid0.coords t) a = (![if t.val < 8 then 4 else 2, 2, 1024] : Fin 3 → ℕ) a := by
  decide +kernel
theorem idx5 : ∀ (t : Fin cfg0.N) (a : Fin 3), win0_5.index t a = (![t.val / 2, 0, 0] : Fin 3 → ℕ) a := by
  decide +kernel
theorem holds5 (t : Fin cfg0.N) (D) (hD : Holds m c 5 t D) (h : Fin 4) (hh : 4 * (t.val / 2) + h.val < 18) (b : Fin 2) (k : Fin 1024) :
    (D : S4x2x1024.Idx → EReal) (ix3 h b k) = scalesOf (m ((c : Thread nD τ).loc main_arg5)) b (hd t h hh) k := by
  obtain ⟨d, rfl⟩ := hD
  have hm : ∀ a : Fin 3, ((ix3 h b k : S4x2x1024.Idx) a).val < win0_5.xsize (grid0.coords t) a := fun a => by
    rw [xs5]; exact in3 t h hh b k a
  rw [← V_v5]
  refine (win0_5.fill_xinj (grid0.coords t) d (iblk m c 5 t) fun a => ⟨_, hm a⟩).trans ?_
  refine congrArg (V m c main_v5 : S18x2x1024.Idx → EReal) (funext fun a => Fin.ext ?_)
  exact ((emb_val win0_5 t rfl (fun a => ⟨_, hm a⟩) a).trans (by rw [idx5])).trans (pos3 t h hh b k a)

/-- A grid point's second coordinate is its batch element. -/
theorem coord1 : ∀ t : Fin cfg0.N, (grid0.coords t 1).val = t.val % 2 := by decide +kernel

end Cert.KernelIdeal.Tile

end
-- ==== Proof.FullEnv.lean ====
/- What a step of four heads computes of the dilated pattern. -/
module

public import proofs.«01_k».proof.Proof.Weights
public import proofs.«01_k».proof.Proof.IdealFull

@[expose] public section

noncomputable section

namespace Cert.KernelIdeal.Tile

open Cert.KernelIdeal Cert.KernelIdeal.Gen Cert.KernelIdeal.Hand
open Idealize.ShloMosaic

variable (c : Dev nD) (i : grid0.Coords) (hc : k0_cond1 i = 1#1)
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (M10 : Memref sig .tc .vmem S256x1024 .f32) (M11 : Memref sig .tc .vmem S256x1024 .bf16)
  (f2 : Bf (F := Ideal) c M2) (f3 : Bf (F := Ideal) c M3) (f4 : Bf (F := Ideal) c M4) (f5 : Bf (F := Ideal) c M5)
  (f6 : Bf (F := Ideal) c M6) (f7 : Bf (F := Ideal) c M7)

/-- A step of four heads. -/
def envFull : Env c where
  four := true
  i := i
  M2 := M2
  M3 := M3
  M4 := M4
  M5 := M5
  M6 := M6
  M7 := M7
  M10 := M10
  M11 := M11
  f2 := f2
  f3 := f3
  f4 := f4
  f5 := f5
  f6 := f6
  f7 := f7
  w := runFull.sl.v15 i
  S := runFull.sl.v696 c M2 M3 f2 f3
  K := runFull.sl.v714 c i hc M6 f6
  Q := runFull.sl.v705 c i hc M5 f5
  L10 := runFull.sl.H10_144 c i hc M2 M3 M5 M6 f2 f3 f5 f6
  big := fun
    | 0 => runFull.sl.v1084 c i hc M2 M3 M5 M6 f2 f3 f5 f6
    | 1 => runFull.sl.v1571 c i hc M2 M3 M5 M6 f2 f3 f5 f6
    | 2 => runFull.sl.v2238 c i hc M2 M3 M5 M6 f2 f3 f5 f6
    | 3 => runFull.sl.v3085 c i hc M2 M3 M5 M6 f2 f3 f5 f6
    | 4 => runFull.sl.v4112 c i hc M2 M3 M5 M6 f2 f3 f5 f6
    | 5 => runFull.sl.v5319 c i hc M2 M3 M5 M6 f2 f3 f5 f6
    | 6 => runFull.sl.v6706 c i hc M2 M3 M5 M6 f2 f3 f5 f6
    | 7 => runFull.sl.v8273 c i hc M2 M3 M5 M6 f2 f3 f5 f6
  mix := fun
    | 0 => runFull.sl.v10784 c i hc M2 M3 M5 M6 f2 f3 f5 f6
    | 1 => runFull.sl.v10806 c i hc M2 M3 M5 M6 f2 f3 f5 f6
    | 2 => runFull.sl.v11274 c i hc M2 M3 M5 M6 f2 f3 f5 f6
    | 3 => runFull.sl.v11296 c i hc M2 M3 M5 M6 f2 f3 f5 f6
    | 4 => runFull.sl.v11764 c i hc M2 M3 M5 M6 f2 f3 f5 f6
    | 5 => runFull.sl.v11786 c i hc M2 M3 M5 M6 f2 f3 f5 f6
    | 6 => runFull.sl.v12250 c i hc M2 M3 M5 M6 f2 f3 f5 f6
    | 7 => runFull.sl.v12272 c i hc M2 M3 M5 M6 f2 f3 f5 f6
  l4 := fun
    | 0 => runFull.sl.v10790 c i hc M2 M3 M5 M6 M10 f2 f3 f5 f6
    | 1 => runFull.sl.v10812 c i hc M2 M3 M5 M6 M10 f2 f3 f5 f6
    | 2 => runFull.sl.v11280 c i hc M2 M3 M5 M6 M10 f2 f3 f5 f6
    | 3 => runFull.sl.v11302 c i hc M2 M3 M5 M6 M10 f2 f3 f5 f6
    | 4 => runFull.sl.v11770 c i hc M2 M3 M5 M6 M10 f2 f3 f5 f6
    | 5 => runFull.sl.v11792 c i hc M2 M3 M5 M6 M10 f2 f3 f5 f6
    | 6 => runFull.sl.v12256 c i hc M2 M3 M5 M6 M10 f2 f3 f5 f6
    | 7 => runFull.sl.v12278 c i hc M2 M3 M5 M6 M10 f2 f3 f5 f6
  wt := fun
    | 0 => runFull.sl.H11_1
    | 1 => runFull.sl.H11_3 c i hc M2 M3 M5 M6 M10 f2 f3 f5 f6
    | 2 => runFull.sl.H11_5 c i hc M2 M3 M5 M6 M10 f2 f3 f5 f6
    | 3 => runFull.sl.H11_7 c i hc M2 M3 M5 M6 M10 f2 f3 f5 f6
    | 4 => runFull.sl.H11_9 c i hc M2 M3 M5 M6 M10 f2 f3 f5 f6

theorem good_SFull : Env.S (envFull c i hc M2 M3 M4 M5 M6 M7 M10 M11 f2 f3 f4 f5 f6 f7) = SS true fun h => mm (all M3 f3 h) (all M2 f2 h) (BitVec.ofNat 32 h.val) :=
  rfl

theorem good_KFull : Env.K (envFull c i hc M2 M3 M4 M5 M6 M7 M10 M11 f2 f3 f4 f5 f6 f7) = XX true k0_pay5 (Env.ksc (envFull c i hc M2 M3 M4 M5 M6 M7 M10 M11 f2 f3 f4 f5 f6 f7)) :=
  rfl

theorem good_QFull : Env.Q (envFull c i hc M2 M3 M4 M5 M6 M7 M10 M11 f2 f3 f4 f5 f6 f7) = XX true k0_pay5 fun h => mulf (Env.qsc (envFull c i hc M2 M3 M4 M5 M6 M7 M10 M11 f2 f3 f4 f5 f6 f7) h) (broadcast S1x1024 (Named.named κ "qscale" 0x3DE995B3#32)) :=
  rfl

theorem good_LFull : runFull.sl.H10_144 (F := Ideal) c i hc M2 M3 M5 M6 f2 f3 f5 f6 =
    keys.map (piece (runFull.sl.v696 c M2 M3 f2 f3) (runFull.sl.v714 c i hc M6 f6) (runFull.sl.v705 c i hc M5 f5) (runFull.sl.v15 i)) :=
  rfl

theorem good_bigFull : ∀ e, Env.big (envFull c i hc M2 M3 M4 M5 M6 M7 M10 M11 f2 f3 f4 f5 f6 f7) e = m4 (runFull.sl.v696 c M2 M3 f2 f3) (runFull.sl.v714 c i hc M6 f6) (runFull.sl.v705 c i hc M5 f5) (runFull.sl.v15 i) e :=
  fun | 0 => rfl | 1 => rfl | 2 => rfl | 3 => rfl | 4 => rfl | 5 => rfl | 6 => rfl | 7 => rfl

theorem good_mixAFull : ∀ n : Fin 4, Env.mix (envFull c i hc M2 M3 M4 M5 M6 M7 M10 M11 f2 f3 f4 f5 f6 f7) (evn n) =
    XX true (extractStridedSlice S1x128 ![0, n.val * 256] k0_pay5 (sl_q n)) (Env.mA1 (envFull c i hc M2 M3 M4 M5 M6 M7 M10 M11 f2 f3 f4 f5 f6 f7) n) :=
  fun | 0 => rfl | 1 => rfl | 2 => rfl | 3 => rfl

theorem good_mixBFull : ∀ n : Fin 4, Env.mix (envFull c i hc M2 M3 M4 M5 M6 M7 M10 M11 f2 f3 f4 f5 f6 f7) (odd n) =
    XX true (extractStridedSlice S1x128 ![0, n.val * 256 + 128] k0_pay5 (sl_q' n)) (Env.mB1 (envFull c i hc M2 M3 M4 M5 M6 M7 M10 M11 f2 f3 f4 f5 f6 f7) n) :=
  fun | 0 => rfl | 1 => rfl | 2 => rfl | 3 => rfl

theorem good_l4Full : ∀ e, Env.l4 (envFull c i hc M2 M3 M4 M5 M6 M7 M10 M11 f2 f3 f4 f5 f6 f7) e = Env.sum (envFull c i hc M2 M3 M4 M5 M6 M7 M10 M11 f2 f3 f4 f5 f6 f7) e (Env.mix (envFull c i hc M2 M3 M4 M5 M6 M7 M10 M11 f2 f3 f4 f5 f6 f7) e) :=
  fun | 0 => rfl | 1 => rfl | 2 => rfl | 3 => rfl | 4 => rfl | 5 => rfl | 6 => rfl | 7 => rfl

theorem good_wtFull : ∀ n : Fin 4, Env.wt (envFull c i hc M2 M3 M4 M5 M6 M7 M10 M11 f2 f3 f4 f5 f6 f7) n.succ = Env.exP (envFull c i hc M2 M3 M4 M5 M6 M7 M10 M11 f2 f3 f4 f5 f6 f7) (odd n) (Env.mix (envFull c i hc M2 M3 M4 M5 M6 M7 M10 M11 f2 f3 f4 f5 f6 f7) (odd n)) :: Env.exP (envFull c i hc M2 M3 M4 M5 M6 M7 M10 M11 f2 f3 f4 f5 f6 f7) (evn n) (Env.mix (envFull c i hc M2 M3 M4 M5 M6 M7 M10 M11 f2 f3 f4 f5 f6 f7) (evn n)) ::
    Env.wt (envFull c i hc M2 M3 M4 M5 M6 M7 M10 M11 f2 f3 f4 f5 f6 f7) n.castSucc :=
  fun | 0 => rfl | 1 => rfl | 2 => rfl | 3 => rfl

theorem word_eq : runFull.sl.v15 i = BitVec.ofNat 32 ((i 0).val % 4) :=
  resL_eq ⟨(i 0).val, (i 0).isLt.trans (by decide)⟩

theorem goodFull : Env.Good (envFull c i hc M2 M3 M4 M5 M6 M7 M10 M11 f2 f3 f4 f5 f6 f7) where
  w := word_eq i
  S := good_SFull ..
  K := good_KFull ..
  Q := good_QFull ..
  L10 := good_LFull ..
  big := fun _ => good_bigFull ..
  mixA := fun _ => good_mixAFull ..
  mixB := fun _ => good_mixBFull ..
  l4 := fun _ => good_l4Full ..
  wt0 := rfl
  wt := fun _ => good_wtFull ..

end Cert.KernelIdeal.Tile

end
-- ==== Proof.FullOut.lean ====
/- The stores of the output tiles on a step of four heads. -/
module

public import proofs.«01_k».proof.Proof.FullEnv

@[expose] public section

noncomputable section

namespace Cert.KernelIdeal.Tile

open Cert.KernelIdeal Cert.KernelIdeal.Gen Cert.KernelIdeal.Hand
open Idealize.ShloMosaic

variable (c : Dev nD) (i : grid0.Coords) (hc : k0_cond1 i = 1#1)
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (M10 : Memref sig .tc .vmem S256x1024 .f32) (M11 : Memref sig .tc .vmem S256x1024 .bf16)
  (f2 : Bf (F := Ideal) c M2) (f3 : Bf (F := Ideal) c M3) (f4 : Bf (F := Ideal) c M4) (f5 : Bf (F := Ideal) c M5)
  (f6 : Bf (F := Ideal) c M6) (f7 : Bf (F := Ideal) c M7)

theorem runFull8_1 : Outs (envFull c i hc M2 M3 M4 M5 M6 M7 M10 M11 f2 f3 f4 f5 f6 f7) (runFull.sl.H8_1 (F := Ideal) c i hc M2 M3 M4 M5 M6 M7 M10 M11 f2 f3 f4 f5 f6 f7) [(0, 0)] :=
  .cons rfl .nil

theorem runFull8_2 : Outs (envFull c i hc M2 M3 M4 M5 M6 M7 M10 M11 f2 f3 f4 f5 f6 f7) (runFull.sl.H8_2 (F := Ideal) c i hc M2 M3 M4 M5 M6 M7 M10 M11 f2 f3 f4 f5 f6 f7) [(1, 0), (0, 0)] :=
  .cons rfl (runFull8_1 c i hc M2 M3 M4 M5 M6 M7 M10 M11 f2 f3 f4 f5 f6 f7)

theorem runFull8_3 : Outs (envFull c i hc M2 M3 M4 M5 M6 M7 M10 M11 f2 f3 f4 f5 f6 f7) (runFull.sl.H8_3 (F := Ideal) c i hc M2 M3 M4 M5 M6 M7 M10 M11 f2 f3 f4 f5 f6 f7) [(2, 0), (1, 0), (0, 0)] :=
  .cons rfl (runFull8_2 c i hc M2 M3 M4 M5 M6 M7 M10 M11 f2 f3 f4 f5 f6 f7)

theorem runFull8_4 : Outs (envFull c i hc M2 M3 M4 M5 M6 M7 M10 M11 f2 f3 f4 f5 f6 f7) (runFull.sl.H8_4 (F := Ideal) c i hc M2 M3 M4 M5 M6 M7 M10 M11 f2 f3 f4 f5 f6 f7) [(3, 0), (2, 0), (1, 0), (0, 0)] :=
  .cons rfl (runFull8_3 c i hc M2 M3 M4 M5 M6 M7 M10 M11 f2 f3 f4 f5 f6 f7)

theorem runFull8_5 : Outs (envFull c i hc M2 M3 M4 M5 M6 M7 M10 M11 f2 f3 f4 f5 f6 f7) (runFull.sl.H8_5 (F := Ideal) c i hc M2 M3 M4 M5 M6 M7 M10 M11 f2 f3 f4 f5 f6 f7) [(0, 1), (3, 0), (2, 0), (1, 0), (0, 0)] :=
  .cons rfl (runFull8_4 c i hc M2 M3 M4 M5 M6 M7 M10 M11 f2 f3 f4 f5 f6 f7)

theorem runFull8_6 : Outs (envFull c i hc M2 M3 M4 M5 M6 M7 M10 M11 f2 f3 f4 f5 f6 f7) (runFull.sl.H8_6 (F := Ideal) c i hc M2 M3 M4 M5 M6 M7 M10 M11 f2 f3 f4 f5 f6 f7) [(1, 1), (0, 1), (3, 0), (2, 0), (1, 0), (0, 0)] :=
  .cons rfl (runFull8_5 c i hc M2 M3 M4 M5 M6 M7 M10 M11 f2 f3 f4 f5 f6 f7)

theorem runFull8_7 : Outs (envFull c i hc M2 M3 M4 M5 M6 M7 M10 M11 f2 f3 f4 f5 f6 f7) (runFull.sl.H8_7 (F := Ideal) c i hc M2 M3 M4 M5 M6 M7 M10 M11 f2 f3 f4 f5 f6 f7) [(2, 1), (1, 1), (0, 1), (3, 0), (2, 0), (1, 0), (0, 0)] :=
  .cons rfl (runFull8_6 c i hc M2 M3 M4 M5 M6 M7 M10 M11 f2 f3 f4 f5 f6 f7)

theorem runFull8_8 : Outs (envFull c i hc M2 M3 M4 M5 M6 M7 M10 M11 f2 f3 f4 f5 f6 f7) (runFull.sl.H8_8 (F := Ideal) c i hc M2 M3 M4 M5 M6 M7 M10 M11 f2 f3 f4 f5 f6 f7) [(3, 1), (2, 1), (1, 1), (0, 1), (3, 0), (2, 0), (1, 0), (0, 0)] :=
  .cons rfl (runFull8_7 c i hc M2 M3 M4 M5 M6 M7 M10 M11 f2 f3 f4 f5 f6 f7)

theorem runFull8_9 : Outs (envFull c i hc M2 M3 M4 M5 M6 M7 M10 M11 f2 f3 f4 f5 f6 f7) (runFull.sl.H8_9 (F := Ideal) c i hc M2 M3 M4 M5 M6 M7 M10 M11 f2 f3 f4 f5 f6 f7) [(0, 2), (3, 1), (2, 1), (1, 1), (0, 1), (3, 0), (2, 0), (1, 0), (0, 0)] :=
  .cons rfl (runFull8_8 c i hc M2 M3 M4 M5 M6 M7 M10 M11 f2 f3 f4 f5 f6 f7)

theorem runFull8_10 : Outs (envFull c i hc M2 M3 M4 M5 M6 M7 M10 M11 f2 f3 f4 f5 f6 f7) (runFull.sl.H8_10 (F := Ideal) c i hc M2 M3 M4 M5 M6 M7 M10 M11 f2 f3 f4 f5 f6 f7) [(1, 2), (0, 2), (3, 1), (2, 1), (1, 1), (0, 1), (3, 0), (2, 0), (1, 0), (0, 0)] :=
  .cons rfl (runFull8_9 c i hc M2 M3 M4 M5 M6 M7 M10 M11 f2 f3 f4 f5 f6 f7)

theorem runFull8_11 : Outs (envFull c i hc M2 M3 M4 M5 M6 M7 M10 M11 f2 f3 f4 f5 f6 f7) (runFull.sl.H8_11 (F := Ideal) c i hc M2 M3 M4 M5 M6 M7 M10 M11 f2 f3 f4 f5 f6 f7) [(2, 2), (1, 2), (0, 2), (3, 1), (2, 1), (1, 1), (0, 1), (3, 0), (2, 0), (1, 0), (0, 0)] :=
  .cons rfl (runFull8_10 c i hc M2 M3 M4 M5 M6 M7 M10 M11 f2 f3 f4 f5 f6 f7)

theorem runFull8_12 : Outs (envFull c i hc M2 M3 M4 M5 M6 M7 M10 M11 f2 f3 f4 f5 f6 f7) (runFull.sl.H8_12 (F := Ideal) c i hc M2 M3 M4 M5 M6 M7 M10 M11 f2 f3 f4 f5 f6 f7) [(3, 2), (2, 2), (1, 2), (0, 2), (3, 1), (2, 1), (1, 1), (0, 1), (3, 0), (2, 0), (1, 0), (0, 0)] :=
  .cons rfl (runFull8_11 c i hc M2 M3 M4 M5 M6 M7 M10 M11 f2 f3 f4 f5 f6 f7)

theorem runFull8_13 : Outs (envFull c i hc M2 M3 M4 M5 M6 M7 M10 M11 f2 f3 f4 f5 f6 f7) (runFull.sl.H8_13 (F := Ideal) c i hc M2 M3 M4 M5 M6 M7 M10 M11 f2 f3 f4 f5 f6 f7) [(0, 3), (3, 2), (2, 2), (1, 2), (0, 2), (3, 1), (2, 1), (1, 1), (0, 1), (3, 0), (2, 0), (1, 0), (0, 0)] :=
  .cons rfl (runFull8_12 c i hc M2 M3 M4 M5 M6 M7 M10 M11 f2 f3 f4 f5 f6 f7)

theorem runFull8_14 : Outs (envFull c i hc M2 M3 M4 M5 M6 M7 M10 M11 f2 f3 f4 f5 f6 f7) (runFull.sl.H8_14 (F := Ideal) c i hc M2 M3 M4 M5 M6 M7 M10 M11 f2 f3 f4 f5 f6 f7) [(1, 3), (0, 3), (3, 2), (2, 2), (1, 2), (0, 2), (3, 1), (2, 1), (1, 1), (0, 1), (3, 0), (2, 0), (1, 0), (0, 0)] :=
  .cons rfl (runFull8_13 c i hc M2 M3 M4 M5 M6 M7 M10 M11 f2 f3 f4 f5 f6 f7)

theorem runFull8_15 : Outs (envFull c i hc M2 M3 M4 M5 M6 M7 M10 M11 f2 f3 f4 f5 f6 f7) (runFull.sl.H8_15 (F := Ideal) c i hc M2 M3 M4 M5 M6 M7 M10 M11 f2 f3 f4 f5 f6 f7) [(2, 3), (1, 3), (0, 3), (3, 2), (2, 2), (1, 2), (0, 2), (3, 1), (2, 1), (1, 1), (0, 1), (3, 0), (2, 0), (1, 0), (0, 0)] :=
  .cons rfl (runFull8_14 c i hc M2 M3 M4 M5 M6 M7 M10 M11 f2 f3 f4 f5 f6 f7)

theorem runFull8_16 : Outs (envFull c i hc M2 M3 M4 M5 M6 M7 M10 M11 f2 f3 f4 f5 f6 f7) (runFull.sl.H8_16 (F := Ideal) c i hc M2 M3 M4 M5 M6 M7 M10 M11 f2 f3 f4 f5 f6 f7) [(3, 3), (2, 3), (1, 3), (0, 3), (3, 2), (2, 2), (1, 2), (0, 2), (3, 1), (2, 1), (1, 1), (0, 1), (3, 0), (2, 0), (1, 0), (0, 0)] :=
  .cons rfl (runFull8_15 c i hc M2 M3 M4 M5 M6 M7 M10 M11 f2 f3 f4 f5 f6 f7)

end Cert.KernelIdeal.Tile

end
-- ==== Proof.FullLse.lean ====
/- The stores of the tiles of logarithms on a step of four heads. -/
module

public import proofs.«01_k».proof.Proof.FullEnv

@[expose] public section

noncomputable section

namespace Cert.KernelIdeal.Tile

open Cert.KernelIdeal Cert.KernelIdeal.Gen Cert.KernelIdeal.Hand
open Idealize.ShloMosaic

variable (c : Dev nD) (i : grid0.Coords) (hc : k0_cond1 i = 1#1)
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (M10 : Memref sig .tc .vmem S256x1024 .f32) (M11 : Memref sig .tc .vmem S256x1024 .bf16)
  (f2 : Bf (F := Ideal) c M2) (f3 : Bf (F := Ideal) c M3) (f4 : Bf (F := Ideal) c M4) (f5 : Bf (F := Ideal) c M5)
  (f6 : Bf (F := Ideal) c M6) (f7 : Bf (F := Ideal) c M7)

theorem runFull9_1 : Lses (envFull c i hc M2 M3 M4 M5 M6 M7 M10 M11 f2 f3 f4 f5 f6 f7) (runFull.sl.H9_1 (F := Ideal) c i hc M2 M3 M5 M6 M10 f2 f3 f5 f6) [(0, 0)] :=
  .cons rfl .nil

theorem runFull9_2 : Lses (envFull c i hc M2 M3 M4 M5 M6 M7 M10 M11 f2 f3 f4 f5 f6 f7) (runFull.sl.H9_2 (F := Ideal) c i hc M2 M3 M5 M6 M10 f2 f3 f5 f6) [(1, 0), (0, 0)] :=
  .cons rfl (runFull9_1 c i hc M2 M3 M4 M5 M6 M7 M10 M11 f2 f3 f4 f5 f6 f7)

theorem runFull9_3 : Lses (envFull c i hc M2 M3 M4 M5 M6 M7 M10 M11 f2 f3 f4 f5 f6 f7) (runFull.sl.H9_3 (F := Ideal) c i hc M2 M3 M5 M6 M10 f2 f3 f5 f6) [(2, 0), (1, 0), (0, 0)] :=
  .cons rfl (runFull9_2 c i hc M2 M3 M4 M5 M6 M7 M10 M11 f2 f3 f4 f5 f6 f7)

theorem runFull9_4 : Lses (envFull c i hc M2 M3 M4 M5 M6 M7 M10 M11 f2 f3 f4 f5 f6 f7) (runFull.sl.H9_4 (F := Ideal) c i hc M2 M3 M5 M6 M10 f2 f3 f5 f6) [(3, 0), (2, 0), (1, 0), (0, 0)] :=
  .cons rfl (runFull9_3 c i hc M2 M3 M4 M5 M6 M7 M10 M11 f2 f3 f4 f5 f6 f7)

theorem runFull9_5 : Lses (envFull c i hc M2 M3 M4 M5 M6 M7 M10 M11 f2 f3 f4 f5 f6 f7) (runFull.sl.H9_5 (F := Ideal) c i hc M2 M3 M5 M6 M10 f2 f3 f5 f6) [(0, 1), (3, 0), (2, 0), (1, 0), (0, 0)] :=
  .cons rfl (runFull9_4 c i hc M2 M3 M4 M5 M6 M7 M10 M11 f2 f3 f4 f5 f6 f7)

theorem runFull9_6 : Lses (envFull c i hc M2 M3 M4 M5 M6 M7 M10 M11 f2 f3 f4 f5 f6 f7) (runFull.sl.H9_6 (F := Ideal) c i hc M2 M3 M5 M6 M10 f2 f3 f5 f6) [(1, 1), (0, 1), (3, 0), (2, 0), (1, 0), (0, 0)] :=
  .cons rfl (runFull9_5 c i hc M2 M3 M4 M5 M6 M7 M10 M11 f2 f3 f4 f5 f6 f7)

theorem runFull9_7 : Lses (envFull c i hc M2 M3 M4 M5 M6 M7 M10 M11 f2 f3 f4 f5 f6 f7) (runFull.sl.H9_7 (F := Ideal) c i hc M2 M3 M5 M6 M10 f2 f3 f5 f6) [(2, 1), (1, 1), (0, 1), (3, 0), (2, 0), (1, 0), (0, 0)] :=
  .cons rfl (runFull9_6 c i hc M2 M3 M4 M5 M6 M7 M10 M11 f2 f3 f4 f5 f6 f7)

theorem runFull9_8 : Lses (envFull c i hc M2 M3 M4 M5 M6 M7 M10 M11 f2 f3 f4 f5 f6 f7) (runFull.sl.H9_8 (F := Ideal) c i hc M2 M3 M5 M6 M10 f2 f3 f5 f6) [(3, 1), (2, 1), (1, 1), (0, 1), (3, 0), (2, 0), (1, 0), (0, 0)] :=
  .cons rfl (runFull9_7 c i hc M2 M3 M4 M5 M6 M7 M10 M11 f2 f3 f4 f5 f6 f7)

theorem runFull9_9 : Lses (envFull c i hc M2 M3 M4 M5 M6 M7 M10 M11 f2 f3 f4 f5 f6 f7) (runFull.sl.H9_9 (F := Ideal) c i hc M2 M3 M5 M6 M10 f2 f3 f5 f6) [(0, 2), (3, 1), (2, 1), (1, 1), (0, 1), (3, 0), (2, 0), (1, 0), (0, 0)] :=
  .cons rfl (runFull9_8 c i hc M2 M3 M4 M5 M6 M7 M10 M11 f2 f3 f4 f5 f6 f7)

theorem runFull9_10 : Lses (envFull c i hc M2 M3 M4 M5 M6 M7 M10 M11 f2 f3 f4 f5 f6 f7) (runFull.sl.H9_10 (F := Ideal) c i hc M2 M3 M5 M6 M10 f2 f3 f5 f6) [(1, 2), (0, 2), (3, 1), (2, 1), (1, 1), (0, 1), (3, 0), (2, 0), (1, 0), (0, 0)] :=
  .cons rfl (runFull9_9 c i hc M2 M3 M4 M5 M6 M7 M10 M11 f2 f3 f4 f5 f6 f7)

theorem runFull9_11 : Lses (envFull c i hc M2 M3 M4 M5 M6 M7 M10 M11 f2 f3 f4 f5 f6 f7) (runFull.sl.H9_11 (F := Ideal) c i hc M2 M3 M5 M6 M10 f2 f3 f5 f6) [(2, 2), (1, 2), (0, 2), (3, 1), (2, 1), (1, 1), (0, 1), (3, 0), (2, 0), (1, 0), (0, 0)] :=
  .cons rfl (runFull9_10 c i hc M2 M3 M4 M5 M6 M7 M10 M11 f2 f3 f4 f5 f6 f7)

theorem runFull9_12 : Lses (envFull c i hc M2 M3 M4 M5 M6 M7 M10 M11 f2 f3 f4 f5 f6 f7) (runFull.sl.H9_12 (F := Ideal) c i hc M2 M3 M5 M6 M10 f2 f3 f5 f6) [(3, 2), (2, 2), (1, 2), (0, 2), (3, 1), (2, 1), (1, 1), (0, 1), (3, 0), (2, 0), (1, 0), (0, 0)] :=
  .cons rfl (runFull9_11 c i hc M2 M3 M4 M5 M6 M7 M10 M11 f2 f3 f4 f5 f6 f7)

theorem runFull9_13 : Lses (envFull c i hc M2 M3 M4 M5 M6 M7 M10 M11 f2 f3 f4 f5 f6 f7) (runFull.sl.H9_13 (F := Ideal) c i hc M2 M3 M5 M6 M10 f2 f3 f5 f6) [(0, 3), (3, 2), (2, 2), (1, 2), (0, 2), (3, 1), (2, 1), (1, 1), (0, 1), (3, 0), (2, 0), (1, 0), (0, 0)] :=
  .cons rfl (runFull9_12 c i hc M2 M3 M4 M5 M6 M7 M10 M11 f2 f3 f4 f5 f6 f7)

theorem runFull9_14 : Lses (envFull c i hc M2 M3 M4 M5 M6 M7 M10 M11 f2 f3 f4 f5 f6 f7) (runFull.sl.H9_14 (F := Ideal) c i hc M2 M3 M5 M6 M10 f2 f3 f5 f6) [(1, 3), (0, 3), (3, 2), (2, 2), (1, 2), (0, 2), (3, 1), (2, 1), (1, 1), (0, 1), (3, 0), (2, 0), (1, 0), (0, 0)] :=
  .cons rfl (runFull9_13 c i hc M2 M3 M4 M5 M6 M7 M10 M11 f2 f3 f4 f5 f6 f7)

theorem runFull9_15 : Lses (envFull c i hc M2 M3 M4 M5 M6 M7 M10 M11 f2 f3 f4 f5 f6 f7) (runFull.sl.H9_15 (F := Ideal) c i hc M2 M3 M5 M6 M10 f2 f3 f5 f6) [(2, 3), (1, 3), (0, 3), (3, 2), (2, 2), (1, 2), (0, 2), (3, 1), (2, 1), (1, 1), (0, 1), (3, 0), (2, 0), (1, 0), (0, 0)] :=
  .cons rfl (runFull9_14 c i hc M2 M3 M4 M5 M6 M7 M10 M11 f2 f3 f4 f5 f6 f7)

end Cert.KernelIdeal.Tile

end
-- ==== Proof.TailEnv.lean ====
/- What a step of two heads computes of the dilated pattern. -/
module

public import proofs.«01_k».proof.Proof.Weights
public import proofs.«01_k».proof.Proof.IdealTail

@[expose] public section

noncomputable section

namespace Cert.KernelIdeal.Tile

open Cert.KernelIdeal Cert.KernelIdeal.Gen Cert.KernelIdeal.Hand
open Idealize.ShloMosaic

variable (c : Dev nD) (i : grid0.Coords) (hc2 : k0_cond2 i = 1#1)
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (M10 : Memref sig .tc .vmem S256x1024 .f32) (M11 : Memref sig .tc .vmem S256x1024 .bf16)
  (f2 : Bf (F := Ideal) c M2) (f3 : Bf (F := Ideal) c M3) (f4 : Bf (F := Ideal) c M4) (f5 : Bf (F := Ideal) c M5)
  (f6 : Bf (F := Ideal) c M6) (f7 : Bf (F := Ideal) c M7)

/-- A step of two heads. -/
def envTail : Env c where
  four := false
  i := i
  M2 := M2
  M3 := M3
  M4 := M4
  M5 := M5
  M6 := M6
  M7 := M7
  M10 := M10
  M11 := M11
  f2 := f2
  f3 := f3
  f4 := f4
  f5 := f5
  f6 := f6
  f7 := f7
  w := 0#32
  S := runTail.sl.v362 c M2 M3 f2 f3
  K := runTail.sl.v368 c i hc2 M6 f6
  Q := runTail.sl.v365 c i hc2 M5 f5
  L10 := runTail.sl.H10_144 c i hc2 M2 M3 M5 M6 f2 f3 f5 f6
  big := fun
    | 0 => runTail.sl.v738 c i hc2 M2 M3 M5 M6 f2 f3 f5 f6
    | 1 => runTail.sl.v1225 c i hc2 M2 M3 M5 M6 f2 f3 f5 f6
    | 2 => runTail.sl.v1892 c i hc2 M2 M3 M5 M6 f2 f3 f5 f6
    | 3 => runTail.sl.v2739 c i hc2 M2 M3 M5 M6 f2 f3 f5 f6
    | 4 => runTail.sl.v3766 c i hc2 M2 M3 M5 M6 f2 f3 f5 f6
    | 5 => runTail.sl.v4973 c i hc2 M2 M3 M5 M6 f2 f3 f5 f6
    | 6 => runTail.sl.v6360 c i hc2 M2 M3 M5 M6 f2 f3 f5 f6
    | 7 => runTail.sl.v7927 c i hc2 M2 M3 M5 M6 f2 f3 f5 f6
  mix := fun
    | 0 => runTail.sl.v9184 c i hc2 M2 M3 M5 M6 f2 f3 f5 f6
    | 1 => runTail.sl.v9198 c i hc2 M2 M3 M5 M6 f2 f3 f5 f6
    | 2 => runTail.sl.v9444 c i hc2 M2 M3 M5 M6 f2 f3 f5 f6
    | 3 => runTail.sl.v9458 c i hc2 M2 M3 M5 M6 f2 f3 f5 f6
    | 4 => runTail.sl.v9704 c i hc2 M2 M3 M5 M6 f2 f3 f5 f6
    | 5 => runTail.sl.v9718 c i hc2 M2 M3 M5 M6 f2 f3 f5 f6
    | 6 => runTail.sl.v9962 c i hc2 M2 M3 M5 M6 f2 f3 f5 f6
    | 7 => runTail.sl.v9976 c i hc2 M2 M3 M5 M6 f2 f3 f5 f6
  l4 := fun
    | 0 => runTail.sl.v9190 c i hc2 M2 M3 M5 M6 M10 f2 f3 f5 f6
    | 1 => runTail.sl.v9204 c i hc2 M2 M3 M5 M6 M10 f2 f3 f5 f6
    | 2 => runTail.sl.v9450 c i hc2 M2 M3 M5 M6 M10 f2 f3 f5 f6
    | 3 => runTail.sl.v9464 c i hc2 M2 M3 M5 M6 M10 f2 f3 f5 f6
    | 4 => runTail.sl.v9710 c i hc2 M2 M3 M5 M6 M10 f2 f3 f5 f6
    | 5 => runTail.sl.v9724 c i hc2 M2 M3 M5 M6 M10 f2 f3 f5 f6
    | 6 => runTail.sl.v9968 c i hc2 M2 M3 M5 M6 M10 f2 f3 f5 f6
    | 7 => runTail.sl.v9982 c i hc2 M2 M3 M5 M6 M10 f2 f3 f5 f6
  wt := fun
    | 0 => runTail.sl.H11_1
    | 1 => runTail.sl.H11_3 c i hc2 M2 M3 M5 M6 M10 f2 f3 f5 f6
    | 2 => runTail.sl.H11_5 c i hc2 M2 M3 M5 M6 M10 f2 f3 f5 f6
    | 3 => runTail.sl.H11_7 c i hc2 M2 M3 M5 M6 M10 f2 f3 f5 f6
    | 4 => runTail.sl.H11_9 c i hc2 M2 M3 M5 M6 M10 f2 f3 f5 f6

theorem good_STail : Env.S (envTail c i hc2 M2 M3 M4 M5 M6 M7 M10 M11 f2 f3 f4 f5 f6 f7) = SS false fun h => mm (all M3 f3 h) (all M2 f2 h) (BitVec.ofNat 32 h.val) :=
  rfl

theorem good_KTail : Env.K (envTail c i hc2 M2 M3 M4 M5 M6 M7 M10 M11 f2 f3 f4 f5 f6 f7) = XX false k0_pay5 (Env.ksc (envTail c i hc2 M2 M3 M4 M5 M6 M7 M10 M11 f2 f3 f4 f5 f6 f7)) :=
  rfl

theorem good_QTail : Env.Q (envTail c i hc2 M2 M3 M4 M5 M6 M7 M10 M11 f2 f3 f4 f5 f6 f7) = XX false k0_pay5 fun h => mulf (Env.qsc (envTail c i hc2 M2 M3 M4 M5 M6 M7 M10 M11 f2 f3 f4 f5 f6 f7) h) (broadcast S1x1024 (Named.named κ "qscale" 0x3DE995B3#32)) :=
  rfl

theorem good_LTail : runTail.sl.H10_144 (F := Ideal) c i hc2 M2 M3 M5 M6 f2 f3 f5 f6 =
    keys.map (piece (runTail.sl.v362 c M2 M3 f2 f3) (runTail.sl.v368 c i hc2 M6 f6) (runTail.sl.v365 c i hc2 M5 f5) 0#32) :=
  rfl

theorem good_bigTail : ∀ e, Env.big (envTail c i hc2 M2 M3 M4 M5 M6 M7 M10 M11 f2 f3 f4 f5 f6 f7) e = m4 (runTail.sl.v362 c M2 M3 f2 f3) (runTail.sl.v368 c i hc2 M6 f6) (runTail.sl.v365 c i hc2 M5 f5) 0#32 e :=
  fun | 0 => rfl | 1 => rfl | 2 => rfl | 3 => rfl | 4 => rfl | 5 => rfl | 6 => rfl | 7 => rfl

theorem good_mixATail : ∀ n : Fin 4, Env.mix (envTail c i hc2 M2 M3 M4 M5 M6 M7 M10 M11 f2 f3 f4 f5 f6 f7) (evn n) =
    XX false (extractStridedSlice S1x128 ![0, n.val * 256] k0_pay5 (sl_q n)) (Env.mA1 (envTail c i hc2 M2 M3 M4 M5 M6 M7 M10 M11 f2 f3 f4 f5 f6 f7) n) :=
  fun | 0 => rfl | 1 => rfl | 2 => rfl | 3 => rfl

theorem good_mixBTail : ∀ n : Fin 4, Env.mix (envTail c i hc2 M2 M3 M4 M5 M6 M7 M10 M11 f2 f3 f4 f5 f6 f7) (odd n) =
    XX false (extractStridedSlice S1x128 ![0, n.val * 256 + 128] k0_pay5 (sl_q' n)) (Env.mB1 (envTail c i hc2 M2 M3 M4 M5 M6 M7 M10 M11 f2 f3 f4 f5 f6 f7) n) :=
  fun | 0 => rfl | 1 => rfl | 2 => rfl | 3 => rfl

theorem good_l4Tail : ∀ e, Env.l4 (envTail c i hc2 M2 M3 M4 M5 M6 M7 M10 M11 f2 f3 f4 f5 f6 f7) e = Env.sum (envTail c i hc2 M2 M3 M4 M5 M6 M7 M10 M11 f2 f3 f4 f5 f6 f7) e (Env.mix (envTail c i hc2 M2 M3 M4 M5 M6 M7 M10 M11 f2 f3 f4 f5 f6 f7) e) :=
  fun | 0 => rfl | 1 => rfl | 2 => rfl | 3 => rfl | 4 => rfl | 5 => rfl | 6 => rfl | 7 => rfl

theorem good_wtTail : ∀ n : Fin 4, Env.wt (envTail c i hc2 M2 M3 M4 M5 M6 M7 M10 M11 f2 f3 f4 f5 f6 f7) n.succ = Env.exP (envTail c i hc2 M2 M3 M4 M5 M6 M7 M10 M11 f2 f3 f4 f5 f6 f7) (odd n) (Env.mix (envTail c i hc2 M2 M3 M4 M5 M6 M7 M10 M11 f2 f3 f4 f5 f6 f7) (odd n)) :: Env.exP (envTail c i hc2 M2 M3 M4 M5 M6 M7 M10 M11 f2 f3 f4 f5 f6 f7) (evn n) (Env.mix (envTail c i hc2 M2 M3 M4 M5 M6 M7 M10 M11 f2 f3 f4 f5 f6 f7) (evn n)) ::
    Env.wt (envTail c i hc2 M2 M3 M4 M5 M6 M7 M10 M11 f2 f3 f4 f5 f6 f7) n.castSucc :=
  fun | 0 => rfl | 1 => rfl | 2 => rfl | 3 => rfl

include hc2 in
theorem word_zero : 0#32 = BitVec.ofNat 32 ((i 0).val % 4) := by
  have H : ∀ x : Fin 5, Scalar.cmpi .ne (Scalar.extui (Scalar.cmpi .eq (BitVec.ofNat 32 x.val) 4#32) : BitVec 32) 0#32 = 1#1 →
      0#32 = BitVec.ofNat 32 (x.val % 4) := by decide
  exact H ⟨(i 0).val, (i 0).isLt⟩ hc2

theorem goodTail : Env.Good (envTail c i hc2 M2 M3 M4 M5 M6 M7 M10 M11 f2 f3 f4 f5 f6 f7) where
  w := word_zero i hc2
  S := good_STail ..
  K := good_KTail ..
  Q := good_QTail ..
  L10 := good_LTail ..
  big := fun _ => good_bigTail ..
  mixA := fun _ => good_mixATail ..
  mixB := fun _ => good_mixBTail ..
  l4 := fun _ => good_l4Tail ..
  wt0 := rfl
  wt := fun _ => good_wtTail ..

end Cert.KernelIdeal.Tile

end
-- ==== Proof.TailOut.lean ====
/- The stores of the output tiles on a step of two heads. -/
module

public import proofs.«01_k».proof.Proof.TailEnv

@[expose] public section

noncomputable section

namespace Cert.KernelIdeal.Tile

open Cert.KernelIdeal Cert.KernelIdeal.Gen Cert.KernelIdeal.Hand
open Idealize.ShloMosaic

variable (c : Dev nD) (i : grid0.Coords) (hc2 : k0_cond2 i = 1#1)
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (M10 : Memref sig .tc .vmem S256x1024 .f32) (M11 : Memref sig .tc .vmem S256x1024 .bf16)
  (f2 : Bf (F := Ideal) c M2) (f3 : Bf (F := Ideal) c M3) (f4 : Bf (F := Ideal) c M4) (f5 : Bf (F := Ideal) c M5)
  (f6 : Bf (F := Ideal) c M6) (f7 : Bf (F := Ideal) c M7)

theorem runTail8_1 : Outs (envTail c i hc2 M2 M3 M4 M5 M6 M7 M10 M11 f2 f3 f4 f5 f6 f7) (runTail.sl.H8_1 (F := Ideal) c i hc2 M2 M3 M4 M5 M6 M7 M10 M11 f2 f3 f4 f5 f6 f7) [(0, 0)] :=
  .cons rfl .nil

theorem runTail8_2 : Outs (envTail c i hc2 M2 M3 M4 M5 M6 M7 M10 M11 f2 f3 f4 f5 f6 f7) (runTail.sl.H8_2 (F := Ideal) c i hc2 M2 M3 M4 M5 M6 M7 M10 M11 f2 f3 f4 f5 f6 f7) [(1, 0), (0, 0)] :=
  .cons rfl (runTail8_1 c i hc2 M2 M3 M4 M5 M6 M7 M10 M11 f2 f3 f4 f5 f6 f7)

theorem runTail8_3 : Outs (envTail c i hc2 M2 M3 M4 M5 M6 M7 M10 M11 f2 f3 f4 f5 f6 f7) (runTail.sl.H8_3 (F := Ideal) c i hc2 M2 M3 M4 M5 M6 M7 M10 M11 f2 f3 f4 f5 f6 f7) [(0, 1), (1, 0), (0, 0)] :=
  .cons rfl (runTail8_2 c i hc2 M2 M3 M4 M5 M6 M7 M10 M11 f2 f3 f4 f5 f6 f7)

theorem runTail8_4 : Outs (envTail c i hc2 M2 M3 M4 M5 M6 M7 M10 M11 f2 f3 f4 f5 f6 f7) (runTail.sl.H8_4 (F := Ideal) c i hc2 M2 M3 M4 M5 M6 M7 M10 M11 f2 f3 f4 f5 f6 f7) [(1, 1), (0, 1), (1, 0), (0, 0)] :=
  .cons rfl (runTail8_3 c i hc2 M2 M3 M4 M5 M6 M7 M10 M11 f2 f3 f4 f5 f6 f7)

theorem runTail8_5 : Outs (envTail c i hc2 M2 M3 M4 M5 M6 M7 M10 M11 f2 f3 f4 f5 f6 f7) (runTail.sl.H8_5 (F := Ideal) c i hc2 M2 M3 M4 M5 M6 M7 M10 M11 f2 f3 f4 f5 f6 f7) [(0, 2), (1, 1), (0, 1), (1, 0), (0, 0)] :=
  .cons rfl (runTail8_4 c i hc2 M2 M3 M4 M5 M6 M7 M10 M11 f2 f3 f4 f5 f6 f7)

theorem runTail8_6 : Outs (envTail c i hc2 M2 M3 M4 M5 M6 M7 M10 M11 f2 f3 f4 f5 f6 f7) (runTail.sl.H8_6 (F := Ideal) c i hc2 M2 M3 M4 M5 M6 M7 M10 M11 f2 f3 f4 f5 f6 f7) [(1, 2), (0, 2), (1, 1), (0, 1), (1, 0), (0, 0)] :=
  .cons rfl (runTail8_5 c i hc2 M2 M3 M4 M5 M6 M7 M10 M11 f2 f3 f4 f5 f6 f7)

end Cert.KernelIdeal.Tile

end
-- ==== Proof.TailLse.lean ====
/- The stores of the tiles of logarithms on a step of two heads. -/
module

public import proofs.«01_k».proof.Proof.TailEnv

@[expose] public section

noncomputable section

namespace Cert.KernelIdeal.Tile

open Cert.KernelIdeal Cert.KernelIdeal.Gen Cert.KernelIdeal.Hand
open Idealize.ShloMosaic

variable (c : Dev nD) (i : grid0.Coords) (hc2 : k0_cond2 i = 1#1)
  (M2 : Memref sig .tc .vmem S1x4x160x1024 .fp8e4m3) (M3 : Memref sig .tc .vmem S1x4x160x1024 .fp8e4m3)
  (M4 : Memref sig .tc .vmem S1x4x160x1024 .fp8e4m3) (M5 : Memref sig .tc .vmem S4x2x1024 .f32)
  (M6 : Memref sig .tc .vmem S4x2x1024 .f32) (M7 : Memref sig .tc .vmem S4x2x1024 .f32)
  (M10 : Memref sig .tc .vmem S256x1024 .f32) (M11 : Memref sig .tc .vmem S256x1024 .bf16)
  (f2 : Bf (F := Ideal) c M2) (f3 : Bf (F := Ideal) c M3) (f4 : Bf (F := Ideal) c M4) (f5 : Bf (F := Ideal) c M5)
  (f6 : Bf (F := Ideal) c M6) (f7 : Bf (F := Ideal) c M7)

theorem runTail9_1 : Lses (envTail c i hc2 M2 M3 M4 M5 M6 M7 M10 M11 f2 f3 f4 f5 f6 f7) (runTail.sl.H9_1 (F := Ideal) c i hc2 M2 M3 M5 M6 M10 f2 f3 f5 f6) [(0, 0)] :=
  .cons rfl .nil

theorem runTail9_2 : Lses (envTail c i hc2 M2 M3 M4 M5 M6 M7 M10 M11 f2 f3 f4 f5 f6 f7) (runTail.sl.H9_2 (F := Ideal) c i hc2 M2 M3 M5 M6 M10 f2 f3 f5 f6) [(1, 0), (0, 0)] :=
  .cons rfl (runTail9_1 c i hc2 M2 M3 M4 M5 M6 M7 M10 M11 f2 f3 f4 f5 f6 f7)

theorem runTail9_3 : Lses (envTail c i hc2 M2 M3 M4 M5 M6 M7 M10 M11 f2 f3 f4 f5 f6 f7) (runTail.sl.H9_3 (F := Ideal) c i hc2 M2 M3 M5 M6 M10 f2 f3 f5 f6) [(0, 1), (1, 0), (0, 0)] :=
  .cons rfl (runTail9_2 c i hc2 M2 M3 M4 M5 M6 M7 M10 M11 f2 f3 f4 f5 f6 f7)

theorem runTail9_4 : Lses (envTail c i hc2 M2 M3 M4 M5 M6 M7 M10 M11 f2 f3 f4 f5 f6 f7) (runTail.sl.H9_4 (F := Ideal) c i hc2 M2 M3 M5 M6 M10 f2 f3 f5 f6) [(1, 1), (0, 1), (1, 0), (0, 0)] :=
  .cons rfl (runTail9_3 c i hc2 M2 M3 M4 M5 M6 M7 M10 M11 f2 f3 f4 f5 f6 f7)

theorem runTail9_5 : Lses (envTail c i hc2 M2 M3 M4 M5 M6 M7 M10 M11 f2 f3 f4 f5 f6 f7) (runTail.sl.H9_5 (F := Ideal) c i hc2 M2 M3 M5 M6 M10 f2 f3 f5 f6) [(0, 2), (1, 1), (0, 1), (1, 0), (0, 0)] :=
  .cons rfl (runTail9_4 c i hc2 M2 M3 M4 M5 M6 M7 M10 M11 f2 f3 f4 f5 f6 f7)

theorem runTail9_6 : Lses (envTail c i hc2 M2 M3 M4 M5 M6 M7 M10 M11 f2 f3 f4 f5 f6 f7) (runTail.sl.H9_6 (F := Ideal) c i hc2 M2 M3 M5 M6 M10 f2 f3 f5 f6) [(1, 2), (0, 2), (1, 1), (0, 1), (1, 0), (0, 0)] :=
  .cons rfl (runTail9_5 c i hc2 M2 M3 M4 M5 M6 M7 M10 M11 f2 f3 f4 f5 f6 f7)

end Cert.KernelIdeal.Tile

end
-- ==== Proof.Runs.lean ====
/- What a step of the attention kernel leaves in the results' buffers, as lists of tiles. -/
module

public import proofs.«01_k».proof.Proof.FullOut
public import proofs.«01_k».proof.Proof.FullLse
public import proofs.«01_k».proof.Proof.TailOut
public import proofs.«01_k».proof.Proof.TailLse

@[expose] public section

noncomputable section

namespace Cert.KernelIdeal.Tile

open Cert.KernelIdeal Cert.KernelIdeal.Gen Cert.KernelIdeal.Hand
open Idealize.ShloMosaic

/-- The tiles of a step of four heads, the last first. -/
def keysFull : List (Fin 4 × Fin 4) :=
  [(3, 3), (2, 3), (1, 3), (0, 3), (3, 2), (2, 2), (1, 2), (0, 2), (3, 1), (2, 1), (1, 1), (0, 1), (3, 0), (2, 0), (1, 0), (0, 0)]
/-- … and of the step of two. -/
def keysTail : List (Fin 4 × Fin 4) := [(1, 3), (0, 3), (1, 2), (0, 2), (1, 1), (0, 1), (1, 0), (0, 0)]

theorem mem_keysFull : ∀ h n, (h, n) ∈ keysFull := by decide
theorem mem_keysTail : ∀ h : Fin 4, h.val < 2 → ∀ n, (h, n) ∈ keysTail := by decide

variable (c : Dev nD) (i : grid0.Coords)
    (M2 : Memref sig .tc .vmem S1x4x160x1024 .fp8e4m3) (h2 : M2.IsWhole) (M3 : Memref sig .tc .vmem S1x4x160x1024 .fp8e4m3) (h3 : M3.IsWhole)
    (M4 : Memref sig .tc .vmem S1x4x160x1024 .fp8e4m3) (h4 : M4.IsWhole) (M5 : Memref sig .tc .vmem S4x2x1024 .f32) (h5 : M5.IsWhole)
    (M6 : Memref sig .tc .vmem S4x2x1024 .f32) (h6 : M6.IsWhole) (M7 : Memref sig .tc .vmem S4x2x1024 .f32) (h7 : M7.IsWhole)
    (M8 : Memref sig .tc .vmem S1x640x1024 .bf16) (h8 : M8.IsWhole) (M9 : Memref sig .tc .vmem S4x2x1024 .f32) (h9 : M9.IsWhole)
    (M10 : Memref sig .tc .vmem S256x1024 .f32) (h10 : M10.IsWhole) (M11 : Memref sig .tc .vmem S256x1024 .bf16) (h11 : M11.IsWhole)
    (f2 : Bf (F := Ideal) c M2) (f3 : Bf (F := Ideal) c M3) (f4 : Bf (F := Ideal) c M4) (f5 : Bf (F := Ideal) c M5)
    (f6 : Bf (F := Ideal) c M6) (f7 : Bf (F := Ideal) c M7) (f8 : Bf (F := Ideal) c M8) (f9 : Bf (F := Ideal) c M9)

theorem full_tiles (hc : k0_cond1 i = 1#1) (hc2 : ¬ (k0_cond2 i = 1#1)) : ∃ g L8 L9,
    (runFull c i hc hc2 M2 h2 M3 h3 M4 h4 M5 h5 M6 h6 M7 h7 M8 h8 M9 h9 M10 h10 M11 h11 f2 f3 f4 f5 f6 f7 f9).1
      = (M8.view.writes (Elt Ideal) g L8, M9.view.writes (Elt Ideal) f9 L9)
    ∧ Outs (envFull c i hc M2 M3 M4 M5 M6 M7 M10 M11 f2 f3 f4 f5 f6 f7) L8 keysFull ∧ Lses (envFull c i hc M2 M3 M4 M5 M6 M7 M10 M11 f2 f3 f4 f5 f6 f7) L9 keysFull :=
  ⟨M8.view.junk, _, _, rfl, runFull8_16 c i hc M2 M3 M4 M5 M6 M7 M10 M11 f2 f3 f4 f5 f6 f7,
    .cons rfl (runFull9_15 c i hc M2 M3 M4 M5 M6 M7 M10 M11 f2 f3 f4 f5 f6 f7)⟩

theorem tail_tiles (hc : ¬ (k0_cond1 i = 1#1)) (hc2 : k0_cond2 i = 1#1) : ∃ g L8 L9,
    (runTail c i hc hc2 M2 h2 M3 h3 M4 h4 M5 h5 M6 h6 M7 h7 M8 h8 M9 h9 M10 h10 M11 h11 f2 f3 f4 f5 f6 f7 f8 f9).1
      = (M8.view.writes (Elt Ideal) g L8, M9.view.writes (Elt Ideal) f9 L9)
    ∧ Outs (envTail c i hc2 M2 M3 M4 M5 M6 M7 M10 M11 f2 f3 f4 f5 f6 f7) L8 keysTail ∧ Lses (envTail c i hc2 M2 M3 M4 M5 M6 M7 M10 M11 f2 f3 f4 f5 f6 f7) L9 keysTail :=
  ⟨f8, _, _, rfl, .cons rfl (.cons rfl
      (runTail8_6 c i hc2 M2 M3 M4 M5 M6 M7 M10 M11 f2 f3 f4 f5 f6 f7)),
    .cons rfl (.cons rfl (runTail9_6 c i hc2 M2 M3 M4 M5 M6 M7 M10 M11 f2 f3 f4 f5 f6 f7))⟩

end Cert.KernelIdeal.Tile

end
-- ==== Proof.Left.lean ====
/- What a step of the attention kernel leaves in the results' buffers, as functions of the kernel's arguments. -/
module

public import proofs.«01_k».proof.Proof.Blocks
public import proofs.«01_k».proof.Proof.Read
public import proofs.«01_k».proof.Proof.Runs

@[expose] public section

noncomputable section

namespace Cert.KernelIdeal.Tile

open Cert.KernelIdeal Cert.KernelIdeal.Gen Cert.KernelIdeal.Hand
open Idealize.ShloMosaic Idealize.ShloMosaic.TcCoe

/-- The first coordinate of a step: its group of four heads. -/
theorem coord0 : ∀ t : Fin cfg0.N, (grid0.coords t 0).val = t.val / 2 := by decide +kernel

variable (m : (ℓ : Loc nD τ sig) → Buf (Elt Ideal) ℓ) (c : Dev nD)

/-- The joint softmax's output and its logarithm, as functions of the arguments: codes of the queries, the keys and the values, and
    their scales. -/
def wantO (a0 a1 a2 : S2x1024x18x160.Idx → EReal) (a3 a4 a5 : S2x1024x18.Idx → EReal) (b : Fin 2) (H : Fin 18) (d : Fin 160) (q : Fin 1024) : EReal :=
  goalO H.val (codesOf a0 b H) (codesOf a1 b H) (scalesOf a3 b H) (scalesOf a4 b H) (scalesOf a5 b H) (codesOf a2 b H d) q
def wantL (a0 a1 : S2x1024x18x160.Idx → EReal) (a3 a4 : S2x1024x18.Idx → EReal) (b : Fin 2) (H : Fin 18) (q : Fin 1024) : EReal :=
  goalL H.val (codesOf a0 b H) (codesOf a1 b H) (scalesOf a3 b H) (scalesOf a4 b H) q

theorem left_out (t : Fin cfg0.N) (Y7 X6 X7) (hL : Left m c t Y7 X6 X7) (h : Fin 4) (hh : 4 * (t.val / 2) + h.val < 18)
    (d : Fin 160) (q : Fin 1024) :
    (X6 : S1x640x1024.Idx → EReal) (ix3 0 ⟨h.val * 160 + d.val, by omega⟩ q)
      = wantO (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (bat t) (hd t h hh) d q := by
  obtain ⟨f2, f3, f4, f5, f6, f7, f8, f9, e2, e3, e4, e5, e6, e7, e9, rfl, rfl⟩ := hL
  have hb : (⟨(grid0.coords t 1).val, (grid0.coords t 1).isLt⟩ : Fin 2) = bat t := Fin.ext (coord1 t)
  have r2 : rowC (c := c) h (st0_0 t) f2 = codesOf (m ((c : Thread nD τ).loc main_arg0)) (bat t) (hd t h hh) := by
    funext x k; exact holds0 m c t _ e2 h hh x k
  have r3 : rowC (c := c) h (st0_1 t) f3 = codesOf (m ((c : Thread nD τ).loc main_arg1)) (bat t) (hd t h hh) := by
    funext x k; exact holds1 m c t _ e3 h hh x k
  have r4 : rowC (c := c) h (st0_2 t) f4 = codesOf (m ((c : Thread nD τ).loc main_arg2)) (bat t) (hd t h hh) := by
    funext x k; exact holds2 m c t _ e4 h hh x k
  have r5 : rowS (c := c) (grid0.coords t) h (st0_3 t) f5 = scalesOf (m ((c : Thread nD τ).loc main_arg3)) (bat t) (hd t h hh) := by
    funext k; unfold rowS; rw [hb]; exact holds3 m c t _ e5 h hh _ k
  have r6 : rowS (c := c) (grid0.coords t) h (st0_4 t) f6 = scalesOf (m ((c : Thread nD τ).loc main_arg4)) (bat t) (hd t h hh) := by
    funext k; unfold rowS; rw [hb]; exact holds4 m c t _ e6 h hh _ k
  have r7 : rowS (c := c) (grid0.coords t) h (st0_5 t) f7 = scalesOf (m ((c : Thread nD τ).loc main_arg5)) (bat t) (hd t h hh) := by
    funext k; unfold rowS; rw [hb]; exact holds5 m c t _ e7 h hh _ k
  have hH : (hd t h hh).val % 16 = 4 * ((grid0.coords t 0).val % 4) + h.val := by
    rw [coord0]; change (4 * (t.val / 2) + h.val) % 16 = 4 * (t.val / 2 % 4) + h.val; omega
  unfold wantO
  rw [← r2, ← r3, ← r4, ← r5, ← r6, ← r7]
  unfold outs
  by_cases hc : k0_cond1 (grid0.coords t) = 1#1
  · rw [dif_pos hc]
    obtain ⟨g, L8, L9, e, h8, _⟩ := full_tiles c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) f2 f3 f4 f5 f6 f7 f9 hc (not_tail t hc)
    refine (congrArg (fun p : Bf (F := Ideal) c (st0_6 t) × Bf (F := Ideal) c (st0_7 t) => (st0_6 t).view.read (Elt Ideal) p.1 (ix3 0 ⟨h.val * 160 + d.val, by omega⟩ q)) e).trans ?_
    exact outs_read (goodFull c (grid0.coords t) hc (st0_0 t) (st0_1 t) (st0_2 t) (st0_3 t) (st0_4 t) (st0_5 t) (Memref.whole cc0_scratch0) (Memref.whole cc0_scratch1) f2 f3 f4 f5 f6 f7) (.inl rfl) h8 _ _ _ hH d q fun n => mem_keysFull _ n
  · rw [dif_neg hc]
    have ht : ¬ t.val < 8 := fun h => hc ((full_iff t).mpr h)
    obtain ⟨g, L8, L9, e, h8, _⟩ := tail_tiles c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) f2 f3 f4 f5 f6 f7 f8 f9 hc (tail_of t hc)
    refine (congrArg (fun p : Bf (F := Ideal) c (st0_6 t) × Bf (F := Ideal) c (st0_7 t) => (st0_6 t).view.read (Elt Ideal) p.1 (ix3 0 ⟨h.val * 160 + d.val, by omega⟩ q)) e).trans ?_
    exact outs_read (goodTail c (grid0.coords t) (tail_of t hc) (st0_0 t) (st0_1 t) (st0_2 t) (st0_3 t) (st0_4 t) (st0_5 t) (Memref.whole cc0_scratch0) (Memref.whole cc0_scratch1) f2 f3 f4 f5 f6 f7) (.inr (by omega)) h8 _ _ _ hH d q fun n => mem_keysTail _ (by omega) n

theorem left_lse (t : Fin cfg0.N) (Y7 X6 X7) (hL : Left m c t Y7 X6 X7) (h : Fin 4) (hh : 4 * (t.val / 2) + h.val < 18)
    (q : Fin 1024) :
    ((X7 : S4x2x1024.Idx → EReal) (ix3 h (bat t) q)
      = wantL (m ((c : Thread nD τ).loc main_arg0)) (m ((c : Thread nD τ).loc main_arg1))
          (m ((c : Thread nD τ).loc main_arg3)) (m ((c : Thread nD τ).loc main_arg4)) (bat t) (hd t h hh) q)
    ∧ ∀ b, b ≠ bat t → (X7 : S4x2x1024.Idx → EReal) (ix3 h b q) = (Y7 : S4x2x1024.Idx → EReal) (ix3 h b q) := by
  obtain ⟨f2, f3, f4, f5, f6, f7, f8, f9, e2, e3, e4, e5, e6, e7, rfl, rfl, rfl⟩ := hL
  have hb : (⟨(grid0.coords t 1).val, (grid0.coords t 1).isLt⟩ : Fin 2) = bat t := Fin.ext (coord1 t)
  have r2 : rowC (c := c) h (st0_0 t) f2 = codesOf (m ((c : Thread nD τ).loc main_arg0)) (bat t) (hd t h hh) := by
    funext x k; exact holds0 m c t _ e2 h hh x k
  have r3 : rowC (c := c) h (st0_1 t) f3 = codesOf (m ((c : Thread nD τ).loc main_arg1)) (bat t) (hd t h hh) := by
    funext x k; exact holds1 m c t _ e3 h hh x k
  have r5 : rowS (c := c) (grid0.coords t) h (st0_3 t) f5 = scalesOf (m ((c : Thread nD τ).loc main_arg3)) (bat t) (hd t h hh) := by
    funext k; unfold rowS; rw [hb]; exact holds3 m c t _ e5 h hh _ k
  have r6 : rowS (c := c) (grid0.coords t) h (st0_4 t) f6 = scalesOf (m ((c : Thread nD τ).loc main_arg4)) (bat t) (hd t h hh) := by
    funext k; unfold rowS; rw [hb]; exact holds4 m c t _ e6 h hh _ k
  have hH : (hd t h hh).val % 16 = 4 * ((grid0.coords t 0).val % 4) + h.val := by
    rw [coord0]; change (4 * (t.val / 2) + h.val) % 16 = 4 * (t.val / 2 % 4) + h.val; omega
  have hne : ∀ b : Fin 2, b ≠ bat t → b.val ≠ (grid0.coords t 1).val := fun b hb' e => hb' (Fin.ext (e.trans (coord1 t)))
  unfold wantL
  rw [← r2, ← r3, ← r5, ← r6]
  unfold outs
  by_cases hc : k0_cond1 (grid0.coords t) = 1#1
  · rw [dif_pos hc]
    obtain ⟨g, L8, L9, e, _, h9⟩ := full_tiles c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) f2 f3 f4 f5 f6 f7 f9 hc (not_tail t hc)
    refine ⟨?_, fun b hb' => ?_⟩
    · refine (congrArg (fun p : Bf (F := Ideal) c (st0_6 t) × Bf (F := Ideal) c (st0_7 t) => (st0_7 t).view.read (Elt Ideal) p.2 (ix3 h (bat t) q)) e).trans ?_
      rw [← hb]
      exact lses_read (goodFull c (grid0.coords t) hc (st0_0 t) (st0_1 t) (st0_2 t) (st0_3 t) (st0_4 t) (st0_5 t) (Memref.whole cc0_scratch0) (Memref.whole cc0_scratch1) f2 f3 f4 f5 f6 f7) (.inl rfl) h9 _ _ _ hH q fun n => mem_keysFull _ n
    · refine (congrArg (fun p : Bf (F := Ideal) c (st0_6 t) × Bf (F := Ideal) c (st0_7 t) => (st0_7 t).view.read (Elt Ideal) p.2 (ix3 h b q)) e).trans ?_
      exact lses_keep h9 _ _ b (hne b hb') q
  · rw [dif_neg hc]
    have ht : ¬ t.val < 8 := fun h => hc ((full_iff t).mpr h)
    obtain ⟨g, L8, L9, e, _, h9⟩ := tail_tiles c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) f2 f3 f4 f5 f6 f7 f8 f9 hc (tail_of t hc)
    refine ⟨?_, fun b hb' => ?_⟩
    · refine (congrArg (fun p : Bf (F := Ideal) c (st0_6 t) × Bf (F := Ideal) c (st0_7 t) => (st0_7 t).view.read (Elt Ideal) p.2 (ix3 h (bat t) q)) e).trans ?_
      rw [← hb]
      exact lses_read (goodTail c (grid0.coords t) (tail_of t hc) (st0_0 t) (st0_1 t) (st0_2 t) (st0_3 t) (st0_4 t) (st0_5 t) (Memref.whole cc0_scratch0) (Memref.whole cc0_scratch1) f2 f3 f4 f5 f6 f7) (.inr (by omega)) h9 _ _ _ hH q fun n => mem_keysTail _ (by omega) n
    · refine (congrArg (fun p : Bf (F := Ideal) c (st0_6 t) × Bf (F := Ideal) c (st0_7 t) => (st0_7 t).view.read (Elt Ideal) p.2 (ix3 h b q)) e).trans ?_
      exact lses_keep h9 _ _ b (hne b hb') q

end Cert.KernelIdeal.Tile

end
-- ==== Proof.Arrays.lean ====
/- What the kernel's result arrays hold after a run, as functions of its arguments. -/
module

public import Idealize.ShloMosaic.Lib.Pipeline.ArrRel
public import proofs.«01_k».proof.Proof.Left

@[expose] public section

noncomputable section

namespace Cert.KernelIdeal.Tile

open Cert.KernelIdeal Cert.KernelIdeal.Gen Cert.KernelIdeal.Hand
open Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg) (c : Dev nD)

/-! ## The windows' blocks of the result arrays -/

theorem points : cfg0.N = 10 := by decide +kernel

theorem xs6 : ∀ (t : Fin cfg0.N) (a : Fin 3), win0_6.xsize (grid0.coords t) a = (![1, if t.val < 8 then 640 else 320, 1024] : Fin 3 → ℕ) a := by
  decide +kernel
theorem idx6 : ∀ (t : Fin cfg0.N) (a : Fin 3), win0_6.index t a = (![t.val % 2, t.val / 2, 0] : Fin 3 → ℕ) a := by
  decide +kernel
theorem xs7 : ∀ (t : Fin cfg0.N) (a : Fin 3), win0_7.xsize (grid0.coords t) a = (![if t.val < 8 then 4 else 2, 2, 1024] : Fin 3 → ℕ) a := by
  decide +kernel
theorem idx7 : ∀ (t : Fin cfg0.N) (a : Fin 3), win0_7.index t a = (![t.val / 2, 0, 0] : Fin 3 → ℕ) a := by
  decide +kernel

theorem sep6 : ∀ t t' : Fin cfg0.N, win0_6.index t = win0_6.index t' → t = t' := by decide +kernel
theorem sep7 : ∀ t t' : Fin cfg0.N, t.val % 2 = 1 → t'.val % 2 = 1 → win0_7.index t = win0_7.index t' → t = t' := by decide +kernel

theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (sep6 t t' h)
theorem apart7 : ∀ t t' : Fin cfg0.N, (cfg0.win 7).flush t = true → (cfg0.win 7).flush t' = true → t ≠ t' →
    Disjoint ((cfg0.win 7).blk t).view.set ((cfg0.win 7).blk t').view.set :=
  fun t t' h h' hne => (cfg0.win 7).disjoint_blk fun e => hne (sep7 t t' ((flush0_7 t).mp h) ((flush0_7 t').mp h') e)

/-- The elements of a block of outputs that a step works on lie inside the array, and where. -/
theorem in6 (t : Fin cfg0.N) (h : Fin 4) (hh : 4 * (t.val / 2) + h.val < 18) (d : Fin 160) (q : Fin 1024) : ∀ a : Fin 3,
    ((ix3 (0 : Fin 1) ⟨h.val * 160 + d.val, by omega⟩ q : S1x640x1024.Idx) a).val < (![1, if t.val < 8 then 640 else 320, 1024] : Fin 3 → ℕ) a
  | 0 => Nat.zero_lt_one
  | 1 => show h.val * 160 + d.val < if t.val < 8 then 640 else 320 by split <;> omega
  | 2 => q.isLt
theorem pos6 (t : Fin cfg0.N) (h : Fin 4) (hh : 4 * (t.val / 2) + h.val < 18) (d : Fin 160) (q : Fin 1024) : ∀ a : Fin 3,
    (![t.val % 2, t.val / 2, 0] : Fin 3 → ℕ) a * S1x640x1024.size a
        + ((ix3 (0 : Fin 1) ⟨h.val * 160 + d.val, by omega⟩ q : S1x640x1024.Idx) a).val
      = ((ix3 (bat t) ⟨(hd t h hh).val * 160 + d.val, by omega⟩ q : S2x2880x1024.Idx) a).val
  | 0 => show t.val % 2 * 1 + 0 = t.val % 2 by omega
  | 1 => show t.val / 2 * 640 + (h.val * 160 + d.val) = (4 * (t.val / 2) + h.val) * 160 + d.val by omega
  | 2 => show 0 * 1024 + q.val = q.val by omega

/-! ## The arrays -/

variable {m c}
variable (after : (w : Fin cfg0.W) → Fin cfg0.N → (cfg0.win w).block.Idx → Elt Ideal (cfg0.win w).elt)

theorem arr_out (hA : ∀ u, (rdat m c).Leaves 6 u (after 6 u)) (t : Fin cfg0.N) (h : Fin 4) (hh : 4 * (t.val / 2) + h.val < 18)
    (d : Fin 160) (q : Fin 1024) :
    (((rdat m c).withAfter after).arrAt 6 cfg0.N : S2x2880x1024.Idx → EReal) (ix3 (bat t) ⟨(hd t h hh).val * 160 + d.val, by omega⟩ q)
      = wantO (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (bat t) (hd t h hh) d q := by
  have hm : ∀ a : Fin 3, ((ix3 (0 : Fin 1) ⟨h.val * 160 + d.val, by omega⟩ q : S1x640x1024.Idx) a).val < win0_6.xsize (grid0.coords t) a := fun a => by
    rw [xs6]; exact in6 t h hh d q a
  obtain ⟨Y, _, ha⟩ := hA t
  obtain ⟨Y7, X7, hL⟩ := (after_6 m c t _ _).mp ha
  rw [← left_out m c t _ _ _ hL h hh d q]
  refine Eq.trans ?_ (Dat.arrAt_emb_eq_flushed ((rdat m c).withAfter after) 6 apart6 t (flush0_6 t) fun a => ⟨_, hm a⟩)
  refine congrArg (((rdat m c).withAfter after).arrAt 6 cfg0.N : S2x2880x1024.Idx → EReal) (funext fun a => Fin.ext ?_)
  exact (((emb_val win0_6 t rfl (fun a => ⟨_, hm a⟩) a).trans (by rw [idx6])).trans (pos6 t h hh d q a)).symm

theorem arr_lse' (hA : ∀ u : Fin cfg0.N, u.val % 2 = 1 → (rdat m c).Leaves 7 u (after 7 u)) (t : Fin cfg0.N) (ht : t.val % 2 = 1)
    (h : Fin 4) (hh : 4 * (t.val / 2) + h.val < 18) (b : Fin 2) (q : Fin 1024) :
    (after 7 t : S4x2x1024.Idx → EReal) (ix3 h b q)
      = wantL (m ((c : Thread nD τ).loc main_arg0)) (m ((c : Thread nD τ).loc main_arg1))
          (m ((c : Thread nD τ).loc main_arg3)) (m ((c : Thread nD τ).loc main_arg4)) b (hd t h hh) q := by
  obtain ⟨Y, hY, ha⟩ := hA t ht
  obtain ⟨X6, hL⟩ := (after_7 m c t _ _).mp ha
  have h1 := left_lse m c t _ _ _ hL h hh q
  by_cases hb : b = bat t
  · rw [hb]; exact h1.1
  · refine (h1.2 b hb).trans ?_
    have ht0 : t.val ≠ 0 := by omega
    have hlt : t.val - 1 < cfg0.N := Nat.lt_of_le_of_lt (Nat.sub_le _ _) t.isLt
    have hnf : ¬ (cfg0.win 7).flush ⟨t.val - 1, hlt⟩ = true := fun hf => by
      have := (flush0_7 _).mp hf
      change (t.val - 1) % 2 = 1 at this
      omega
    obtain ⟨Y', _, ha'⟩ := ((RDat.finds_of_pos (rd := rdat m c) (w := 7) rfl ht0 Y).mp hY).resolve_left hnf
    obtain ⟨X6', hL'⟩ := (after_7 m c _ _ _).mp ha'
    have hh' : 4 * ((t.val - 1) / 2) + h.val < 18 := by omega
    have eb : bat ⟨t.val - 1, hlt⟩ = b := by
      apply Fin.ext
      change (t.val - 1) % 2 = b.val
      have : b.val ≠ t.val % 2 := fun e => hb (Fin.ext e)
      omega
    have eh : hd ⟨t.val - 1, hlt⟩ h hh' = hd t h hh := by
      apply Fin.ext
      change 4 * ((t.val - 1) / 2) + h.val = 4 * (t.val / 2) + h.val
      omega
    have h2 := (left_lse m c ⟨t.val - 1, hlt⟩ _ _ _ hL' h hh' q).1
    rw [eb, eh] at h2
    exact h2

theorem arr_lse (hA : ∀ u : Fin cfg0.N, u.val % 2 = 1 → (rdat m c).Leaves 7 u (after 7 u)) (t : Fin cfg0.N) (ht : t.val % 2 = 1)
    (h : Fin 4) (hh : 4 * (t.val / 2) + h.val < 18) (b : Fin 2) (q : Fin 1024) :
    (((rdat m c).withAfter after).arrAt 7 cfg0.N : S18x2x1024.Idx → EReal) (ix3 (hd t h hh) b q)
      = wantL (m ((c : Thread nD τ).loc main_arg0)) (m ((c : Thread nD τ).loc main_arg1))
          (m ((c : Thread nD τ).loc main_arg3)) (m ((c : Thread nD τ).loc main_arg4)) b (hd t h hh) q := by
  have hm : ∀ a : Fin 3, ((ix3 h b q : S4x2x1024.Idx) a).val < win0_7.xsize (grid0.coords t) a := fun a => by
    rw [xs7]; exact in3 t h hh b q a
  rw [← arr_lse' after hA t ht h hh b q]
  refine Eq.trans ?_ (Dat.arrAt_emb_eq_flushed ((rdat m c).withAfter after) 7 apart7 t ((flush0_7 t).mpr ht) fun a => ⟨_, hm a⟩)
  refine congrArg (((rdat m c).withAfter after).arrAt 7 cfg0.N : S18x2x1024.Idx → EReal) (funext fun a => Fin.ext ?_)
  exact (((emb_val win0_7 t rfl (fun a => ⟨_, hm a⟩) a).trans (by rw [idx7])).trans (pos3 t h hh b q a)).symm

variable (m)

/-- Every run ends with both results at the joint softmax of the three patterns, and the arguments unchanged. -/
theorem run_values : θ_run defs (onTc (τ := τ) (main (F := Ideal))) ⟨m, fun _ => 0, ρ⟩ (fun r => ∀ c : Dev nD,
      (∀ (b : Fin 2) (H : Fin 18) (d : Fin 160) (q : Fin 1024),
        (r.2.mem ((c : Thread nD τ).loc main_v6_0) : S2x2880x1024.Idx → EReal) (ix3 b ⟨H.val * 160 + d.val, by omega⟩ q)
          = wantO (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5)) b H d q)
      ∧ (∀ (b : Fin 2) (H : Fin 18) (q : Fin 1024),
        (r.2.mem ((c : Thread nD τ).loc main_v6_1) : S18x2x1024.Idx → EReal) (ix3 H b q)
          = wantL (m ((c : Thread nD τ).loc main_arg0)) (m ((c : Thread nD τ).loc main_arg1))
              (m ((c : Thread nD τ).loc main_arg3)) (m ((c : Thread nD τ).loc main_arg4)) b H q)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
    obtain ⟨after, hA, hM⟩ := h.1.exists_exact c
    refine ⟨fun b H d q => ?_, fun b H q => ?_,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩
    · have lt : 2 * (H.val / 4) + b.val < cfg0.N := by rw [points]; omega
      have hh : 4 * ((2 * (H.val / 4) + b.val) / 2) + H.val % 4 < 18 := by omega
      have eb : bat ⟨2 * (H.val / 4) + b.val, lt⟩ = b := Fin.ext (by change (2 * (H.val / 4) + b.val) % 2 = b.val; omega)
      have eh : hd ⟨2 * (H.val / 4) + b.val, lt⟩ ⟨H.val % 4, by omega⟩ hh = H :=
        Fin.ext (by change 4 * ((2 * (H.val / 4) + b.val) / 2) + H.val % 4 = H.val; omega)
      have e := arr_out (m := m) (c := c) after (fun u => hA 6 u (flush0_6 u)) ⟨2 * (H.val / 4) + b.val, lt⟩ ⟨H.val % 4, by omega⟩ hh d q
      rw [eb] at e
      simp only [eh] at e
      exact (congrFun (hM 6) _).trans e
    · have lt : 2 * (H.val / 4) + 1 < cfg0.N := by rw [points]; omega
      have hh : 4 * ((2 * (H.val / 4) + 1) / 2) + H.val % 4 < 18 := by omega
      have eh : hd ⟨2 * (H.val / 4) + 1, lt⟩ ⟨H.val % 4, by omega⟩ hh = H :=
        Fin.ext (by change 4 * ((2 * (H.val / 4) + 1) / 2) + H.val % 4 = H.val; omega)
      have e := arr_lse (m := m) (c := c) after (fun u hu => hA 7 u ((flush0_7 u).mpr hu)) ⟨2 * (H.val / 4) + 1, lt⟩
        (by change (2 * (H.val / 4) + 1) % 2 = 1; omega) ⟨H.val % 4, by omega⟩ hh b q
      rw [eh] at e
      exact (congrFun (hM 7) _).trans e) (run_main_quiescent m ρ)

end Cert.KernelIdeal.Tile

end
-- ==== Proof.Ref.lean ====
/- What the reference computes at one query: the three patterns' softmax of `Cert.Attn`. -/
module

public import proofs.«01_k».proof.Proof.Gen.ReferenceIdeal.Value
public import Idealize.ShloMosaic.Lib.Pointwise
public import Idealize.ShloMosaic.Lib.WordCmp
public import Idealize.ShloMosaic.Lib.Pipeline.ValueKit.Basic
public import proofs.«01_k».proof.Proof.Lane

@[expose] public section

noncomputable section

namespace Cert.ReferenceIdeal.Hand

open Cert.ReferenceIdeal Cert.ReferenceIdeal.Gen
open Idealize.ShloMosaic
open Cert.Attn (Pat)

/-- A mask that says `M` at a query. -/
def Says (a : IVec S36x1024x1024 1) (g : Fin 36) (q : Fin 1024) (M : Fin 1024 → Prop) [DecidablePred M] : Prop :=
  ∀ t : Fin 1024, a (ix3 g q t) = BitVec.ofBool (decide (M t))

theorem neg_inf : Ideal.ofBits .f32 4286578688#32 = ⊥ := by
  simp [Ideal.ofBits, Ideal.ieee]

theorem select_ofBool {α : Type} (p : Prop) [Decidable p] (x y : α) :
    Scalar.select (BitVec.ofBool (decide p)) x y = if p then x else y := by
  by_cases h : p <;> simp [h, Scalar.select]

theorem fold_sup {ι : Type} (s : Finset ι) (f : ι → EReal) : s.fold max ⊥ f = s.sup f := rfl

/-! ### The operations, over arrays that stay closed -/

theorem masked (a : IVec S36x1024x1024 1) (s : FVec Ideal S36x1024x1024 .f32) (m : FVec Ideal S36x1024x1 .f32)
    (g : Fin 36) (q t : Fin 1024) :
    exp (subf (select a s (broadcast S36x1024x1024 (Scalar.ofBits .f32 0xFF800000#32)))
      (broadcastTo S36x1024x1024 m broadcasts_S36x1024x1_S36x1024x1024)) (ix3 g q t)
      = Ideal.exp (Scalar.select (a (ix3 g q t)) (s (ix3 g q t)) (Ideal.ofBits .f32 4286578688#32) - m (ix3 g q 0)) := by
  pointwise []

theorem summed (e : FVec Ideal S36x1024x1024 .f32) (g : Fin 36) (q : Fin 1024) :
    shapeCast S36x1024x1 (multiReduction .add [2] S36x1024 e 0x00000000#32 reduces_S36x1024x1024_S36x1024 (.inl rfl) rfl)
      shapeCasts_S36x1024_S36x1024x1 (ix3 g q 0) = ∑ t, e (ix3 g q t) := by
  pointwise []

theorem addlog (x y : FVec Ideal S36x1024x1 .f32) (i) : addf x (log y) i = x i + Ideal.log (y i) := rfl

/-- The logarithm of a sum of exponentials as the reference spells it. -/
def laeV (x y : FVec Ideal S36x1024x1 .f32) : FVec Ideal S36x1024x1 .f32 :=
  select (cmpf .one (subf x y) (subf x y)) (addf x y)
    (addf (maximumf x y) (log1p (exp (subf (broadcast S36x1024x1 (Scalar.ofBits .f32 0x00000000#32)) (absf (subf x y))))))

theorem laeV_apply (x y : FVec Ideal S36x1024x1 .f32) (i : S36x1024x1.Idx) : laeV x y i = Cert.Attn.lae (x i) (y i) := by
  have h : laeV x y i = Scalar.select (BitVec.ofBool (decide (x i - y i ≠ x i - y i))) (x i + y i)
      (max (x i) (y i) + Ideal.log1p (Ideal.exp (Ideal.ofBits .f32 0x00000000#32 - max (x i - y i) (-(x i - y i))))) := rfl
  have z : Ideal.ofBits .f32 0x00000000#32 = 0 := by simp [Ideal.ofBits, Ideal.ieee]
  rw [h, select_ofBool, if_neg (by simp), z]
  rfl

/-! ### The pieces -/

section
variable (s : FVec Ideal S36x1024x1024 .f32) (a b c d : IVec S36x1024x1024 1) (g : Fin 36) (q : Fin 1024)
variable (M₀ M₁ M₂ : Fin 1024 → Prop) [DecidablePred M₀] [DecidablePred M₁] [DecidablePred M₂]
variable (ha : Says a g q M₀) (hb : Says b g q M₁) (hc : Says (k0_pay13 c d) g q M₂)

theorem exp_says {a : IVec S36x1024x1024 1} {M : Fin 1024 → Prop} [DecidablePred M] (ha : Says a g q M)
    (m : FVec Ideal S36x1024x1 .f32) (t : Fin 1024) :
    exp (subf (select a s (broadcast S36x1024x1024 (Scalar.ofBits .f32 0xFF800000#32)))
      (broadcastTo S36x1024x1024 m broadcasts_S36x1024x1_S36x1024x1024)) (ix3 g q t)
      = Cert.Attn.ex M (fun t => s (ix3 g q t)) (m (ix3 g q 0)) t := by
  rw [masked, ha t, select_ofBool, neg_inf]
  rfl

include ha hb hc in
theorem top : k0_pay14 s a b c d (ix3 g q 0) = Cert.Attn.top3 M₀ M₁ M₂ (fun t => s (ix3 g q t)) := by
  have e : k0_pay14 s a b c d (ix3 g q 0) = Finset.fold max (Ideal.ofBits .f32 4286578688#32) (fun t : Fin 1024 =>
      Scalar.select ((a (ix3 g q t) ||| b (ix3 g q t)) ||| k0_pay13 c d (ix3 g q t)) (s (ix3 g q t))
        (Ideal.ofBits .f32 4286578688#32)) Finset.univ := by
    unfold k0_pay14
    generalize k0_pay13 c d = cd
    pointwise []
    rfl
  rw [e, neg_inf, fold_sup]
  refine Finset.sup_congr rfl fun t _ => ?_
  rw [ha t, hb t, hc t]
  unfold Cert.Attn.msk
  by_cases h0 : M₀ t <;> by_cases h1 : M₁ t <;> by_cases h2 : M₂ t <;> simp [h0, h1, h2, Scalar.select]

/-- The largest score any of the patterns lets through. -/
def mx : EReal := Cert.Attn.top3 M₀ M₁ M₂ (fun t : Fin 1024 => s (ix3 g q t))

include ha hb hc in
theorem ex0 (t : Fin 1024) :
    k0_pay15 s a b c d (ix3 g q t) = Cert.Attn.ex M₀ (fun t => s (ix3 g q t)) (mx s g q M₀ M₁ M₂) t := by
  unfold mx
  rw [← top s a b c d g q M₀ M₁ M₂ ha hb hc]
  exact exp_says s g q ha _ t

include ha hb hc in
theorem ex1 (t : Fin 1024) :
    k0_pay18 s a b c d (ix3 g q t) = Cert.Attn.ex M₁ (fun t => s (ix3 g q t)) (mx s g q M₀ M₁ M₂) t := by
  unfold mx
  rw [← top s a b c d g q M₀ M₁ M₂ ha hb hc]
  exact exp_says s g q hb _ t

include ha hb hc in
theorem ex2 (t : Fin 1024) :
    k0_pay21 s a b c d (ix3 g q t) = Cert.Attn.ex M₂ (fun t => s (ix3 g q t)) (mx s g q M₀ M₁ M₂) t := by
  unfold mx
  rw [← top s a b c d g q M₀ M₁ M₂ ha hb hc]
  exact exp_says s g q hc _ t

include ha hb hc in
theorem tot0 : k0_pay16 s a b c d (ix3 g q 0) = Cert.Attn.tot M₀ (fun t => s (ix3 g q t)) (mx s g q M₀ M₁ M₂) :=
  (summed _ g q).trans (Finset.sum_congr rfl fun t _ => ex0 s a b c d g q M₀ M₁ M₂ ha hb hc t)

include ha hb hc in
theorem tot1 : k0_pay19 s a b c d (ix3 g q 0) = Cert.Attn.tot M₁ (fun t => s (ix3 g q t)) (mx s g q M₀ M₁ M₂) :=
  (summed _ g q).trans (Finset.sum_congr rfl fun t _ => ex1 s a b c d g q M₀ M₁ M₂ ha hb hc t)

include ha hb hc in
theorem tot2 : k0_pay22 s a b c d (ix3 g q 0) = Cert.Attn.tot M₂ (fun t => s (ix3 g q t)) (mx s g q M₀ M₁ M₂) :=
  (summed _ g q).trans (Finset.sum_congr rfl fun t _ => ex2 s a b c d g q M₀ M₁ M₂ ha hb hc t)

include ha hb hc in
theorem lse0 : k0_pay17 s a b c d (ix3 g q 0) = Cert.Attn.lse M₀ (fun t => s (ix3 g q t)) (mx s g q M₀ M₁ M₂) := by
  unfold k0_pay17
  rw [addlog, tot0 s a b c d g q M₀ M₁ M₂ ha hb hc, top s a b c d g q M₀ M₁ M₂ ha hb hc]
  rfl

include ha hb hc in
theorem lse1 : k0_pay20 s a b c d (ix3 g q 0) = Cert.Attn.lse M₁ (fun t => s (ix3 g q t)) (mx s g q M₀ M₁ M₂) := by
  unfold k0_pay20
  rw [addlog, tot1 s a b c d g q M₀ M₁ M₂ ha hb hc, top s a b c d g q M₀ M₁ M₂ ha hb hc]
  rfl

include ha hb hc in
theorem lse2 : k0_pay23 s a b c d (ix3 g q 0) = Cert.Attn.lse M₂ (fun t => s (ix3 g q t)) (mx s g q M₀ M₁ M₂) := by
  unfold k0_pay23
  rw [addlog, tot2 s a b c d g q M₀ M₁ M₂ ha hb hc, top s a b c d g q M₀ M₁ M₂ ha hb hc]
  rfl

theorem joint_eq : k0_pay30 (k0_pay25 s a b c d) (k0_pay27 s a b c d) (k0_pay28 s a b c d) (k0_pay29 s a b c d)
    (Scalar.ofBits .f32 0x00000000#32)
    = laeV (laeV (k0_pay17 s a b c d) (k0_pay20 s a b c d)) (k0_pay23 s a b c d) := by
  unfold k0_pay25 k0_pay27 k0_pay28 k0_pay29 k0_pay26 k0_pay24 k0_pay30
  generalize k0_pay17 s a b c d = x, k0_pay20 s a b c d = y, k0_pay23 s a b c d = z
  rfl

include ha hb hc in
theorem joint : k0_pay30 (k0_pay25 s a b c d) (k0_pay27 s a b c d) (k0_pay28 s a b c d) (k0_pay29 s a b c d)
    (Scalar.ofBits .f32 0x00000000#32) (ix3 g q 0) = Cert.Attn.refL M₀ M₁ M₂ (fun t => s (ix3 g q t)) := by
  rw [joint_eq, laeV_apply, laeV_apply, lse0 s a b c d g q M₀ M₁ M₂ ha hb hc, lse1 s a b c d g q M₀ M₁ M₂ ha hb hc,
    lse2 s a b c d g q M₀ M₁ M₂ ha hb hc]
  rfl

end

/-! ### The stores -/

/-- A sum to divide by: one in place of an empty sum. -/
def some' (x : EReal) : EReal := if 0 < x then x else 1

theorem exp_nonneg (x : EReal) : 0 ≤ Ideal.exp x := by
  induction x using EReal.rec with
  | bot => exact le_rfl
  | top => exact le_top
  | coe r => exact EReal.coe_nonneg.mpr (Real.exp_pos r).le

/-- Where a pattern selects no key its part is zero, whatever its weights are divided by. -/
theorem part_eq (M : Fin 1024 → Prop) [DecidablePred M] (s vs v : Fin 1024 → EReal) (m L : EReal) :
    (∑ t, Ideal.div (Cert.Attn.ex M s m t) (some' (Cert.Attn.tot M s m)) * vs t * v t) * Ideal.exp (Cert.Attn.lse M s m - L)
      = Cert.Attn.part M s vs v m L := by
  have h0 : 0 ≤ Cert.Attn.tot M s m := Finset.sum_nonneg fun t _ => exp_nonneg _
  unfold Cert.Attn.part
  by_cases h : 0 < Cert.Attn.tot M s m
  · have e : some' (Cert.Attn.tot M s m) = Cert.Attn.tot M s m := by
      unfold some'; rw [if_pos h]
    rw [e]
  · have e : Cert.Attn.tot M s m = 0 := le_antisymm (not_lt.mp h) h0
    have z : Ideal.exp (Cert.Attn.lse M s m - L) = 0 := by
      unfold Cert.Attn.lse
      rw [e, Cert.Attn.log_zero, EReal.add_bot, Cert.Attn.bot_sub, Cert.Attn.exp_bot]
    rw [z, mul_zero, mul_zero]

theorem stored (v9 : FVec Ideal S36x1024x160 .bf16) (v18 : FVec Ideal S36x1x1024 .f32)
    (v92 v94 v96 v101 v103 v105 v110 v112 v114 v126 v128 v129 v130 cst)
    (e : Fin 2) (h : Fin 18) (d : Fin 160) (q : Fin 1024) (g : Fin 36) (hg : g.val = e.val * 18 + h.val) (L : EReal)
    (hL : k0_pay30 v126 v128 v129 v130 cst (ix3 g q 0) = L) :
    k0_pay1 (k0_pay31 v9 v18 v92 v94 v96 v101 v103 v105 v110 v112 v114 v126 v128 v129 v130 cst)
      (ix3 e ⟨h.val * 160 + d.val, by omega⟩ q)
      = (∑ t, Ideal.div (v92 (ix3 g q t)) (some' (v94 (ix3 g q 0))) * v18 (ix3 g 0 t) * v9 (ix3 g t d))
          * Ideal.exp (v96 (ix3 g q 0) - L)
        + (∑ t, Ideal.div (v101 (ix3 g q t)) (some' (v103 (ix3 g q 0))) * v18 (ix3 g 0 t) * v9 (ix3 g t d))
          * Ideal.exp (v105 (ix3 g q 0) - L)
        + (∑ t, Ideal.div (v110 (ix3 g q t)) (some' (v112 (ix3 g q 0))) * v18 (ix3 g 0 t) * v9 (ix3 g t d))
          * Ideal.exp (v114 (ix3 g q 0) - L) := by
  unfold k0_pay1 k0_pay31
  generalize k0_pay30 v126 v128 v129 v130 cst = w at hL
  subst hL
  have h1 : (⟨e.val * 18 + (h.val * 160 + d.val) / 160, by omega⟩ : Fin 36) = g := Fin.ext (by change e.val * 18 + (h.val * 160 + d.val) / 160 = g.val; omega)
  have h2 : (⟨(h.val * 160 + d.val) % 160, by omega⟩ : Fin 160) = d := Fin.ext (by change (h.val * 160 + d.val) % 160 = d.val; omega)
  pointwise []
  simp only [h1, h2, some']

theorem storedL (w : FVec Ideal S36x1024x1 .f32)
    (e : Fin 2) (h : Fin 18) (q : Fin 1024) (g : Fin 36) (hg : g.val = e.val * 18 + h.val) :
    k0_pay2 w (ix3 h e q) = w (ix3 g q 0) := by
  unfold k0_pay2
  have h1 : (⟨e.val * 18 + h.val, by omega⟩ : Fin 36) = g := Fin.ext hg.symm
  pointwise []
  simp only [h1]

/-! ### The score, the masks and the values -/

theorem score (v0 v3 : Vec Ideal S2x18x1024x160 .fp8e4m3) (v10 v13 : Vec Ideal S2x18x1024 .f32)
    (e : Fin 2) (h : Fin 18) (g : Fin 36) (hg : g.val = e.val * 18 + h.val) (q t : Fin 1024) :
    k0_pay5 v0 v3 v10 v13 (ix3 g q t) = (∑ x, v0 (ix4 e h q x) * v3 (ix4 e h t x))
      * (v10 (ix3 e h q) * Named.named κ "sm_scale" 1034021019#32) * v13 (ix3 e h t) := by
  have h1 : (⟨g.val / 18, by omega⟩ : Fin 2) = e := Fin.ext (by change g.val / 18 = e.val; omega)
  have h2 : (⟨g.val % 18, by omega⟩ : Fin 18) = h := Fin.ext (by change g.val % 18 = h.val; omega)
  pointwise [k0_pay5]
  simp only [h1, h2]

theorem value (v6 : Vec Ideal S2x18x1024x160 .fp8e4m3) (e : Fin 2) (h : Fin 18) (g : Fin 36)
    (hg : g.val = e.val * 18 + h.val) (t : Fin 1024) (d : Fin 160) : k0_pay3 v6 (ix3 g t d) = v6 (ix4 e h t d) := by
  have h1 : (⟨g.val / 18, by omega⟩ : Fin 2) = e := Fin.ext (by change g.val / 18 = e.val; omega)
  have h2 : (⟨g.val % 18, by omega⟩ : Fin 18) = h := Fin.ext (by change g.val % 18 = h.val; omega)
  pointwise [k0_pay3]
  simp only [h1, h2]

theorem valueScale (v16 : Vec Ideal S2x18x1024 .f32) (e : Fin 2) (h : Fin 18) (g : Fin 36)
    (hg : g.val = e.val * 18 + h.val) (t : Fin 1024) : k0_pay4 v16 (ix3 g 0 t) = v16 (ix3 e h t) := by
  have h1 : (⟨g.val / 18, by omega⟩ : Fin 2) = e := Fin.ext (by change g.val / 18 = e.val; omega)
  have h2 : (⟨g.val % 18, by omega⟩ : Fin 18) = h := Fin.ext (by change g.val % 18 = h.val; omega)
  pointwise [k0_pay4]
  simp only [h1, h2]

theorem rem1 : ∀ q : Fin 1024, IntOp.remsi .vector (BitVec.ofNat 32 q.val) 1#32 = BitVec.ofNat 32 (q.val % 1) := by
  decide +kernel
theorem rem4 : ∀ q : Fin 1024, IntOp.remsi .vector (BitVec.ofNat 32 q.val) 4#32 = BitVec.ofNat 32 (q.val % 4) := by
  decide +kernel
theorem rem16 : ∀ q : Fin 1024, IntOp.remsi .vector (BitVec.ofNat 32 q.val) 16#32 = BitVec.ofNat 32 (q.val % 16) := by
  decide +kernel
theorem rem18 : ∀ g : Fin 36, IntOp.remsi .vector (BitVec.ofNat 32 g.val) 18#32 = BitVec.ofNat 32 (g.val % 18) := by
  decide +kernel
theorem div256 : ∀ q : Fin 1024, IntOp.divsi .vector (BitVec.ofNat 32 q.val) 256#32 = BitVec.ofNat 32 (q.val / 256) := by
  decide +kernel
theorem div768 : ∀ q : Fin 1024, IntOp.divsi .vector (BitVec.ofNat 32 q.val) 768#32 = BitVec.ofNat 32 (q.val / 768) := by
  decide +kernel
theorem div1024 : ∀ q : Fin 1024, IntOp.divsi .vector (BitVec.ofNat 32 q.val) 1024#32 = BitVec.ofNat 32 (q.val / 1024) := by
  decide +kernel

theorem eq_word (x y : ℕ) (hx : x < 1024) (hy : y < 1024) :
    IntOp.cmpi .eq (BitVec.ofNat 32 x) (BitVec.ofNat 32 y) = BitVec.ofBool (decide (x = y)) := by
  show BitVec.ofBool (BitVec.ofNat 32 x == BitVec.ofNat 32 y) = _
  congr 1
  rw [Bool.eq_iff_iff]
  simp only [beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact this
  · rintro rfl; rfl

theorem le_word (x y : ℕ) (hx : x < 1024) (hy : y < 1024) :
    IntOp.cmpi .sle (BitVec.ofNat 32 x) (BitVec.ofNat 32 y) = BitVec.ofBool (decide (x ≤ y)) :=
  WordCmp.cmpi_sle_ofNat (by omega) (by omega)

theorem and_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem rem_head : ∀ h : Fin 18, IntOp.remsi .vector (BitVec.ofNat 32 h.val) 1#32 = BitVec.ofNat 32 (h.val % 1) ∧
    IntOp.remsi .vector (BitVec.ofNat 32 h.val) 4#32 = BitVec.ofNat 32 (h.val % 4) ∧
    IntOp.remsi .vector (BitVec.ofNat 32 h.val) 16#32 = BitVec.ofNat 32 (h.val % 16) := by decide +kernel

theorem says0 (h1 h2) (g : Fin 36) (q : Fin 1024) :
    Says (k0_pay9 (iota .tc S36x1024x1024 32 [1] h1) (iota .tc S36x1024x1024 32 [2] h2) k0_pay7 k0_pay8) g q
      fun t => Pat 256 1 (g.val % 18) q.val t.val := by
  intro t
  pointwise [k0_pay9, k0_pay8, k0_pay7, k0_pay6]
  have e := (rem_head ⟨g.val % 18, Nat.mod_lt _ (by omega)⟩).1
  dsimp only at e
  rw [rem1, rem1, rem18, e, div256, div256, eq_word _ _ (by omega) (by omega), eq_word _ _ (by omega) (by omega),
    eq_word _ _ (by omega) (by omega), le_word _ _ t.isLt q.isLt, and_ofBool, and_ofBool, and_ofBool]
  congr 1
  exact decide_eq_decide.mpr (by unfold Pat; rw [and_assoc])

theorem says1 (h1 h2) (g : Fin 36) (q : Fin 1024) :
    Says (k0_pay10 k0_pay6 (iota .tc S36x1024x1024 32 [1] h1) (iota .tc S36x1024x1024 32 [2] h2)) g q
      fun t => Pat 768 4 (g.val % 18) q.val t.val := by
  intro t
  pointwise [k0_pay10, k0_pay6]
  have e := (rem_head ⟨g.val % 18, Nat.mod_lt _ (by omega)⟩).2.1
  dsimp only at e
  rw [rem4, rem4, rem18, e, div768, div768, eq_word _ _ (by omega) (by omega), eq_word _ _ (by omega) (by omega),
    eq_word _ _ (by omega) (by omega), le_word _ _ t.isLt q.isLt, and_ofBool, and_ofBool, and_ofBool]
  congr 1
  exact decide_eq_decide.mpr (by unfold Pat; rw [and_assoc])

theorem says2 (h1 h2) (g : Fin 36) (q : Fin 1024) :
    Says (k0_pay13 (k0_pay11 k0_pay6 (iota .tc S36x1024x1024 32 [1] h1) (iota .tc S36x1024x1024 32 [2] h2))
      (k0_pay12 (iota .tc S36x1024x1024 32 [1] h1) (iota .tc S36x1024x1024 32 [2] h2))) g q
      fun t => Pat 1024 16 (g.val % 18) q.val t.val := by
  intro t
  pointwise [k0_pay13, k0_pay12, k0_pay11, k0_pay6]
  have e := (rem_head ⟨g.val % 18, Nat.mod_lt _ (by omega)⟩).2.2
  dsimp only at e
  rw [rem16, rem16, rem18, e, div1024, div1024, eq_word _ _ (by omega) (by omega), eq_word _ _ (by omega) (by omega),
    eq_word _ _ (by omega) (by omega), le_word _ _ t.isLt q.isLt, and_ofBool, and_ofBool, and_ofBool]
  congr 1
  exact decide_eq_decide.mpr (by unfold Pat; rw [and_assoc])

/-! ### The outputs -/

theorem canon6 (w : Vec Ideal S2x2880x1024 .bf16) :
    View.canon [(⟨r0_2, w⟩ : View.Piece (Elt Ideal) S2x2880x1024 .bf16)] = w :=
  View.canon_cons_unit_lit _ _ _ (by decide)

theorem canon7 (w : Vec Ideal S18x2x1024 .f32) :
    View.canon [(⟨r0_3, w⟩ : View.Piece (Elt Ideal) S18x2x1024 .f32)] = w :=
  View.canon_cons_unit_lit _ _ _ (by decide)

variable (x0 x1 x2 : Vec Ideal S2x18x1024x160 .fp8e4m3) (x3 x4 x5 : Vec Ideal S2x18x1024 .f32)
  (e : Fin 2) (h : Fin 18) (q : Fin 1024)

/-- The scaled score of query `q` against key `t`. -/
def sR (t : Fin 1024) : EReal :=
  (∑ x : Fin 160, x0 (ix4 e h q x) * x1 (ix4 e h t x)) * (x3 (ix3 e h q) * (Named.named κ "sm_scale" 1034021019#32 : Ideal .f32)) * x4 (ix3 e h t)

theorem out7_apply : out0_7 x0 x1 x2 x3 x4 x5 (ix3 h e q)
    = Cert.Attn.refL (fun t : Fin 1024 => Pat 256 1 h.val q.val t.val) (fun t : Fin 1024 => Pat 768 4 h.val q.val t.val)
        (fun t : Fin 1024 => Pat 1024 16 h.val q.val t.val) (sR x0 x1 x3 x4 e h q) := by
  have hg : (⟨e.val * 18 + h.val, by omega⟩ : Fin 36).val = e.val * 18 + h.val := rfl
  have hh : (e.val * 18 + h.val) % 18 = h.val := by omega
  have s0 := says0 iota_S36x1024x1024_d1_w32 iota_S36x1024x1024_d2_w32 ⟨e.val * 18 + h.val, by omega⟩ q
  have s1 := says1 iota_S36x1024x1024_d1_w32 iota_S36x1024x1024_d2_w32 ⟨e.val * 18 + h.val, by omega⟩ q
  have s2 := says2 iota_S36x1024x1024_d1_w32 iota_S36x1024x1024_d2_w32 ⟨e.val * 18 + h.val, by omega⟩ q
  simp only [hh] at s0 s1 s2
  have es : (fun t => k0_pay5 x0 x1 x3 x4 (ix3 ⟨e.val * 18 + h.val, by omega⟩ q t)) = sR x0 x1 x3 x4 e h q :=
    funext fun t => score x0 x1 x3 x4 e h _ hg q t
  have l0 (x : Vec Ideal S2x18x1024x160 .fp8e4m3) : View.ld x r0_0 = x := View.ld_unit_lit _ _ (by decide)
  have l1 (x : Vec Ideal S2x18x1024 .f32) : View.ld x r0_1 = x := View.ld_unit_lit _ _ (by decide)
  unfold_out out0_7
  rw [l0, l0, l1, l1]
  refine (congrFun (canon7 _) _).trans ?_
  rw [storedL _ e h q _ hg,
    joint _ _ _ _ _ _ q _ _ _ s0 s1 s2, es]

theorem out6_apply (d : Fin 160) : out0_6 x0 x1 x2 x3 x4 x5 (ix3 e ⟨h.val * 160 + d.val, by omega⟩ q)
    = Cert.Attn.refO (fun t : Fin 1024 => Pat 256 1 h.val q.val t.val) (fun t : Fin 1024 => Pat 768 4 h.val q.val t.val)
        (fun t : Fin 1024 => Pat 1024 16 h.val q.val t.val) (sR x0 x1 x3 x4 e h q)
        (fun t => x5 (ix3 e h t)) (fun t => x2 (ix4 e h t d)) := by
  have hg : (⟨e.val * 18 + h.val, by omega⟩ : Fin 36).val = e.val * 18 + h.val := rfl
  have hh : (e.val * 18 + h.val) % 18 = h.val := by omega
  have s0 := says0 iota_S36x1024x1024_d1_w32 iota_S36x1024x1024_d2_w32 ⟨e.val * 18 + h.val, by omega⟩ q
  have s1 := says1 iota_S36x1024x1024_d1_w32 iota_S36x1024x1024_d2_w32 ⟨e.val * 18 + h.val, by omega⟩ q
  have s2 := says2 iota_S36x1024x1024_d1_w32 iota_S36x1024x1024_d2_w32 ⟨e.val * 18 + h.val, by omega⟩ q
  simp only [hh] at s0 s1 s2
  have es : (fun t => k0_pay5 x0 x1 x3 x4 (ix3 ⟨e.val * 18 + h.val, by omega⟩ q t)) = sR x0 x1 x3 x4 e h q :=
    funext fun t => score x0 x1 x3 x4 e h _ hg q t
  have ev := fun t => value x2 e h _ hg t d
  have ew := fun t => valueScale x5 e h _ hg t
  have l0 (x : Vec Ideal S2x18x1024x160 .fp8e4m3) : View.ld x r0_0 = x := View.ld_unit_lit _ _ (by decide)
  have l1 (x : Vec Ideal S2x18x1024 .f32) : View.ld x r0_1 = x := View.ld_unit_lit _ _ (by decide)
  unfold_out out0_6
  rw [l0, l0, l1, l1, l0, l1]
  refine (congrFun (canon6 _) _).trans ?_
  rw [stored _ _ _ _ _ _ _ _ _ _ _ _ _ _ _ _ e h d q _ hg _ (joint _ _ _ _ _ _ q _ _ _ s0 s1 s2)]
  simp only [ex0 _ _ _ _ _ _ q _ _ _ s0 s1 s2, ex1 _ _ _ _ _ _ q _ _ _ s0 s1 s2, ex2 _ _ _ _ _ _ q _ _ _ s0 s1 s2,
    tot0 _ _ _ _ _ _ q _ _ _ s0 s1 s2, tot1 _ _ _ _ _ _ q _ _ _ s0 s1 s2, tot2 _ _ _ _ _ _ q _ _ _ s0 s1 s2,
    lse0 _ _ _ _ _ _ q _ _ _ s0 s1 s2, lse1 _ _ _ _ _ _ q _ _ _ s0 s1 s2, lse2 _ _ _ _ _ _ q _ _ _ s0 s1 s2,
    ev, ew, mx, es]
  exact congrArg₂ (· + ·) (congrArg₂ (· + ·) (part_eq _ _ (fun t => x5 (ix3 e h t)) (fun t => x2 (ix4 e h t d)) _ _)
    (part_eq _ _ (fun t => x5 (ix3 e h t)) (fun t => x2 (ix4 e h t d)) _ _))
    (part_eq _ _ (fun t => x5 (ix3 e h t)) (fun t => x2 (ix4 e h t d)) _ _)

end Cert.ReferenceIdeal.Hand

end
-- ==== Proof.RefArrays.lean ====
/- What the reference's result arrays hold after a run, as functions of its arguments. -/
module

public import Idealize.ShloMosaic.Lib.StableHlo.Run
public import proofs.«01_k».proof.Proof.Ref
public import proofs.«01_k».proof.Proof.Left

@[expose] public section

noncomputable section

namespace Cert.ReferenceIdeal.Hand

open Cert.ReferenceIdeal Cert.ReferenceIdeal.Gen
open Idealize.ShloMosaic Idealize.ShloMosaic.TcCoe Idealize.SL.Sem
open Cert.KernelIdeal.Tile (codesOf scalesOf wantO wantL)

variable (m : (ℓ : Loc nD τ sig) → Buf (Elt Ideal) ℓ) (c : Dev nD)

theorem origin : ∀ (t : Fin cfg0.N) (a : Fin 4), win0_0.index t a = 0 ∧ win0_1.index t a = 0 ∧ win0_2.index t a = 0 := by decide +kernel
theorem origin3 : ∀ (t : Fin cfg0.N) (a : Fin 3), win0_3.index t a = 0 ∧ win0_4.index t a = 0 ∧ win0_5.index t a = 0
    ∧ win0_6.index t a = 0 ∧ win0_7.index t a = 0 := by decide +kernel

theorem blk0 (t : Fin cfg0.N) (e : Fin 2) (h : Fin 18) (q : Fin 1024) (x : Fin 160) :
    (iblk m c 0 t : S2x18x1024x160.Idx → EReal) (ix4 e h q x) = codesOf (m ((c : Thread nD τ).loc main_arg0)) e h x q := by
  have e1 : (iblk m c 0 t : S2x18x1024x160.Idx → EReal) = (V m c main_v0 : S2x18x1024x160.Idx → EReal) := by
    funext j
    refine congrArg (V m c main_v0 : S2x18x1024x160.Idx → EReal) (funext fun a => Fin.ext ?_)
    exact Pipeline.Window.rect_emb_val_of_index_zero win0_0 t a (origin t a).1 j
  rw [e1, show V m c main_v0 = transpose S2x18x1024x160 [0, 2, 1, 3] (m ((c : Thread nD τ).loc main_arg0)) transposes_S2x1024x18x160_S2x18x1024x160_0_2_1_3 by
    unfold V; after_results]
  pointwise []
  rfl
theorem blk1 (t : Fin cfg0.N) (e : Fin 2) (h : Fin 18) (q : Fin 1024) (x : Fin 160) :
    (iblk m c 1 t : S2x18x1024x160.Idx → EReal) (ix4 e h q x) = codesOf (m ((c : Thread nD τ).loc main_arg1)) e h x q := by
  have e1 : (iblk m c 1 t : S2x18x1024x160.Idx → EReal) = (V m c main_v1 : S2x18x1024x160.Idx → EReal) := by
    funext j
    refine congrArg (V m c main_v1 : S2x18x1024x160.Idx → EReal) (funext fun a => Fin.ext ?_)
    exact Pipeline.Window.rect_emb_val_of_index_zero win0_1 t a (origin t a).2.1 j
  rw [e1, show V m c main_v1 = transpose S2x18x1024x160 [0, 2, 1, 3] (m ((c : Thread nD τ).loc main_arg1)) transposes_S2x1024x18x160_S2x18x1024x160_0_2_1_3 by
    unfold V; after_results]
  pointwise []
  rfl
theorem blk2 (t : Fin cfg0.N) (e : Fin 2) (h : Fin 18) (q : Fin 1024) (x : Fin 160) :
    (iblk m c 2 t : S2x18x1024x160.Idx → EReal) (ix4 e h q x) = codesOf (m ((c : Thread nD τ).loc main_arg2)) e h x q := by
  have e1 : (iblk m c 2 t : S2x18x1024x160.Idx → EReal) = (V m c main_v2 : S2x18x1024x160.Idx → EReal) := by
    funext j
    refine congrArg (V m c main_v2 : S2x18x1024x160.Idx → EReal) (funext fun a => Fin.ext ?_)
    exact Pipeline.Window.rect_emb_val_of_index_zero win0_2 t a (origin t a).2.2 j
  rw [e1, show V m c main_v2 = transpose S2x18x1024x160 [0, 2, 1, 3] (m ((c : Thread nD τ).loc main_arg2)) transposes_S2x1024x18x160_S2x18x1024x160_0_2_1_3 by
    unfold V; after_results]
  pointwise []
  rfl
theorem blk3 (t : Fin cfg0.N) (e : Fin 2) (h : Fin 18) (q : Fin 1024) :
    (iblk m c 3 t : S2x18x1024.Idx → EReal) (ix3 e h q) = scalesOf (m ((c : Thread nD τ).loc main_arg3)) e h q := by
  have e1 : (iblk m c 3 t : S2x18x1024.Idx → EReal) = (V m c main_v3 : S2x18x1024.Idx → EReal) := by
    funext j
    refine congrArg (V m c main_v3 : S2x18x1024.Idx → EReal) (funext fun a => Fin.ext ?_)
    exact Pipeline.Window.rect_emb_val_of_index_zero win0_3 t a (origin3 t a).1 j
  rw [e1, show V m c main_v3 = transpose S2x18x1024 [0, 2, 1] (m ((c : Thread nD τ).loc main_arg3)) transposes_S2x1024x18_S2x18x1024_0_2_1 by
    unfold V; after_results]
  pointwise []
  rfl
theorem blk4 (t : Fin cfg0.N) (e : Fin 2) (h : Fin 18) (q : Fin 1024) :
    (iblk m c 4 t : S2x18x1024.Idx → EReal) (ix3 e h q) = scalesOf (m ((c : Thread nD τ).loc main_arg4)) e h q := by
  have e1 : (iblk m c 4 t : S2x18x1024.Idx → EReal) = (V m c main_v4 : S2x18x1024.Idx → EReal) := by
    funext j
    refine congrArg (V m c main_v4 : S2x18x1024.Idx → EReal) (funext fun a => Fin.ext ?_)
    exact Pipeline.Window.rect_emb_val_of_index_zero win0_4 t a (origin3 t a).2.1 j
  rw [e1, show V m c main_v4 = transpose S2x18x1024 [0, 2, 1] (m ((c : Thread nD τ).loc main_arg4)) transposes_S2x1024x18_S2x18x1024_0_2_1 by
    unfold V; after_results]
  pointwise []
  rfl
theorem blk5 (t : Fin cfg0.N) (e : Fin 2) (h : Fin 18) (q : Fin 1024) :
    (iblk m c 5 t : S2x18x1024.Idx → EReal) (ix3 e h q) = scalesOf (m ((c : Thread nD τ).loc main_arg5)) e h q := by
  have e1 : (iblk m c 5 t : S2x18x1024.Idx → EReal) = (V m c main_v5 : S2x18x1024.Idx → EReal) := by
    funext j
    refine congrArg (V m c main_v5 : S2x18x1024.Idx → EReal) (funext fun a => Fin.ext ?_)
    exact Pipeline.Window.rect_emb_val_of_index_zero win0_5 t a (origin3 t a).2.2.1 j
  rw [e1, show V m c main_v5 = transpose S2x18x1024 [0, 2, 1] (m ((c : Thread nD τ).loc main_arg5)) transposes_S2x1024x18_S2x18x1024_0_2_1 by
    unfold V; after_results]
  pointwise []
  rfl

/-- The named scale is the square root's inverse. -/
theorem scale_eq : (Named.named κ "sm_scale" 1034021019#32 : Ideal .f32) = (((Real.sqrt 160)⁻¹ : ℝ) : EReal) := rfl

theorem sR_eq (t : Fin cfg0.N) (e : Fin 2) (h : Fin 18) (q : Fin 1024) :
    sR (iblk m c 0 t) (iblk m c 1 t) (iblk m c 3 t) (iblk m c 4 t) e h q
      = Cert.KernelIdeal.Tile.score (codesOf (m ((c : Thread nD τ).loc main_arg0)) e h) (codesOf (m ((c : Thread nD τ).loc main_arg1)) e h)
          (scalesOf (m ((c : Thread nD τ).loc main_arg3)) e h) (scalesOf (m ((c : Thread nD τ).loc main_arg4)) e h) q := by
  funext k
  unfold sR Cert.KernelIdeal.Tile.score
  simp only [blk0, blk1, blk3, blk4, scale_eq]

/-- The one grid point. -/
def pt0 : Fin cfg0.N := ⟨0, by decide +kernel⟩

theorem final6 (e : Fin 2) (h : Fin 18) (d : Fin 160) (q : Fin 1024) :
    ((dats m 0 c).arrAt 6 cfg0.N : S2x2880x1024.Idx → EReal) (ix3 e ⟨h.val * 160 + d.val, by omega⟩ q)
      = wantO (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) e h d q := by
  refine (Pipeline.Dat.arrAt_emb_eq_after_last (dats m 0 c) 6 pt0 (by decide +kernel) (ix3 e ⟨h.val * 160 + d.val, by omega⟩ q)).trans ?_
  refine (congrFun (after0_6 m c pt0) (ix3 e ⟨h.val * 160 + d.val, by omega⟩ q)).trans ?_
  rw [out6_apply, sR_eq]
  simp only [blk2, blk5]
  rfl

theorem final7 (e : Fin 2) (h : Fin 18) (q : Fin 1024) :
    ((dats m 0 c).arrAt 7 cfg0.N : S18x2x1024.Idx → EReal) (ix3 h e q)
      = wantL (m ((c : Thread nD τ).loc main_arg0)) (m ((c : Thread nD τ).loc main_arg1))
          (m ((c : Thread nD τ).loc main_arg3)) (m ((c : Thread nD τ).loc main_arg4)) e h q := by
  refine (Pipeline.Dat.arrAt_emb_eq_after_last (dats m 0 c) 7 pt0 (by decide +kernel) (ix3 h e q)).trans ?_
  refine (congrFun (after0_7 m c pt0) (ix3 h e q)).trans ?_
  rw [out7_apply, sR_eq]
  rfl

end Cert.ReferenceIdeal.Hand

end
-- ==== Proof.Value.lean ====
/- The kernel and the reference agree. -/
module

public import proofs.«01_k».proof.Defs
public import proofs.«01_k».proof.Proof.Arrays
public import proofs.«01_k».proof.Proof.RefArrays

@[expose] public section

noncomputable section

namespace Cert.Proof

open Idealize.ShloMosaic Idealize.ShloMosaic.TcCoe Idealize.SL.Sem
open Cert.KernelIdeal.Tile (wantO wantL)

/-- The two results as whole arrays. -/
def allO (a0 a1 a2 : Cert.KernelIdeal.S2x1024x18x160.Idx → EReal) (a3 a4 a5 : Cert.KernelIdeal.S2x1024x18.Idx → EReal)
    (i : (⟨3, ![2, 2880, 1024]⟩ : Shape).Idx) : EReal :=
  wantO a0 a1 a2 a3 a4 a5 (i 0) ⟨(i 1).val / 160, by have : (i 1).val < 2880 := (i 1).isLt; omega⟩ ⟨(i 1).val % 160, by omega⟩ (i 2)
def allL (a0 a1 : Cert.KernelIdeal.S2x1024x18x160.Idx → EReal) (a3 a4 : Cert.KernelIdeal.S2x1024x18.Idx → EReal)
    (i : (⟨3, ![18, 2, 1024]⟩ : Shape).Idx) : EReal := wantL a0 a1 a3 a4 (i 1) (i 0) (i 2)

/-- A fact of every element, from the fact of every batch element, head, feature and query. -/
theorem each {P : (⟨3, ![2, 2880, 1024]⟩ : Shape).Idx → Prop}
    (h : ∀ (b : Fin 2) (H : Fin 18) (d : Fin 160) (q : Fin 1024), P (ix3 b ⟨H.val * 160 + d.val, by omega⟩ q))
    (i : (⟨3, ![2, 2880, 1024]⟩ : Shape).Idx) : P i := by
  have h1 : (i 1).val < 2880 := (i 1).isLt
  have e := h (i 0) ⟨(i 1).val / 160, by omega⟩ ⟨(i 1).val % 160, by omega⟩ (i 2)
  have ei : (ix3 (i 0) ⟨(i 1).val / 160 * 160 + (i 1).val % 160, by omega⟩ (i 2) : (⟨3, ![2, 2880, 1024]⟩ : Shape).Idx) = i := by
    funext a
    match a with
    | 0 => rfl
    | 1 => exact Fin.ext (by change (i 1).val / 160 * 160 + (i 1).val % 160 = (i 1).val; omega)
    | 2 => rfl
  exact ei ▸ e
theorem each' {P : (⟨3, ![18, 2, 1024]⟩ : Shape).Idx → Prop}
    (h : ∀ (H : Fin 18) (b : Fin 2) (q : Fin 1024), P (ix3 H b q)) (i : (⟨3, ![18, 2, 1024]⟩ : Shape).Idx) : P i := by
  have ei : (ix3 (i 0) (i 1) (i 2) : (⟨3, ![18, 2, 1024]⟩ : Shape).Idx) = i := by
    funext a
    match a with
    | 0 => rfl
    | 1 => rfl
    | 2 => rfl
  exact ei ▸ h (i 0) (i 1) (i 2)

theorem allO_ix (a0 a1 a2 a3 a4 a5) (b : Fin 2) (H : Fin 18) (d : Fin 160) (q : Fin 1024) :
    allO a0 a1 a2 a3 a4 a5 (ix3 b ⟨H.val * 160 + d.val, by omega⟩ q) = wantO a0 a1 a2 a3 a4 a5 b H d q := by
  unfold allO
  have e1 : (⟨(H.val * 160 + d.val) / 160, by omega⟩ : Fin 18) = H := Fin.ext (by change (H.val * 160 + d.val) / 160 = H.val; omega)
  have e2 : (⟨(H.val * 160 + d.val) % 160, by omega⟩ : Fin 160) = d := Fin.ext (by change (H.val * 160 + d.val) % 160 = d.val; omega)
  exact congrArg₂ (fun x y => wantO a0 a1 a2 a3 a4 a5 b x y q) e1 e2

/-- Both programs leave the joint softmax of the three patterns. -/
theorem algebraic : Cert.algebraic_KernelIdeal_ReferenceIdeal := by
  intro m g m' g' _ hargs
  refine ⟨fun c => allO (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => allL (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run _ _ _).mono (fun r h c => ?_) (Cert.KernelIdeal.Tile.run_values m g)
    obtain ⟨h0, h1, hk⟩ := h c
    refine ⟨funext (each fun b H d q => ?_), funext (each' fun H b q => ?_), hk⟩
    · exact (h0 b H d q).trans (allO_ix _ _ _ _ _ _ b H d q).symm
    · exact h1 b H q
  · refine (θ_run _ _ _).mono (fun r h c => ?_) (Cert.ReferenceIdeal.Value.run_blocks m' g')
    obtain ⟨h0, h1, hk⟩ := h c
    obtain ⟨e0, e1, e2, e3, e4, e5⟩ := hargs c
    refine ⟨funext (each fun b H d q => ?_), funext (each' fun H b q => ?_), hk⟩
    · refine (congrFun h0 _).trans ((Cert.ReferenceIdeal.Hand.final6 m' c b H d q).trans ?_)
      rw [e0, e1, e2, e3, e4, e5]
      exact (allO_ix _ _ _ _ _ _ b H d q).symm
    · refine (congrFun h1 _).trans ((Cert.ReferenceIdeal.Hand.final7 m' c b H q).trans ?_)
      rw [e0, e1, e3, e4]
      rfl

end Cert.Proof

end
-- ==== Proof.lean ====
module

public import proofs.«01_k».proof.Defs
public import proofs.«01_k».proof.Proof.BitsFrame
public import proofs.«01_k».proof.Proof.IdealFrame
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The three constants that the kernel names are the table's reals. -/
theorem preserves : Cert.preserves_Kernel_KernelIdeal :=
  ⟨IdealRules.named_const.statement Cert.KernelIdeal.κ "qscale" .f32 0x3DE995B3#32 (((Real.sqrt 160)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  preserves, algebraic⟩

end Cert.Proof

end
